-- ==== Defs.lean ====
def Pre_Credited (m : (ℓ : Loc Cert.Credited.nD Cert.Credited.τ Cert.Credited.sig) → Buf (Elt Bits) ℓ) : Prop :=
  True

def Pre_CreditedIdeal (m : (ℓ : Loc Cert.CreditedIdeal.nD Cert.CreditedIdeal.τ Cert.CreditedIdeal.sig) → Buf (Elt Ideal) ℓ) : Prop :=
  True

def Pre_ProductIdeal (m : (ℓ : Loc Cert.ProductIdeal.nD Cert.ProductIdeal.τ Cert.ProductIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Credited [hCredited : Cert.Credited.Facts] : Prop :=
  ∀ (m : (ℓ : Loc Cert.Credited.nD Cert.Credited.τ Cert.Credited.sig) → Buf (Elt Bits) ℓ) (g : Dev Cert.Credited.nD → PrngReg), Pre_Credited m →
    θ_run (Cert.Credited.defs (F := Bits)) (onTc (τ := Cert.Credited.τ) (Cert.Credited.main (F := Bits))) ⟨m, fun _ => 0, g⟩ (fun r => (∀ c : Dev Cert.Credited.nD,
      r.2.mem ((c.tc : Thread Cert.Credited.nD Cert.Credited.τ).loc Cert.Credited.main_arg0) = m ((c.tc : Thread Cert.Credited.nD Cert.Credited.τ).loc Cert.Credited.main_arg0)
      ∧ r.2.mem ((c.tc : Thread Cert.Credited.nD Cert.Credited.τ).loc Cert.Credited.main_arg1) = m ((c.tc : Thread Cert.Credited.nD Cert.Credited.τ).loc Cert.Credited.main_arg1))
      ∧ r.2.sem = fun _ => 0)

def quiescent_CreditedIdeal [hCreditedIdeal : Cert.CreditedIdeal.Facts] : Prop :=
  ∀ (m : (ℓ : Loc Cert.CreditedIdeal.nD Cert.CreditedIdeal.τ Cert.CreditedIdeal.sig) → Buf (Elt Ideal) ℓ) (g : Dev Cert.CreditedIdeal.nD → PrngReg), Pre_CreditedIdeal m →
    θ_run (Cert.CreditedIdeal.defs (F := Ideal)) (onTc (τ := Cert.CreditedIdeal.τ) (Cert.CreditedIdeal.main (F := Ideal))) ⟨m, fun _ => 0, g⟩ (fun r => (∀ c : Dev Cert.CreditedIdeal.nD,
      r.2.mem ((c.tc : Thread Cert.CreditedIdeal.nD Cert.CreditedIdeal.τ).loc Cert.CreditedIdeal.main_arg0) = m ((c.tc : Thread Cert.CreditedIdeal.nD Cert.CreditedIdeal.τ).loc Cert.CreditedIdeal.main_arg0)
      ∧ r.2.mem ((c.tc : Thread Cert.CreditedIdeal.nD Cert.CreditedIdeal.τ).loc Cert.CreditedIdeal.main_arg1) = m ((c.tc : Thread Cert.CreditedIdeal.nD Cert.CreditedIdeal.τ).loc Cert.CreditedIdeal.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Credited_CreditedIdeal : Prop :=
  True

def algebraic_CreditedIdeal_ProductIdeal [hCreditedIdeal : Cert.CreditedIdeal.Facts] [hProductIdeal : Cert.ProductIdeal.Facts] : Prop :=
  ∀ (m : (ℓ : Loc Cert.CreditedIdeal.nD Cert.CreditedIdeal.τ Cert.CreditedIdeal.sig) → Buf (Elt Ideal) ℓ) (g : Dev Cert.CreditedIdeal.nD → PrngReg)
    (m' : (ℓ : Loc Cert.ProductIdeal.nD Cert.ProductIdeal.τ Cert.ProductIdeal.sig) → Buf (Elt Ideal) ℓ) (g' : Dev Cert.ProductIdeal.nD → PrngReg), Pre_CreditedIdeal m →
    (∀ c : Dev Cert.CreditedIdeal.nD,
      m ((c.tc : Thread Cert.CreditedIdeal.nD Cert.CreditedIdeal.τ).loc Cert.CreditedIdeal.main_arg0) = Layout.block ⟨2, ![8192, 1024]⟩ ⟨2, ![8192, 8192]⟩ 1 8 c (m' (((0 : Dev Cert.ProductIdeal.nD).tc : Thread Cert.ProductIdeal.nD Cert.ProductIdeal.τ).loc Cert.ProductIdeal.main_arg0))
      ∧ m ((c.tc : Thread Cert.CreditedIdeal.nD Cert.CreditedIdeal.τ).loc Cert.CreditedIdeal.main_arg1) = Layout.block ⟨2, ![1024, 4096]⟩ ⟨2, ![8192, 4096]⟩ 0 8 c (m' (((0 : Dev Cert.ProductIdeal.nD).tc : Thread Cert.ProductIdeal.nD Cert.ProductIdeal.τ).loc Cert.ProductIdeal.main_arg1))) →
    ∃ (v0 : Buf (Elt Ideal) (((0 : Dev Cert.ProductIdeal.nD).tc : Thread Cert.ProductIdeal.nD Cert.ProductIdeal.τ).loc Cert.ProductIdeal.main_v0)),
      θ_run (Cert.CreditedIdeal.defs (F := Ideal)) (onTc (τ := Cert.CreditedIdeal.τ) (Cert.CreditedIdeal.main (F := Ideal))) ⟨m, fun _ => 0, g⟩ (fun r => ∀ c : Dev Cert.CreditedIdeal.nD,
          r.2.mem ((c.tc : Thread Cert.CreditedIdeal.nD Cert.CreditedIdeal.τ).loc Cert.CreditedIdeal.main_v1) = Layout.block ⟨2, ![1024, 4096]⟩ ⟨2, ![8192, 4096]⟩ 0 8 c v0
          ∧ r.2.mem ((c.tc : Thread Cert.CreditedIdeal.nD Cert.CreditedIdeal.τ).loc Cert.CreditedIdeal.main_arg0) = m ((c.tc : Thread Cert.CreditedIdeal.nD Cert.CreditedIdeal.τ).loc Cert.CreditedIdeal.main_arg0)
          ∧ r.2.mem ((c.tc : Thread Cert.CreditedIdeal.nD Cert.CreditedIdeal.τ).loc Cert.CreditedIdeal.main_arg1) = m ((c.tc : Thread Cert.CreditedIdeal.nD Cert.CreditedIdeal.τ).loc Cert.CreditedIdeal.main_arg1))
      ∧ θ_run (Cert.ProductIdeal.defs (F := Ideal)) (onTc (τ := Cert.ProductIdeal.τ) (Cert.ProductIdeal.main (F := Ideal))) ⟨m', fun _ => 0, g'⟩ (fun r =>
          r.2.mem (((0 : Dev Cert.ProductIdeal.nD).tc : Thread Cert.ProductIdeal.nD Cert.ProductIdeal.τ).loc Cert.ProductIdeal.main_v0) = v0
          ∧ r.2.mem (((0 : Dev Cert.ProductIdeal.nD).tc : Thread Cert.ProductIdeal.nD Cert.ProductIdeal.τ).loc Cert.ProductIdeal.main_arg0) = m' (((0 : Dev Cert.ProductIdeal.nD).tc : Thread Cert.ProductIdeal.nD Cert.ProductIdeal.τ).loc Cert.ProductIdeal.main_arg0)
          ∧ r.2.mem (((0 : Dev Cert.ProductIdeal.nD).tc : Thread Cert.ProductIdeal.nD Cert.ProductIdeal.τ).loc Cert.ProductIdeal.main_arg1) = m' (((0 : Dev Cert.ProductIdeal.nD).tc : Thread Cert.ProductIdeal.nD Cert.ProductIdeal.τ).loc Cert.ProductIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hCredited : Cert.Credited.Facts) (hCreditedIdeal : Cert.CreditedIdeal.Facts) (hProductIdeal : Cert.ProductIdeal.Facts) (hKernel : Cert.Kernel.Facts) (hKernelIdeal : Cert.KernelIdeal.Facts) (hReferenceIdeal : Cert.ReferenceIdeal.Facts),
    quiescent_Credited (hCredited := hCredited)
    ∧ quiescent_CreditedIdeal (hCreditedIdeal := hCreditedIdeal)
    ∧ quiescent_ProductIdeal (hProductIdeal := hProductIdeal)
    ∧ quiescent_Kernel (hKernel := hKernel)
    ∧ quiescent_KernelIdeal (hKernelIdeal := hKernelIdeal)
    ∧ quiescent_ReferenceIdeal (hReferenceIdeal := hReferenceIdeal)
    ∧ preserves_Credited_CreditedIdeal
    ∧ algebraic_CreditedIdeal_ProductIdeal (hCreditedIdeal := hCreditedIdeal) (hProductIdeal := hProductIdeal)
    ∧ preserves_Kernel_KernelIdeal
    ∧ algebraic_KernelIdeal_ReferenceIdeal (hKernelIdeal := hKernelIdeal) (hReferenceIdeal := hReferenceIdeal)
-- ==== Credited.lean ====
abbrev S8192x1024 : Shape := ⟨2, ![8192, 1024]⟩
abbrev S1024x4096 : Shape := ⟨2, ![1024, 4096]⟩
abbrev S1024x1024 : Shape := ⟨2, ![1024, 1024]⟩
abbrev S4x2x1024x1024 : Shape := ⟨4, ![4, 2, 1024, 1024]⟩
abbrev S_ : Shape := ⟨0, ![]⟩
abbrev S4 : Shape := ⟨1, ![4]⟩
abbrev S4x2 : Shape := ⟨2, ![4, 2]⟩
abbrev S1x1x1024x1024 : Shape := ⟨4, ![1, 1, 1024, 1024]⟩
abbrev S1x1 : Shape := ⟨2, ![1, 1]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .f32⟩
  | .local _ .vmem, ⟨0, _⟩ => ⟨S1024x4096, .f32⟩
  | .local _ .vmem, ⟨1, _⟩ => ⟨S1024x1024, .f32⟩
  | .local _ .vmem, ⟨2, _⟩ => ⟨S1024x1024, .f32⟩
  | .local _ .vmem, ⟨3, _⟩ => ⟨S4x2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 5 23 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.subi v2 c1_i32_10
  let c8_i32_11 : BitVec 32 := 8#32
  let v14 : BitVec 32 := Scalar.addi v13 c8_i32_11
  let c8_i32_12 : BitVec 32 := 8#32
  let v15 : BitVec 32 := Scalar.remsi v14 c8_i32_12
  let c1024_i32 : BitVec 32 := 1024#32
  let v16 : BitVec 32 := Scalar.muli v15 c1024_i32
  let c0_i32_13 : BitVec 32 := 0#32
  ![v16.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v18 : BitVec 32 := Scalar.addi v2 c1_i32_14
  let c8_i32_15 : BitVec 32 := 8#32
  let v19 : BitVec 32 := Scalar.remsi v18 c8_i32_15
  let c1024_i32_16 : BitVec 32 := 1024#32
  let v20 : BitVec 32 := Scalar.muli v19 c1024_i32_16
  let c0_i32_17 : BitVec 32 := 0#32
  ![v20.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_34 : BitVec 32 := 1#32
  let v30 : BitVec 32 := Scalar.muli v7 c1_i32_34
  let v31 : BitVec 32 := Scalar.addi c0_i32_35 v30
  v31.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_55 : BitVec 32 := 1#32
  let v47 : BitVec 32 := Scalar.muli v7 c1_i32_55
  let v48 : BitVec 32 := Scalar.addi c0_i32_56 v47
  v48.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_77 : BitVec 32 := 1#32
  let v65 : BitVec 32 := Scalar.muli v5 c1_i32_77
  let v66 : BitVec 32 := Scalar.addi c0_i32_78 v65
  v66.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_97 : BitVec 32 := 1#32
  let v82 : BitVec 32 := Scalar.muli v5 c1_i32_97
  let v83 : BitVec 32 := Scalar.addi c0_i32_98 v82
  v83.toNat
def k0_off3 (d0 : Dev nD) (c0_i32_104 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v92 : BitVec 32 := Scalar.subi v2 c2_i32_103
  let v93 : BitVec 32 := Scalar.subi v92 c0_i32_104
  let c16_i32 : BitVec 32 := 16#32
  let v94 : BitVec 32 := Scalar.addi v93 c16_i32
  let c8_i32_105 : BitVec 32 := 8#32
  let v95 : BitVec 32 := Scalar.remsi v94 c8_i32_105
  let c1024_i32_106 : BitVec 32 := 1024#32
  let v96 : BitVec 32 := Scalar.muli v95 c1024_i32_106
  let c0_i32_107 : BitVec 32 := 0#32
  ![v96.toNat, 0]
def k0_off4 (d0 : Dev nD) (c0_i32_109 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v98 : BitVec 32 := Scalar.addi v2 c2_i32_108
  let v99 : BitVec 32 := Scalar.addi v98 c0_i32_109
  let c8_i32_110 : BitVec 32 := 8#32
  let v100 : BitVec 32 := Scalar.remsi v99 c8_i32_110
  let c1024_i32_111 : BitVec 32 := 1024#32
  let v101 : BitVec 32 := Scalar.muli v100 c1024_i32_111
  let c0_i32_112 : BitVec 32 := 0#32
  ![v101.toNat, 0]
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_143 : BitVec 32 := 1#32
  let v120 : BitVec 32 := Scalar.muli v5 c1_i32_143
  let v121 : BitVec 32 := Scalar.addi c0_i32_144 v120
  v121.toNat
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_169 : BitVec 32 := 1#32
  let v134 : BitVec 32 := Scalar.muli v7 c1_i32_169
  let v135 : BitVec 32 := Scalar.addi c0_i32_170 v134
  v135.toNat
def k0_dev9 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_205 : BitVec 32 := 1#32
  let v161 : BitVec 32 := Scalar.muli v7 c1_i32_205
  let v162 : BitVec 32 := Scalar.addi c0_i32_206 v161
  v162.toNat
def k0_dev10 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_231 : BitVec 32 := 1#32
  let v175 : BitVec 32 := Scalar.muli v5 c1_i32_231
  let v176 : BitVec 32 := Scalar.addi c0_i32_232 v175
  v176.toNat
def k0_dev11 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_266 : BitVec 32 := 1#32
  let v201 : BitVec 32 := Scalar.muli v5 c1_i32_266
  let v202 : BitVec 32 := Scalar.addi c0_i32_267 v201
  v202.toNat
def k0_dev12 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_292 : BitVec 32 := 1#32
  let v215 : BitVec 32 := Scalar.muli v7 c1_i32_292
  let v216 : BitVec 32 := Scalar.addi c0_i32_293 v215
  v216.toNat
def k0_dev13 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_333 : BitVec 32 := 1#32
  let v247 : BitVec 32 := Scalar.muli v7 c1_i32_333
  let v248 : BitVec 32 := Scalar.addi c0_i32_334 v247
  v248.toNat
def k0_dev14 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_359 : BitVec 32 := 1#32
  let v261 : BitVec 32 := Scalar.muli v5 c1_i32_359
  let v262 : BitVec 32 := Scalar.addi c0_i32_360 v261
  v262.toNat
def k0_dev15 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_400 : BitVec 32 := 1#32
  let v293 : BitVec 32 := Scalar.muli v5 c1_i32_400
  let v294 : BitVec 32 := Scalar.addi c0_i32_401 v293
  v294.toNat
def k0_dev16 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_426 : BitVec 32 := 1#32
  let v307 : BitVec 32 := Scalar.muli v7 c1_i32_426
  let v308 : BitVec 32 := Scalar.addi c0_i32_427 v307
  v308.toNat
def k0_dev17 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_462 : BitVec 32 := 1#32
  let v334 : BitVec 32 := Scalar.muli v7 c1_i32_462
  let v335 : BitVec 32 := Scalar.addi c0_i32_463 v334
  v335.toNat
def k0_dev18 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_488 : BitVec 32 := 1#32
  let v348 : BitVec 32 := Scalar.muli v5 c1_i32_488
  let v349 : BitVec 32 := Scalar.addi c0_i32_489 v348
  v349.toNat
def k0_dev19 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_523 : BitVec 32 := 1#32
  let v374 : BitVec 32 := Scalar.muli v5 c1_i32_523
  let v375 : BitVec 32 := Scalar.addi c0_i32_524 v374
  v375.toNat
def k0_dev20 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_549 : BitVec 32 := 1#32
  let v388 : BitVec 32 := Scalar.muli v7 c1_i32_549
  let v389 : BitVec 32 := Scalar.addi c0_i32_550 v388
  v389.toNat
def k0_dev21 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_590 : BitVec 32 := 1#32
  let v420 : BitVec 32 := Scalar.muli v7 c1_i32_590
  let v421 : BitVec 32 := Scalar.addi c0_i32_591 v420
  v421.toNat
def k0_dev22 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_616 : BitVec 32 := 1#32
  let v434 : BitVec 32 := Scalar.muli v5 c1_i32_616
  let v435 : BitVec 32 := Scalar.addi c0_i32_617 v434
  v435.toNat
def k0_dev23 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_657 : BitVec 32 := 1#32
  let v466 : BitVec 32 := Scalar.muli v5 c1_i32_657
  let v467 : BitVec 32 := Scalar.addi c0_i32_658 v466
  v467.toNat
def k0_dev24 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_683 : BitVec 32 := 1#32
  let v480 : BitVec 32 := Scalar.muli v7 c1_i32_683
  let v481 : BitVec 32 := Scalar.addi c0_i32_684 v480
  v481.toNat
def k0_dev25 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_719 : BitVec 32 := 1#32
  let v507 : BitVec 32 := Scalar.muli v7 c1_i32_719
  let v508 : BitVec 32 := Scalar.addi c0_i32_720 v507
  v508.toNat
def k0_dev26 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_745 : BitVec 32 := 1#32
  let v521 : BitVec 32 := Scalar.muli v5 c1_i32_745
  let v522 : BitVec 32 := Scalar.addi c0_i32_746 v521
  v522.toNat
def k0_dev27 (d0 : Dev nD) : Nat :=
  let c0_i32_781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_780 : BitVec 32 := 1#32
  let v547 : BitVec 32 := Scalar.muli v5 c1_i32_780
  let v548 : BitVec 32 := Scalar.addi c0_i32_781 v547
  v548.toNat
def k0_dev28 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_806 : BitVec 32 := 1#32
  let v561 : BitVec 32 := Scalar.muli v7 c1_i32_806
  let v562 : BitVec 32 := Scalar.addi c0_i32_807 v561
  v562.toNat
def k0_dev29 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_847 : BitVec 32 := 1#32
  let v593 : BitVec 32 := Scalar.muli v7 c1_i32_847
  let v594 : BitVec 32 := Scalar.addi c0_i32_848 v593
  v594.toNat
def k0_dev30 (d0 : Dev nD) : Nat :=
  let c0_i32_874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_873 : BitVec 32 := 1#32
  let v607 : BitVec 32 := Scalar.muli v5 c1_i32_873
  let v608 : BitVec 32 := Scalar.addi c0_i32_874 v607
  v608.toNat
def k0_dev31 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_914 : BitVec 32 := 1#32
  let v639 : BitVec 32 := Scalar.muli v5 c1_i32_914
  let v640 : BitVec 32 := Scalar.addi c0_i32_915 v639
  v640.toNat
def k0_dev32 (d0 : Dev nD) : Nat :=
  let c0_i32_941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_940 : BitVec 32 := 1#32
  let v653 : BitVec 32 := Scalar.muli v7 c1_i32_940
  let v654 : BitVec 32 := Scalar.addi c0_i32_941 v653
  v654.toNat
def k0_dev33 (d0 : Dev nD) : Nat :=
  let c0_i32_977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_976 : BitVec 32 := 1#32
  let v680 : BitVec 32 := Scalar.muli v7 c1_i32_976
  let v681 : BitVec 32 := Scalar.addi c0_i32_977 v680
  v681.toNat
def k0_dev34 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1002 : BitVec 32 := 1#32
  let v694 : BitVec 32 := Scalar.muli v5 c1_i32_1002
  let v695 : BitVec 32 := Scalar.addi c0_i32_1003 v694
  v695.toNat
def k0_dev35 (d0 : Dev nD) : Nat :=
  let c0_i32_1038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1037 : BitVec 32 := 1#32
  let v720 : BitVec 32 := Scalar.muli v5 c1_i32_1037
  let v721 : BitVec 32 := Scalar.addi c0_i32_1038 v720
  v721.toNat
def k0_dev36 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1063 : BitVec 32 := 1#32
  let v734 : BitVec 32 := Scalar.muli v7 c1_i32_1063
  let v735 : BitVec 32 := Scalar.addi c0_i32_1064 v734
  v735.toNat
def k0_dev37 (d0 : Dev nD) : Nat :=
  let c0_i32_1104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1103 : BitVec 32 := 1#32
  let v766 : BitVec 32 := Scalar.muli v7 c1_i32_1103
  let v767 : BitVec 32 := Scalar.addi c0_i32_1104 v766
  v767.toNat
def k0_dev38 (d0 : Dev nD) : Nat :=
  let c0_i32_1130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1129 : BitVec 32 := 1#32
  let v780 : BitVec 32 := Scalar.muli v5 c1_i32_1129
  let v781 : BitVec 32 := Scalar.addi c0_i32_1130 v780
  v781.toNat
def k0_dev39 (d0 : Dev nD) : Nat :=
  let c0_i32_1171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1170 : BitVec 32 := 1#32
  let v812 : BitVec 32 := Scalar.muli v5 c1_i32_1170
  let v813 : BitVec 32 := Scalar.addi c0_i32_1171 v812
  v813.toNat
def k0_dev40 (d0 : Dev nD) : Nat :=
  let c0_i32_1197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1196 : BitVec 32 := 1#32
  let v826 : BitVec 32 := Scalar.muli v7 c1_i32_1196
  let v827 : BitVec 32 := Scalar.addi c0_i32_1197 v826
  v827.toNat
def k0_dev41 (d0 : Dev nD) : Nat :=
  let c0_i32_1233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1232 : BitVec 32 := 1#32
  let v853 : BitVec 32 := Scalar.muli v7 c1_i32_1232
  let v854 : BitVec 32 := Scalar.addi c0_i32_1233 v853
  v854.toNat
def k0_dev42 (d0 : Dev nD) : Nat :=
  let c0_i32_1259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1258 : BitVec 32 := 1#32
  let v867 : BitVec 32 := Scalar.muli v5 c1_i32_1258
  let v868 : BitVec 32 := Scalar.addi c0_i32_1259 v867
  v868.toNat
def k0_dev43 (d0 : Dev nD) : Nat :=
  let c0_i32_1294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1293 : BitVec 32 := 1#32
  let v893 : BitVec 32 := Scalar.muli v5 c1_i32_1293
  let v894 : BitVec 32 := Scalar.addi c0_i32_1294 v893
  v894.toNat
def k0_dev44 (d0 : Dev nD) : Nat :=
  let c0_i32_1320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1319 : BitVec 32 := 1#32
  let v907 : BitVec 32 := Scalar.muli v7 c1_i32_1319
  let v908 : BitVec 32 := Scalar.addi c0_i32_1320 v907
  v908.toNat
def k0_dev45 (d0 : Dev nD) : Nat :=
  let c0_i32_1360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1359 : BitVec 32 := 1#32
  let v939 : BitVec 32 := Scalar.muli v7 c1_i32_1359
  let v940 : BitVec 32 := Scalar.addi c0_i32_1360 v939
  v940.toNat
def k0_dev46 (d0 : Dev nD) : Nat :=
  let c0_i32_1386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1385 : BitVec 32 := 1#32
  let v953 : BitVec 32 := Scalar.muli v5 c1_i32_1385
  let v954 : BitVec 32 := Scalar.addi c0_i32_1386 v953
  v954.toNat
def k0_dev47 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1426 : BitVec 32 := 1#32
  let v985 : BitVec 32 := Scalar.muli v5 c1_i32_1426
  let v986 : BitVec 32 := Scalar.addi c0_i32_1427 v985
  v986.toNat
def k0_dev48 (d0 : Dev nD) : Nat :=
  let c0_i32_1453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1452 : BitVec 32 := 1#32
  let v999 : BitVec 32 := Scalar.muli v7 c1_i32_1452
  let v1000 : BitVec 32 := Scalar.addi c0_i32_1453 v999
  v1000.toNat
def k0_dev49 (d0 : Dev nD) : Nat :=
  let c0_i32_1489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1488 : BitVec 32 := 1#32
  let v1026 : BitVec 32 := Scalar.muli v7 c1_i32_1488
  let v1027 : BitVec 32 := Scalar.addi c0_i32_1489 v1026
  v1027.toNat
def k0_dev50 (d0 : Dev nD) : Nat :=
  let c0_i32_1515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1514 : BitVec 32 := 1#32
  let v1040 : BitVec 32 := Scalar.muli v5 c1_i32_1514
  let v1041 : BitVec 32 := Scalar.addi c0_i32_1515 v1040
  v1041.toNat
def k0_dev51 (d0 : Dev nD) : Nat :=
  let c0_i32_1550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1549 : BitVec 32 := 1#32
  let v1066 : BitVec 32 := Scalar.muli v5 c1_i32_1549
  let v1067 : BitVec 32 := Scalar.addi c0_i32_1550 v1066
  v1067.toNat
def k0_dev52 (d0 : Dev nD) : Nat :=
  let c0_i32_1576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1575 : BitVec 32 := 1#32
  let v1080 : BitVec 32 := Scalar.muli v7 c1_i32_1575
  let v1081 : BitVec 32 := Scalar.addi c0_i32_1576 v1080
  v1081.toNat
def k0_dev53 (d0 : Dev nD) : Nat :=
  let c0_i32_1616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1615 : BitVec 32 := 1#32
  let v1112 : BitVec 32 := Scalar.muli v7 c1_i32_1615
  let v1113 : BitVec 32 := Scalar.addi c0_i32_1616 v1112
  v1113.toNat
def k0_dev54 (d0 : Dev nD) : Nat :=
  let c0_i32_1642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1641 : BitVec 32 := 1#32
  let v1126 : BitVec 32 := Scalar.muli v5 c1_i32_1641
  let v1127 : BitVec 32 := Scalar.addi c0_i32_1642 v1126
  v1127.toNat
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ProductIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel.lean ====
abbrev S8192x1024 : Shape := ⟨2, ![8192, 1024]⟩
abbrev S1024x4096 : Shape := ⟨2, ![1024, 4096]⟩
abbrev S1024x1024 : Shape := ⟨2, ![1024, 1024]⟩
abbrev S4x2x1024x1024 : Shape := ⟨4, ![4, 2, 1024, 1024]⟩
abbrev S_ : Shape := ⟨0, ![]⟩
abbrev S4 : Shape := ⟨1, ![4]⟩
abbrev S4x2 : Shape := ⟨2, ![4, 2]⟩
abbrev S1x1x1024x1024 : Shape := ⟨4, ![1, 1, 1024, 1024]⟩
abbrev S1x1 : Shape := ⟨2, ![1, 1]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .f32⟩
  | .local _ .vmem, ⟨0, _⟩ => ⟨S1024x4096, .f32⟩
  | .local _ .vmem, ⟨1, _⟩ => ⟨S1024x1024, .f32⟩
  | .local _ .vmem, ⟨2, _⟩ => ⟨S1024x1024, .f32⟩
  | .local _ .vmem, ⟨3, _⟩ => ⟨S4x2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.subi v2 c1_i32_10
  let c8_i32_11 : BitVec 32 := 8#32
  let v14 : BitVec 32 := Scalar.addi v13 c8_i32_11
  let c8_i32_12 : BitVec 32 := 8#32
  let v15 : BitVec 32 := Scalar.remsi v14 c8_i32_12
  let c1024_i32 : BitVec 32 := 1024#32
  let v16 : BitVec 32 := Scalar.muli v15 c1024_i32
  let c0_i32_13 : BitVec 32 := 0#32
  ![v16.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v18 : BitVec 32 := Scalar.addi v2 c1_i32_14
  let c8_i32_15 : BitVec 32 := 8#32
  let v19 : BitVec 32 := Scalar.remsi v18 c8_i32_15
  let c1024_i32_16 : BitVec 32 := 1024#32
  let v20 : BitVec 32 := Scalar.muli v19 c1024_i32_16
  let c0_i32_17 : BitVec 32 := 0#32
  ![v20.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_34 : BitVec 32 := 1#32
  let v30 : BitVec 32 := Scalar.muli v7 c1_i32_34
  let v31 : BitVec 32 := Scalar.addi c0_i32_35 v30
  v31.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_55 : BitVec 32 := 1#32
  let v47 : BitVec 32 := Scalar.muli v7 c1_i32_55
  let v48 : BitVec 32 := Scalar.addi c0_i32_56 v47
  v48.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_77 : BitVec 32 := 1#32
  let v65 : BitVec 32 := Scalar.muli v5 c1_i32_77
  let v66 : BitVec 32 := Scalar.addi c0_i32_78 v65
  v66.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_97 : BitVec 32 := 1#32
  let v82 : BitVec 32 := Scalar.muli v5 c1_i32_97
  let v83 : BitVec 32 := Scalar.addi c0_i32_98 v82
  v83.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v92 : BitVec 32 := Scalar.subi v2 c2_i32_103
  let c0_i32_104 : BitVec 32 := 0#32
  let v93 : BitVec 32 := Scalar.subi v92 c0_i32_104
  let c16_i32 : BitVec 32 := 16#32
  let v94 : BitVec 32 := Scalar.addi v93 c16_i32
  let c8_i32_105 : BitVec 32 := 8#32
  let v95 : BitVec 32 := Scalar.remsi v94 c8_i32_105
  let c1024_i32_106 : BitVec 32 := 1024#32
  let v96 : BitVec 32 := Scalar.muli v95 c1024_i32_106
  let c0_i32_107 : BitVec 32 := 0#32
  ![v96.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v98 : BitVec 32 := Scalar.addi v2 c2_i32_108
  let c0_i32_109 : BitVec 32 := 0#32
  let v99 : BitVec 32 := Scalar.addi v98 c0_i32_109
  let c8_i32_110 : BitVec 32 := 8#32
  let v100 : BitVec 32 := Scalar.remsi v99 c8_i32_110
  let c1024_i32_111 : BitVec 32 := 1024#32
  let v101 : BitVec 32 := Scalar.muli v100 c1024_i32_111
  let c0_i32_112 : BitVec 32 := 0#32
  ![v101.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S8x1024x8x1024 : Shape := ⟨4, ![8, 1024, 8, 1024]⟩
abbrev S8x8 : Shape := ⟨2, ![8, 8]⟩
abbrev S_ : Shape := ⟨0, ![]⟩
abbrev S8192x2048 : Shape := ⟨2, ![8192, 2048]⟩
abbrev S2x1024x8x1024 : Shape := ⟨4, ![2, 1024, 8, 1024]⟩
abbrev S6x1024x8x1024 : Shape := ⟨4, ![6, 1024, 8, 1024]⟩
abbrev S8x1x8x1 : Shape := ⟨4, ![8, 1, 8, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8x1024x8x1024, .f32⟩
  | .hbm, ⟨3, _⟩ => ⟨S8x8, .i32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i1⟩
  | .hbm, ⟨12, _⟩ => ⟨S8192x2048, .f32⟩
  | .hbm, ⟨13, _⟩ => ⟨S2x1024x8x1024, .f32⟩
  | .hbm, ⟨14, _⟩ => ⟨S6x1024x8x1024, .f32⟩
  | .hbm, ⟨15, _⟩ => ⟨S8x1024x8x1024, .f32⟩
  | .hbm, ⟨16, _⟩ => ⟨S8x1x8x1, .i1⟩
  | .hbm, ⟨17, _⟩ => ⟨S_, .f32⟩
  | .hbm, ⟨18, _⟩ => ⟨S_, .f32⟩
  | .hbm, ⟨19, _⟩ => ⟨S8x1024x8x1024, .i1⟩
  | .hbm, ⟨20, _⟩ => ⟨S8x1024x8x1024, .f32⟩
  | .hbm, ⟨21, _⟩ => ⟨S8x1024x8x1024, .f32⟩
  | .hbm, ⟨22, _⟩ => ⟨S8192x8192, .f32⟩
  | .hbm, ⟨23, _⟩ => ⟨S8192x2048, .f32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i1⟩
  | .hbm, ⟨31, _⟩ => ⟨S8192x2048, .f32⟩
  | .hbm, ⟨32, _⟩ => ⟨S6x1024x8x1024, .f32⟩
  | .hbm, ⟨33, _⟩ => ⟨S2x1024x8x1024, .f32⟩
  | .hbm, ⟨34, _⟩ => ⟨S8x1024x8x1024, .f32⟩
  | .hbm, ⟨35, _⟩ => ⟨S8x1x8x1, .i1⟩
  | .hbm, ⟨36, _⟩ => ⟨S_, .f32⟩
  | .hbm, ⟨37, _⟩ => ⟨S_, .f32⟩
  | .hbm, ⟨38, _⟩ => ⟨S8x1024x8x1024, .i1⟩
  | .hbm, ⟨39, _⟩ => ⟨S8x1024x8x1024, .f32⟩
  | .hbm, ⟨40, _⟩ => ⟨S8x1024x8x1024, .f32⟩
  | .hbm, ⟨41, _⟩ => ⟨S8192x8192, .f32⟩
  | .hbm, ⟨42, _⟩ => ⟨S8192x2048, .f32⟩
  | .hbm, ⟨43, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Hop.Program.lean ====
/-
# The kernel's body as a sequence of named stretches

The body is one long straight line. Every stretch of it — a chunk of the left operand staged, a product stored
into a slot, a slot sent round its ring, a received partial sum added to, a block written back — is named here once, over the
ring's number, with the rest of the program as its continuation; `body_eq` says that the printed function is these
stretches in order.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Hop

open Cert.KernelIdeal Cert.KernelIdeal.Gen
open Idealize.ShloMosaic Idealize.ShloMosaic.TcCoe Idealize.SL Idealize.SL.Sem

variable {F : FTy → Type} [FloatOps F]

/-- The body's programs. -/
abbrev P (F : FTy → Type) : Type 1 := Prog (TpuEff nD τ sig (Elt F) Λ₀ .tc) PUnit

/-! ## The buffers, the slots and the semaphores -/

abbrev xM : Memref sig .tc .hbm S8192x1024 .f32 := Memref.whole main_arg0
abbrev wM : Memref sig .tc .vmem S1024x4096 .f32 := Memref.whole cc0_stg0_0
abbrev oM : Memref sig .tc .hbm S1024x4096 .f32 := Memref.whole main_v1
abbrev aM : Memref sig .tc .vmem S1024x1024 .f32 := Memref.whole cc0_scratch0
abbrev bM : Memref sig .tc .vmem S1024x1024 .f32 := Memref.whole cc0_scratch1
abbrev cM : Memref sig .tc .vmem S4x2x1024x1024 .f32 := Memref.whole cc0_scratch2
abbrev barS : Sem sig := (SemArray.scalar (sig.barrier 0 rfl) : Sems sig S_).sem

theorem slot_inb (r : Fin 4) (k : Fin 2) : ∀ a, (![r.val, k.val, 0, 0] : Fin 4 → ℕ) a + S1x1x1024x1024.size a ≤ S4x2x1024x1024.size a := by
  revert r k; decide
theorem sem2_inb (r : Fin 4) (k : Fin 2) : ∀ a, (![r.val, k.val] : Fin 2 → ℕ) a + S1x1.size a ≤ S4x2.size a := by
  revert r k; decide
theorem sem1_inb (r : Fin 4) : ∀ a, (![r.val] : Fin 1 → ℕ) a + S1.size a ≤ S4.size a := by
  revert r; decide
theorem col_inb (r : Fin 4) : ∀ a, (![0, 1024 * r.val] : Fin 2 → ℕ) a + S1024x1024.size a ≤ S1024x4096.size a := by
  revert r; decide

/-- Slot `k` of ring `r` in the rings' scratch, as a rectangle of it; -/
abbrev slotR (r : Fin 4) (k : Fin 2) : Rect S4x2x1024x1024 :=
  Rect.unit (s := S4x2x1024x1024) ![r.val, k.val, 0, 0] S1x1x1024x1024.size (slot_inb r k)
/-- and as a buffer of its own. -/
abbrev slotM (r : Fin 4) (k : Fin 2) : Memref sig .tc .vmem S1024x1024 .f32 :=
  (cM.slice (slotR r k) (fun _ => rfl)).squeeze S1024x1024 squeezes_S1x1x1024x1024_S1024x1024

/-- Ring `r`'s columns of the right operand and of the result. -/
abbrev colR (r : Fin 4) : Rect S1024x4096 := Rect.unit (s := S1024x4096) ![0, 1024 * r.val] S1024x1024.size (col_inb r)
abbrev outM (r : Fin 4) : Memref sig .tc .hbm S1024x1024 .f32 := oM.slice (colR r) (fun _ => rfl)

/-- A chunk of rows of the left operand. -/
abbrev rowR (off : Fin 2 → ℕ) (h : ∀ a, off a + S1024x1024.size a ≤ S8192x1024.size a) : Rect S8192x1024 :=
  Rect.unit (s := S8192x1024) off S1024x1024.size h
abbrev chunkM (off : Fin 2 → ℕ) (h : ∀ a, off a + S1024x1024.size a ≤ S8192x1024.size a) : Memref sig .tc .hbm S1024x1024 .f32 :=
  xM.slice (rowR off h) (fun _ => rfl)

abbrev full2 : Rect S1024x1024 := Rect.unit (s := S1024x1024) ![0, 0] S1024x1024.size inb_S1024x1024_S1024x1024_0_0

abbrev aS : DmaSem sig := cc0_scratch3.sem
abbrev bS : DmaSem sig := cc0_scratch4.sem
abbrev outS (r : Fin 4) : DmaSem sig :=
  ((cc0_scratch5.slice (Rect.unit (s := S4) ![r.val] S1.size (sem1_inb r))).squeeze S_ squeezes_S1_S_).sem
abbrev sendS (r : Fin 4) (k : Fin 2) : DmaSem sig :=
  ((cc0_scratch6.slice (Rect.unit (s := S4x2) ![r.val, k.val] S1x1.size (sem2_inb r k))).squeeze S_ squeezes_S1x1_S_).sem
abbrev recvS (r : Fin 4) (k : Fin 2) : DmaSem sig :=
  ((cc0_scratch7.slice (Rect.unit (s := S4x2) ![r.val, k.val] S1x1.size (sem2_inb r k))).squeeze S_ squeezes_S1x1_S_).sem

/-! ## The values -/

/-- A product of two blocks, from zero. -/
def dot (a b : Vec F S1024x1024 .f32) : Vec F S1024x1024 .f32 :=
  matmul dot_S1024x1024_S1024x1024_S1024x1024_1_0_0_1_n_n none a b (constant S1024x1024 .f32 0x00000000#32)

/-! ## The stretches -/

/-- Stage the chunk of rows at `off`. -/
def stage (off : Fin 2 → ℕ) (h : ∀ a, off a + S1024x1024.size a ≤ S8192x1024.size a) (b : Memref sig .tc .vmem S1024x1024 .f32) (hb : b.IsWhole)
    (q : DmaSem sig) (k : P F) : P F :=
  Prog.op (.enqueueDma (chunkM off h) (.here b) (.dma q) (View.wordExact_bits rfl) hb.wordExact ⟨Or.inl rfl, trivial⟩) fun _ => k

/-- Wait for it. -/
def staged (off : Fin 2 → ℕ) (h : ∀ a, off a + S1024x1024.size a ≤ S8192x1024.size a) (b : Memref sig .tc .vmem S1024x1024 .f32) (hb : b.IsWhole)
    (q : DmaSem sig) (k : P F) : P F :=
  Prog.op (.waitDma2 q (chunkM off h) b (View.wordExact_bits rfl) hb.wordExact) fun _ => k

/-- The product of the staged chunk with ring `r`'s columns, into the ring's slot `j`. -/
def first (b : Memref sig .tc .vmem S1024x1024 .f32) (r : Fin 4) (j : Fin 2) (k : P F) : P F :=
  Prog.op (.load b full2.toLoadRect (View.loadsAt_vmem h_S1024x1024)) fun v =>
  Prog.op (.load wM (colR r).toLoadRect (View.loadsAt_vmem h_S1024x1024)) fun u =>
  Prog.op (.load cM (slotR r j).toLoadRect (View.loadsAt_vmem h_S1x1x1024x1024)) fun _ =>
  Prog.op (.store cM (slotR r j)
    (shapeCast S1x1x1024x1024 (dot v (shapeCast S1024x1024 u shapeCasts_S1024x1024_S1024x1024)) shapeCasts_S1024x1024_S1x1x1024x1024)
    Finset.univ (View.stores_vmem_bits_univ h_S1x1x1024x1024 rfl) (.inl rfl)) fun _ => k

/-- Send ring `r`'s slot `j` into slot `j'` of device `n`. -/
def send (n : Dev nD) (r : Fin 4) (j j' : Fin 2) (k : P F) : P F :=
  Prog.op (.enqueueDma (slotM r j) (.remote (Dev.tc n) (slotM r j') (.dma (sendS r j))) (.dma (recvS r j'))
    ((View.wordExact_bits rfl).reshape _ _) ((View.wordExact_bits rfl).reshape _ _) ⟨⟨rfl, Or.inl rfl⟩, trivial⟩) fun _ => k

/-- Wait until ring `r`'s slot `j` is sent; -/
def sent (r : Fin 4) (j j' : Fin 2) (k : P F) : P F :=
  Prog.op (.waitDma2 (sendS r j) (slotM r j') (slotM r j) ((View.wordExact_bits rfl).reshape _ _) ((View.wordExact_bits rfl).reshape _ _)) fun _ => k

/-- until its slot `j'` has landed. -/
def landed (r : Fin 4) (j j' : Fin 2) (k : P F) : P F :=
  Prog.op (.waitDma2 (recvS r j') (slotM r j) (slotM r j') ((View.wordExact_bits rfl).reshape _ _) ((View.wordExact_bits rfl).reshape _ _)) fun _ => k

/-- Add the product of the staged chunk with ring `r`'s columns to the ring's slot `j`. -/
def accum (b : Memref sig .tc .vmem S1024x1024 .f32) (r : Fin 4) (j : Fin 2) (k : P F) : P F :=
  Prog.op (.load cM (slotR r j).toLoadRect (View.loadsAt_vmem h_S1x1x1024x1024)) fun y =>
  Prog.op (.load b full2.toLoadRect (View.loadsAt_vmem h_S1024x1024)) fun v =>
  Prog.op (.load wM (colR r).toLoadRect (View.loadsAt_vmem h_S1024x1024)) fun u =>
  Prog.op (.load cM (slotR r j).toLoadRect (View.loadsAt_vmem h_S1x1x1024x1024)) fun _ =>
  Prog.op (.store cM (slotR r j)
    (shapeCast S1x1x1024x1024 (addf (shapeCast S1024x1024 y shapeCasts_S1x1x1024x1024_S1024x1024)
      (dot v (shapeCast S1024x1024 u shapeCasts_S1024x1024_S1024x1024))) shapeCasts_S1024x1024_S1x1x1024x1024)
    Finset.univ (View.stores_vmem_bits_univ h_S1x1x1024x1024 rfl) (.inl rfl)) fun _ => k

/-- Write ring `r`'s slot `j` back into the ring's columns of the result; -/
def writeBack (r : Fin 4) (j : Fin 2) (k : P F) : P F :=
  Prog.op (.enqueueDma (slotM r j) (.here (outM r)) (.dma (outS r)) ((View.wordExact_bits rfl).reshape _ _) (View.wordExact_bits rfl) ⟨Or.inl rfl, trivial⟩) fun _ => k

/-- wait for it. -/
def written (r : Fin 4) (j : Fin 2) (k : P F) : P F :=
  Prog.op (.waitDma2 (outS r) (slotM r j) (outM r) ((View.wordExact_bits rfl).reshape _ _) (View.wordExact_bits rfl)) fun _ => k

/-- The neighbours' handshake. -/
def handshake (n₁ n₂ : Dev nD) (k : P F) : P F :=
  Prog.op (.semSignal (n₁, .tc) barS 1) fun _ => .op (.semSignal (n₂, .tc) barS 1) fun _ => .op (.semWait barS 2) fun _ => k

/-! ## The body -/

/-- The last stretches: the blocks written back. -/
def finish : P F :=
  writeBack 0 1 <| writeBack 1 1 <| writeBack 2 1 <| writeBack 3 1 <| written 0 1 <| written 1 1 <| written 2 1 <| written 3 1 <| .ret ⟨⟩

/-- The first products, each sent on round its ring; meanwhile the next chunks. -/
def opening (c : Dev nD) (k : P F) : P F :=
  stage (k0_off1 c) (k0_off1_inb c) aM (Memref.isWhole_whole _) aS <| stage (k0_off2 c) (k0_off2_inb c) bM (Memref.isWhole_whole _) bS <|
  staged (k0_off1 c) (k0_off1_inb c) aM (Memref.isWhole_whole _) aS <|
  first aM 0 0 <| send ⟨k0_dev3 c, k0_dev3_lt c⟩ 0 0 1 <| first aM 1 0 <| send ⟨k0_dev4 c, k0_dev4_lt c⟩ 1 0 1 <|
  staged (k0_off2 c) (k0_off2_inb c) bM (Memref.isWhole_whole _) bS <|
  first bM 2 0 <| send ⟨k0_dev5 c, k0_dev5_lt c⟩ 2 0 1 <| first bM 3 0 <| send ⟨k0_dev6 c, k0_dev6_lt c⟩ 3 0 1 <| k

/-- A step of the rings: what has landed, with this device's product added. -/
def step (c : Dev nD) (k : P F) : P F :=
  stage (k0_off3 c) (k0_off3_inb c) aM (Memref.isWhole_whole _) aS <| stage (k0_off4 c) (k0_off4_inb c) bM (Memref.isWhole_whole _) bS <|
  staged (k0_off3 c) (k0_off3_inb c) aM (Memref.isWhole_whole _) aS <| sent 0 0 1 <| landed 0 0 1 <| accum aM 0 1 <|
  staged (k0_off4 c) (k0_off4_inb c) bM (Memref.isWhole_whole _) bS <| sent 2 0 1 <| landed 2 0 1 <| accum bM 2 1 <|
  sent 1 0 1 <| landed 1 0 1 <| accum aM 1 1 <| sent 3 0 1 <| landed 3 0 1 <| accum bM 3 1 <| k

def body : P F :=
  Prog.op .deviceId fun c => handshake ⟨k0_dev1 c, k0_dev1_lt c⟩ ⟨k0_dev2 c, k0_dev2_lt c⟩ <| opening c <| step c <| finish

set_option maxRecDepth 65536 in
theorem body_eq :
    cc0_body (F := F) xM (Memref.isWhole_whole _) wM (Memref.isWhole_whole _) oM (Memref.isWhole_whole _)
      aM (Memref.isWhole_whole _) bM (Memref.isWhole_whole _)
      cM (Memref.isWhole_whole _) cc0_scratch3 cc0_scratch4 cc0_scratch5 cc0_scratch6 cc0_scratch7 = body := by
  rw [cc0_body_eq_skeleton]
  unfold cc0_body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret]
  rfl

end Cert.KernelIdeal.Hop
-- ==== Proof.Hop.Common.lean ====
/-
# The rings' protocol

Eight devices stand in a circle. Rings 0 and 1 pass partial sums to the next device, rings 2 and 3 to the device before.
A device's semaphores that other devices touch, or that stand for a transfer to another device, are cells with a
schedule of rounds. Who pays what into them:

* the barrier cell of device `c`: one unit from the device after it, which hands `c` its landing slots of rings 0 and 1,
  and one unit from the device before it, which hands `c` its landing slots of rings 2 and 3;
* the send cell of ring `r`: the device's own transfer, which hands its source slot back;
* the receive cell of ring `r`: the transfer of the device behind it in the ring, which hands over the landing slot, holding the
  partial sum that device sent.
-/
module

public import proofs.«01_k».proof.Proof.Hop.Program
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Hop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb

abbrev 𝒱₀ : Variants := Variants.none

/-- The weakest precondition of a program of the body on device `c`. -/
abbrev WP (c : Dev nD) (p : P F) (Q : PUnit → sProp 𝕄) : sProp 𝕄 :=
  wp Idealize.ShloMosaic.frame (wpE (defs₀ (F := F)) 𝒱₀ (c : Thread nD τ) none) Set.univ p Q

variable (m : (ℓ : Loc nD τ sig) → Buf (Elt F) ℓ)

/-! ## The rings -/

set_option backward.proofsInPublic true in
/-- The device after `c`, -/
def nxt (c : Dev nD) : Dev nD := ⟨(c.val + 1) % 8, Nat.mod_lt _ (by decide)⟩
set_option backward.proofsInPublic true in
/-- the device before. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

/-- Where ring `r` sends to, -/
def dn (r : Fin 4) (c : Dev nD) : Dev nD := if r.val < 2 then nxt c else prv c
/-- and whence it receives. -/
def up (r : Fin 4) (c : Dev nD) : Dev nD := if r.val < 2 then prv c else nxt c

theorem up_dn (r : Fin 4) (c : Dev nD) : up r (dn r c) = c := by revert r c; decide
theorem dn_up (r : Fin 4) (c : Dev nD) : dn r (up r c) = c := by revert r c; decide

/-- A ring as a permutation of the devices. -/
def ring (r : Fin 4) : Dev nD ≃ Dev nD := ⟨dn r, up r, up_dn r, dn_up r⟩
def turn : Dev nD ≃ Dev nD := ⟨nxt, prv, prv_nxt, nxt_prv⟩

/-! ## The contents -/

/-- Device `c`'s share of the left operand. -/
abbrev xAt (c : Dev nD) : (main_arg0 : Ref sig .tc).ty.Contents (Elt F) := m ((c : Thread nD τ).loc main_arg0)

theorem row_inb (d : Dev nD) : ∀ a, (![1024 * d.val, 0] : Fin 2 → ℕ) a + S1024x1024.size a ≤ S8192x1024.size a := by
  revert d; decide

/-- Its rows in chunk `d`. -/
def chunk (c d : Dev nD) : Vec F S1024x1024 .f32 := (chunkM ![1024 * d.val, 0] (row_inb d)).view.read (Elt F) (xAt m c)

/-- Device `c`'s share of the right operand, staged; -/
def wAt (c : Dev nD) : (cc0_stg0_0 : Ref sig .tc).ty.Contents (Elt F) :=
  (win0_0.blk (0 : Fin 1)).view.read (Elt F) (m ((c : Thread nD τ).loc main_arg1))

/-- its columns in ring `r`. -/
def wcol (c : Dev nD) (r : Fin 4) : Vec F S1024x1024 .f32 := wM.view.readAt (Elt F) (colR r).toLoadRect (wAt m c)

/-- The partial sum of ring `r` that leaves device `c` at hop `s`. -/
def part (r : Fin 4) : ℕ → Dev nD → Vec F S1024x1024 .f32
  | 0, c => dot (chunk m c (up r c)) (wcol m c r)
  | s + 1, c => addf (part r s (up r c)) (dot (chunk m c ((up r)^[s + 2] c)) (wcol m c r))

/-! ## The cells -/

/-- What a semaphore of the body stands for. -/
inductive Kd
  | bar
  | send (r : Fin 4) (k : Fin 2)
  | recv (r : Fin 4) (k : Fin 2)
  | other
  deriving DecidableEq

/-- Of each semaphore. -/
def kd : SemLoc sig → Kd
  | .reg s => if s = barS then .bar else .other
  | .dma q => if q.val < 7 then .other
      else if q.val < 15 then .send (Fin.ofNat 4 ((q.val - 7) / 2)) (Fin.ofNat 2 ((q.val - 7) % 2))
      else .recv (Fin.ofNat 4 ((q.val - 15) / 2)) (Fin.ofNat 2 ((q.val - 15) % 2))

theorem kd_bar : kd (.reg barS) = .bar := by decide
theorem kd_send (r : Fin 4) (k : Fin 2) : kd (.dma (sendS r k)) = .send r k := by revert r k; decide
theorem kd_recv (r : Fin 4) (k : Fin 2) : kd (.dma (recvS r k)) = .recv r k := by revert r k; decide
theorem kd_a : kd (.dma aS) = .other := by decide
theorem kd_b : kd (.dma bS) = .other := by decide
theorem kd_out (r : Fin 4) : kd (.dma (outS r)) = .other := by revert r; decide

abbrev barCell (c : Dev nD) : GSem nD τ sig := ((c : Thread nD τ), .reg barS)
abbrev sendCell (r : Fin 4) (k : Fin 2) (c : Dev nD) : GSem nD τ sig := ((c : Thread nD τ), .dma (sendS r k))
abbrev recvCell (r : Fin 4) (k : Fin 2) (c : Dev nD) : GSem nD τ sig := ((c : Thread nD τ), .dma (recvS r k))

/-- What a block's transfer counts. -/
abbrev N : ℕ := (slotM 0 0).view.dmaCredit
theorem N_pos : 0 < N := View.dmaCredit_pos _ (by decide)
theorem N_slot (r : Fin 4) (k : Fin 2) : (slotM r k).view.dmaCredit = N := rfl

/-- Slot `k` of ring `r` on device `c`, holding `V`; -/
abbrev slot (r : Fin 4) (k : Fin 2) (c : Dev nD) (V : Vec F S1024x1024 .f32) : sProp 𝕄 :=
  owns (c : Thread nD τ) (slotM r k) fullShare V
/-- holding anything. -/
abbrev slotAny (r : Fin 4) (k : Fin 2) (c : Dev nD) : sProp 𝕄 := iprop(∃ V, slot (F := F) r k c V)

/-! ## The schedule -/

/-- The number of hops. -/
abbrev hops : ℕ := 1

/-- The landing slot of ring `r` on device `c`, and that its receive cell is open. -/
def give (r : Fin 4) (c : Dev nD) : sProp 𝕄 := iprop(slotAny (F := F) r 1 c ∗ reached ER (recvCell r 1 c) 0)

/-- What the barrier cell of device `c` brings: from the device after it, and from the device before it. -/
def barPay (c : Dev nD) (d : Bool) : sProp 𝕄 :=
  if d then iprop(give 0 (nxt c) ∗ give 1 (nxt c)) else iprop(give 2 (prv c) ∗ give 3 (prv c))

def pay (g : GSem nD τ sig) (j : ℕ) (d : Bool) : sProp 𝕄 :=
  match kd g.2 with
  | .bar => barPay g.1.1 d
  | .send r k => slotAny r k g.1.1
  | .recv r k => slot r k g.1.1 (part m r (2 * j + (1 - k.val)) (up r g.1.1))
  | .other => iprop(emp)

def dts (g : GSem nD τ sig) (j : ℕ) : Finset Bool :=
  if g.1.2 = .tc then
    match kd g.2 with
    | .bar => if j = 0 then Finset.univ else ∅
    | .send r k => if 2 * j + k.val < hops then {false} else ∅
    | .recv r k => if 2 * j + (1 - k.val) < hops then {false} else ∅
    | .other => ∅
  else ∅

def amt (g : GSem nD τ sig) : ℕ := if kd g.2 = .bar then 1 else N

def Rd : Rounds.Schedule (GSem nD τ sig) Bool 𝕄 where
  duties := dts
  unitless _ := False
  amount g _ _ := amt g
  payload := pay m
  amount_pos g _ _ _ := by
    unfold amt
    split
    · exact Nat.one_pos
    · exact N_pos

instance give_storable (r : Fin 4) (c : Dev nD) : BI.Storable (upEmb : UEmb _ 𝕄) (give (F := F) r c) := by
  unfold give; infer_instance

instance Rd_payload_storable (g : GSem nD τ sig) (j : ℕ) (d : Bool) :
    BI.Storable (upEmb : UEmb _ 𝕄) ((Rd (F := F) m).payload g j d) := by
  show BI.Storable upEmb (pay m g j d)
  unfold pay barPay
  (repeat' split) <;> infer_instance

section Tables
variable (c : Dev nD) (r : Fin 4)

theorem amount_bar (j : ℕ) (d : Bool) : (Rd (F := F) m).amount (barCell c) j d = 1 := by
  show amt (barCell c) = 1
  exact if_pos kd_bar
theorem amount_send (k : Fin 2) (j : ℕ) (d : Bool) : (Rd (F := F) m).amount (sendCell r k c) j d = N := by
  show amt (sendCell r k c) = N
  exact if_neg (by dsimp only [sendCell]; rw [kd_send]; intro h; cases h)
theorem amount_recv (k : Fin 2) (j : ℕ) (d : Bool) : (Rd (F := F) m).amount (recvCell r k c) j d = N := by
  show amt (recvCell r k c) = N
  exact if_neg (by dsimp only [recvCell]; rw [kd_recv]; intro h; cases h)

theorem duties_bar : (Rd (F := F) m).duties (barCell c) 0 = Finset.univ := by
  show dts (barCell c) 0 = _
  unfold dts; rw [if_pos rfl, kd_bar]; exact if_pos rfl
theorem duties_send : (Rd (F := F) m).duties (sendCell r 0 c) 0 = {false} := by
  show dts (sendCell r 0 c) 0 = _
  unfold dts; rw [if_pos rfl, kd_send]; exact if_pos (by decide)
theorem duties_recv : (Rd (F := F) m).duties (recvCell r 1 c) 0 = {false} := by
  show dts (recvCell r 1 c) 0 = _
  unfold dts; rw [if_pos rfl, kd_recv]; exact if_pos (by decide)
theorem duties_later (g : GSem nD τ sig) : ∀ j, 1 ≤ j → (Rd (F := F) m).duties g j = ∅ := by
  intro j hj
  show dts g j = _
  unfold dts
  simp only [hops]
  (repeat' split) <;> first | rfl | (exfalso; omega)

theorem expect_bar : (Rd (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_send : (Rd (F := F) m).expect (sendCell r 0 c) 0 = N := by
  unfold Schedule.expect Schedule.amountOf; rw [duties_send, Finset.sum_singleton, amount_send]
theorem expect_recv : (Rd (F := F) m).expect (recvCell r 1 c) 0 = N := by
  unfold Schedule.expect Schedule.amountOf; rw [duties_recv, Finset.sum_singleton, amount_recv]

theorem payload_bar (j : ℕ) (d : Bool) : (Rd (F := F) m).payload (barCell c) j d = barPay c d := by
  show pay m (barCell c) j d = _
  unfold pay; rw [kd_bar]
theorem payload_send (k : Fin 2) (j : ℕ) (d : Bool) : (Rd (F := F) m).payload (sendCell r k c) j d = slotAny r k c := by
  show pay m (sendCell r k c) j d = _
  unfold pay; rw [kd_send]
theorem payload_recv (k : Fin 2) (j : ℕ) (d : Bool) :
    (Rd (F := F) m).payload (recvCell r k c) j d = slot r k c (part m r (2 * j + (1 - k.val)) (up r c)) := by
  show pay m (recvCell r k c) j d = _
  unfold pay; rw [kd_recv]

theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((Rd (F := F) m).duties (sendCell r 0 c) 0 \ ∅) (fun d => (Rd (F := F) m).payload (sendCell r 0 c) 0 d)
    = slotAny r 0 c := by
  rw [Finset.sdiff_empty, duties_send, bigSep_singleton, payload_send]
theorem rest_recv : bigSep ((Rd (F := F) m).duties (recvCell r 1 c) 0 \ ∅) (fun d => (Rd (F := F) m).payload (recvCell r 1 c) 0 d)
    = slot r 1 c (part m r 0 (up r c)) := by
  rw [Finset.sdiff_empty, duties_recv, bigSep_singleton, payload_recv]
  rfl

end Tables

/-! ## What a device owes; the levels -/

/-- What is owed along a list of payments to come, the next one first. -/
def owe : List (GSem nD τ sig × ℕ) → CellTallies nD τ sig ℕ
  | [] => 0
  | p :: l => owe l + tallyAt p.1 0 p.2

/-- The transfers a device starts, in order; -/
def sends (c : Dev nD) : List (GSem nD τ sig × ℕ) :=
  [(recvCell 0 1 (dn 0 c), N), (recvCell 1 1 (dn 1 c), N), (recvCell 2 1 (dn 2 c), N), (recvCell 3 1 (dn 3 c), N)]
/-- before them its two signals. -/
def pays (c : Dev nD) : List (GSem nD τ sig × ℕ) := (barCell (prv c), 1) :: (barCell (nxt c), 1) :: sends c

def L (g : GSem nD τ sig) : Finset ℕ := if g.1.2 = .tc then {0} else ∅
/-- Receive cells above barrier cells above everything else. -/
def lv (g : GSem nD τ sig) (_ : ℕ) : ℕ := match kd g.2 with | .bar => 1 | .recv _ _ => 2 | _ => 0

theorem L_of_ne (g : GSem nD τ sig) (h : g.1.2 ≠ .tc) : L g = ∅ := if_neg h
theorem L_tc (c : Dev nD) (sm : SemLoc sig) : L ((c : Thread nD τ), sm) = {0} := if_pos rfl

/-- Only the cells on the list are owed anything. -/
theorem owe_pos {l : List (GSem nD τ sig × ℕ)} {g : GSem nD τ sig} {u : ℕ} (h : 0 < owe l g u) : u = 0 ∧ ∃ p ∈ l, g = p.1 := by
  induction l with
  | nil => exact absurd h (Nat.lt_irrefl 0)
  | cons p l ih =>
    rw [owe, Pi.add_apply, Finsupp.add_apply, tallyAt_apply] at h
    by_cases hp : g = p.1 ∧ u = 0
    · exact ⟨hp.2, p, List.mem_cons_self, hp.1⟩
    · rw [if_neg hp, Nat.add_zero] at h
      obtain ⟨hu, q, hq, e⟩ := ih h
      exact ⟨hu, q, List.mem_cons_of_mem _ hq, e⟩

/-- A device may wait on a semaphore below every cell it still owes. -/
theorem mayWait_owe (c : Dev nD) (sm : SemLoc sig) (l : List (GSem nD τ sig × ℕ))
    (hl : ∀ p ∈ l, p.1.1.2 = .tc ∧ lv ((c : Thread nD τ), sm) 0 < lv p.1 0) :
    (levAts L lv : sProp 𝕄) ⊢ MayWait (c : Thread nD τ) sm 0 (owe l) :=
  MayOwe.of_cut (L := L) (lev := lv) (lv ((c : Thread nD τ), sm) 0)
    (fun p hp => by rw [Finset.mem_singleton.mp hp, L_tc]; exact Finset.mem_singleton_self _)
    (fun g u hg => by
      obtain ⟨rfl, p, hp, rfl⟩ := owe_pos hg
      rw [L, if_pos (hl p hp).1]; exact Finset.mem_singleton_self _)
    (fun p hp => by rw [Finset.mem_singleton.mp hp])
    (fun g u hg => by
      obtain ⟨rfl, p, hp, rfl⟩ := owe_pos hg
      exact (hl p hp).2)

end Cert.KernelIdeal.Hop
-- ==== Proof.Hop.Local.lean ====
/-
# The stretches that stay on a device

The rules of the stretches that touch no other device: a chunk staged, the two products, a block written back.
-/
module

public import proofs.«01_k».proof.Proof.Hop.Common
public import Idealize.ShloMosaic.Lib.VecWindow
public import Idealize.ShloMosaic.Lib.Pipeline.Value

@[expose] public section

set_option maxRecDepth 16384

noncomputable section

namespace Cert.KernelIdeal.Hop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## Slots -/

theorem slot_set (r : Fin 4) (k : Fin 2) : (slotM r k).view.set = cM.view.setOn (slotR r k).set := by
  show ((cM.view.slice (slotR r k)).reshape S1024x1024 _).set = _
  rw [View.set_reshape, View.set_slice]
  rfl

/-- Reading a slot. -/
theorem slot_load (c : Dev nD) (r : Fin 4) (k : Fin 2) (V : Vec F S1024x1024 .f32) {hl : cM.view.LoadsAt (slotR r k).toLoadRect}
    {kk : Vec F S1x1x1024x1024 .f32 → P F} {Q : PUnit → sProp 𝕄} :
    slot (F := F) r k c V ⊢ iprop((slot (F := F) r k c V -∗ WP c (kk (shapeCast S1x1x1024x1024 V shapeCasts_S1024x1024_S1x1x1024x1024)) Q)
      -∗ WP c (.op (.load cM (slotR r k).toLoadRect hl) kk) Q) := by
  unfold slot owns
  iintro ⟨%f, %hf, H⟩ Hk
  iapply (wp_load 𝒱₀ (c : Thread nD τ) none Set.univ (m := cM) (r := (slotR r k).toLoadRect) (S := (slotM r k).view.set) (f := f) (slot_set r k).ge) $$ H
  iintro H
  have e : cM.view.readAt (Elt F) (slotR r k).toLoadRect f = shapeCast S1x1x1024x1024 V shapeCasts_S1024x1024_S1x1x1024x1024 := by
    rw [← hf]
    exact (shapeCast_shapeCast (cM.view.readAt (Elt F) (slotR r k).toLoadRect f) _ _).symm
  rw [e]
  iapply Hk
  iexists f
  isplitr; · ipureintro; exact hf
  iexact H

/-- Writing a slot. -/
theorem slot_store (c : Dev nD) (r : Fin 4) (k : Fin 2) (v : Vec F S1024x1024 .f32)
    {hx : (cM.access (slotR r k)).Stores Finset.univ} {hm : (Finset.univ : Finset (slotR r k).shape.Idx) = Finset.univ ∨ ∀ a, (slotR r k).stride a = 1}
    {kk : PUnit → P F} {Q : PUnit → sProp 𝕄} :
    slotAny (F := F) r k c ⊢ iprop((slot (F := F) r k c v -∗ WP c (kk ⟨⟩) Q)
      -∗ WP c (.op (.store cM (slotR r k) (shapeCast S1x1x1024x1024 v shapeCasts_S1024x1024_S1x1x1024x1024) Finset.univ hx hm) kk) Q) := by
  unfold slotAny slot owns
  iintro ⟨%V, %f, %hf, H⟩ Hk
  iapply (wp_store 𝒱₀ (c : Thread nD τ) none Set.univ (m := cM) (r := slotR r k) (S := (slotM r k).view.set) (f := f)
    (by rw [slot_set]; exact (View.set_slice _ _).le)) $$ H
  iintro H
  iapply Hk
  iexists ((cM.access (slotR r k)).write (Elt F) f (shapeCast S1x1x1024x1024 v shapeCasts_S1024x1024_S1x1x1024x1024) Finset.univ)
  isplitr
  · ipureintro
    show shapeCast S1024x1024 ((cM.view.slice (slotR r k)).read (Elt F) ((cM.access (slotR r k)).write (Elt F) f _ Finset.univ)) _ = v
    rw [View.read_write_univ]
    exact shapeCast_shapeCast v _ _
  iexact H

/-! ## The two products -/

/-- A staging buffer on device `c`, holding `V`. -/
abbrev buf (b : Memref sig .tc .vmem S1024x1024 .f32) (c : Dev nD) (V : Vec F S1024x1024 .f32) : sProp 𝕄 :=
  owns (c : Thread nD τ) b fullShare V
abbrev bufAny (b : Memref sig .tc .vmem S1024x1024 .f32) (c : Dev nD) : sProp 𝕄 := iprop(∃ V, buf (F := F) b c V)

/-- Reading a staging buffer. -/
theorem buf_load (b : Memref sig .tc .vmem S1024x1024 .f32) (c : Dev nD) (V : Vec F S1024x1024 .f32) {hl : b.view.LoadsAt full2.toLoadRect}
    {kk : Vec F S1024x1024 .f32 → P F} {Q : PUnit → sProp 𝕄} :
    buf (F := F) b c V ⊢ iprop((buf (F := F) b c V -∗ WP c (kk V) Q) -∗ WP c (.op (.load b full2.toLoadRect hl) kk) Q) := by
  unfold buf owns
  iintro ⟨%f, %hf, H⟩ Hk
  iapply (wp_load 𝒱₀ (c : Thread nD τ) none Set.univ (m := b) (r := full2.toLoadRect) (S := b.view.set) (f := f) (View.setOn_subset_set _ _)) $$ H
  iintro H
  have e : b.view.readAt (Elt F) full2.toLoadRect f = V := (View.readAt_full b.view f _).trans hf
  rw [e]
  iapply Hk
  iexists f
  isplitr; · ipureintro; exact hf
  iexact H

/-- Device `c`'s share of the right operand, staged. -/
abbrev wPts (c : Dev nD) : sProp 𝕄 := (c : Thread nD τ).loc cc0_stg0_0 ↦{fullShare} wAt m c

theorem w_load (c : Dev nD) (r : Fin 4) {hl : wM.view.LoadsAt (colR r).toLoadRect}
    {kk : Vec F S1024x1024 .f32 → P F} {Q : PUnit → sProp 𝕄} :
    wPts m c ⊢ iprop((wPts m c -∗ WP c (kk (wcol m c r)) Q) -∗ WP c (.op (.load wM (colR r).toLoadRect hl) kk) Q) :=
  wp_load 𝒱₀ (c : Thread nD τ) none Set.univ (m := wM) (S := Finset.univ) (f := wAt m c) (Finset.subset_univ _)

theorem first_wp (b : Memref sig .tc .vmem S1024x1024 .f32) (c : Dev nD) (r : Fin 4) (j : Fin 2) (V : Vec F S1024x1024 .f32)
    {k : P F} {Q : PUnit → sProp 𝕄} :
    iprop(buf (F := F) b c V ∗ wPts m c ∗ slotAny (F := F) r j c)
      ⊢ iprop((iprop(buf (F := F) b c V ∗ wPts m c ∗ slot r j c (dot V (wcol m c r))) -∗ WP c k Q) -∗ WP c (first b r j k) Q) := by
  unfold first
  iintro ⟨Hb, Hw, %V', Hs⟩ Hk
  iapply (buf_load b c V) $$ Hb
  iintro Hb
  iapply (w_load m c r) $$ Hw
  iintro Hw
  iapply (slot_load c r j V') $$ Hs
  iintro Hs
  rw [shapeCast_self (wcol m c r)]
  iapply (slot_store c r j (dot V (wcol m c r))) $$ [Hs]
  · iexists V'; iexact Hs
  iintro Hs
  iapply Hk
  isplitl [Hb]; · iexact Hb
  isplitl [Hw] <;> iassumption

theorem accum_wp (b : Memref sig .tc .vmem S1024x1024 .f32) (c : Dev nD) (r : Fin 4) (j : Fin 2) (V Y : Vec F S1024x1024 .f32)
    {k : P F} {Q : PUnit → sProp 𝕄} :
    iprop(buf (F := F) b c V ∗ wPts m c ∗ slot (F := F) r j c Y)
      ⊢ iprop((iprop(buf (F := F) b c V ∗ wPts m c ∗ slot r j c (addf Y (dot V (wcol m c r)))) -∗ WP c k Q) -∗ WP c (accum b r j k) Q) := by
  unfold accum
  iintro ⟨Hb, Hw, Hs⟩ Hk
  iapply (slot_load c r j Y) $$ Hs
  iintro Hs
  iapply (buf_load b c V) $$ Hb
  iintro Hb
  iapply (w_load m c r) $$ Hw
  iintro Hw
  iapply (slot_load c r j Y) $$ Hs
  iintro Hs
  rw [shapeCast_self (wcol m c r), shapeCast_shapeCast Y]
  iapply (slot_store c r j (addf Y (dot V (wcol m c r)))) $$ [Hs]
  · iexists Y; iexact Hs
  iintro Hs
  iapply Hk
  isplitl [Hb]; · iexact Hb
  isplitl [Hw] <;> iassumption

/-! ## Staging a chunk of rows -/

/-- What device `c` still owes along the list `l`. -/
def owing (c : Dev nD) (l : List (GSem nD τ sig × ℕ)) : sProp 𝕄 := iprop(∃ W, owes (c : Thread nD τ) (owe l) W)

/-- Device `c`'s share of the left operand. -/
abbrev xPts (c : Dev nD) (q : PosShare TreeShare) : sProp 𝕄 := (c : Thread nD τ).loc main_arg0 ↦{q} xAt m c

abbrev rowsAt (d : Dev nD) : Memref sig .tc .hbm S1024x1024 .f32 := chunkM ![1024 * d.val, 0] (row_inb d)

/-- The chunk `d` on its way into `b`; the rest of the left operand beside it. -/
def staging (b : Memref sig .tc .vmem S1024x1024 .f32) (q : DmaSem sig) (c d : Dev nD) (sh : PosShare TreeShare) : sProp 𝕄 :=
  iprop(Flight EC (c : Thread nD τ) (.dma q) (0 : ℕ) b.view.dmaCredit
      (iprop(buf b c (chunk m c d) ∗ ((rowsAt d).view.loc (c : Thread nD τ) ↦[(rowsAt d).view.set]{sh} xAt m c)) : sProp 𝕄)
    ∗ ((c : Thread nD τ).loc main_arg0 ↦[Finset.univ \ (rowsAt d).view.set]{sh} xAt m c))

theorem stage_wp {off : Fin 2 → ℕ} {h : ∀ a, off a + S1024x1024.size a ≤ S8192x1024.size a} (b : Memref sig .tc .vmem S1024x1024 .f32) {hb : b.IsWhole}
    (q : DmaSem sig) (c d : Dev nD) (sh : PosShare TreeShare) (hoff : off = ![1024 * d.val, 0]) {k : P F} {Q : PUnit → sProp 𝕄} :
    iprop(xPts m c sh ∗ bufAny (F := F) b c ∗ semVal ((c : Thread nD τ), SemLoc.dma q) 0)
      ⊢ iprop((staging m b q c d sh -∗ WP c k Q) -∗ WP c (stage off h b hb q k) Q) := by
  subst hoff
  unfold stage bufAny buf owns
  iintro ⟨Hx, ⟨%V, %f, %hf, Hb⟩, Hv⟩ Hk
  ihave Hx := (pointsTo_split_subset (Finset.subset_univ (rowsAt d).view.set)).1 $$ Hx
  icases Hx with ⟨Hx, Hr⟩
  iapply (Transfers.wp_dmaLocal EC 𝒱₀ (c : Thread nD τ) none (src := rowsAt d) (dst := b) (fs := xAt m c) (fd := f) (0 : ℕ) b.view.dmaCredit rfl
    (View.dmaCredit_pos _ (by decide)) (Finset.Subset.refl _)) $$ [Hx Hb Hv]
  · isplitl [Hx]; · iexact Hx
    isplitl [Hb] <;> iassumption
  iintro Hf
  iapply Hk
  unfold staging
  isplitl [Hf]
  · iapply (Transfers.Flight_mono EC (c : Thread nD τ) ?_) $$ Hf
    iintro ⟨Hb, Hx⟩
    isplitl [Hb]
    · ihave Hb := (owns_intro (c : Thread nD τ) b fullShare _) $$ Hb
      rw [View.read_write_univ]
      iexact Hb
    · iexact Hx
  · iexact Hr

theorem staged_wp {off : Fin 2 → ℕ} {h : ∀ a, off a + S1024x1024.size a ≤ S8192x1024.size a} (b : Memref sig .tc .vmem S1024x1024 .f32) {hb : b.IsWhole}
    (q : DmaSem sig) (c d : Dev nD) (sh : PosShare TreeShare) (l : List (GSem nD τ sig × ℕ))
    (hl : ∀ p ∈ l, p.1.1.2 = .tc ∧ lv ((c : Thread nD τ), .dma q) 0 < lv p.1 0) {k : P F} {Q : PUnit → sProp 𝕄} :
    iprop(levAts L lv ∗ staging m b q c d sh ∗ owing c l)
      ⊢ iprop((iprop(buf b c (chunk m c d) ∗ xPts m c sh ∗ semVal ((c : Thread nD τ), SemLoc.dma q) 0 ∗ owing c l) -∗ WP c k Q)
        -∗ WP c (staged off h b hb q k) Q) := by
  unfold staged staging owing
  iintro ⟨Hlev, ⟨Hf, Hr⟩, %W, HO⟩ Hk
  iapply (Transfers.wp_waitLocalO EC 𝒱₀ (c : Thread nD τ) none (0 : ℕ) rfl (O := owe l) (W := W)) $$ [Hlev Hf HO]
  · isplitl [Hf]; · iexact Hf
    isplitl [HO]; · iexact HO
    iapply (mayWait_owe c _ l hl) $$ Hlev
  iintro ⟨⟨Hb, Hx⟩, Hv, HO⟩
  iapply Hk
  isplitl [Hb]; · iexact Hb
  isplitl [Hx Hr]
  · iapply (pointsTo_split_subset (Finset.subset_univ (rowsAt d).view.set)).2
    isplitl [Hx] <;> iassumption
  isplitl [Hv]; · iexact Hv
  iexists _; iexact HO

/-! ## Writing a block back -/

/-- Ring `r`'s slot 1 on its way into the ring's columns of the result. -/
def writing (c : Dev nD) (r : Fin 4) (j : Fin 2) (V : Vec F S1024x1024 .f32) : sProp 𝕄 :=
  Flight EC (c : Thread nD τ) (.dma (outS r)) (0 : ℕ) (outM r).view.dmaCredit
    (iprop(owns (c : Thread nD τ) (outM r) fullShare V ∗ slotAny r j c) : sProp 𝕄)

theorem writeBack_wp (c : Dev nD) (r : Fin 4) (j : Fin 2) (V : Vec F S1024x1024 .f32) {k : P F} {Q : PUnit → sProp 𝕄} :
    iprop(slot (F := F) r j c V ∗ (∃ V', owns (c : Thread nD τ) (outM r) fullShare V') ∗ semVal ((c : Thread nD τ), SemLoc.dma (outS r)) 0)
      ⊢ iprop((writing c r j V -∗ WP c k Q) -∗ WP c (writeBack r j k) Q) := by
  unfold writeBack slot owns
  iintro ⟨⟨%g, %hg, Hs⟩, ⟨%V', %f, %hf, Ho⟩, Hv⟩ Hk
  iapply (Transfers.wp_dmaLocal EC 𝒱₀ (c : Thread nD τ) none (src := slotM r j) (dst := outM r) (fs := g) (fd := f) (0 : ℕ) (outM r).view.dmaCredit rfl
    (View.dmaCredit_pos _ (by decide)) (Finset.Subset.refl _)) $$ [Hs Ho Hv]
  · isplitl [Hs]; · iexact Hs
    isplitl [Ho] <;> iassumption
  iintro Hf
  iapply Hk
  unfold writing
  iapply (Transfers.Flight_mono EC (c : Thread nD τ) ?_) $$ Hf
  iintro ⟨Ho, Hs⟩
  isplitl [Ho]
  · ihave Ho := (owns_intro (c : Thread nD τ) (outM r) fullShare _) $$ Ho
    rw [View.read_write_univ, ReadAs.apply_same, hg]
    iexact Ho
  · iexists _
    iapply (owns_intro (c : Thread nD τ) (slotM r j) fullShare g) $$ Hs

theorem written_wp (c : Dev nD) (r : Fin 4) (j : Fin 2) (V : Vec F S1024x1024 .f32) (l : List (GSem nD τ sig × ℕ))
    (hl : ∀ p ∈ l, p.1.1.2 = .tc ∧ lv ((c : Thread nD τ), .dma (outS r)) 0 < lv p.1 0) {k : P F} {Q : PUnit → sProp 𝕄} :
    iprop(levAts L lv ∗ writing c r j V ∗ owing c l)
      ⊢ iprop((iprop(owns (c : Thread nD τ) (outM r) fullShare V ∗ slotAny (F := F) r j c ∗ semVal ((c : Thread nD τ), SemLoc.dma (outS r)) 0 ∗ owing c l) -∗ WP c k Q)
        -∗ WP c (written r j k) Q) := by
  unfold written writing owing
  iintro ⟨Hlev, Hf, %W, HO⟩ Hk
  iapply (Transfers.wp_waitLocalO EC 𝒱₀ (c : Thread nD τ) none (0 : ℕ) rfl (O := owe l) (W := W)) $$ [Hlev Hf HO]
  · isplitl [Hf]; · iexact Hf
    isplitl [HO]; · iexact HO
    iapply (mayWait_owe c _ l hl) $$ Hlev
  iintro ⟨⟨Ho, Hs⟩, Hv, HO⟩
  iapply Hk
  isplitl [Ho]; · iexact Ho
  isplitl [Hs]; · iexact Hs
  isplitl [Hv]; · iexact Hv
  iexists _; iexact HO

end Cert.KernelIdeal.Hop
-- ==== Proof.Hop.Ring.lean ====
/-
# The stretches between devices

The rules of the handshake, of a transfer to the next device of a ring, and of the two waits it ends in.
-/
module

public import proofs.«01_k».proof.Proof.Hop.Local

@[expose] public section

set_option maxRecDepth 16384

noncomputable section

namespace Cert.KernelIdeal.Hop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The records every device may use -/

/-- The cells of a device: its barrier cell, its send cells, its receive cells. -/
abbrev Ck : Type := Option (Bool × Fin 4)

def kcell (x : Dev nD × Ck) : GSem nD τ sig :=
  match x.2 with
  | none => barCell x.1
  | some (false, r) => sendCell r 0 x.1
  | some (true, r) => recvCell r 1 x.1

/-- Every cell runs the schedule, and stands open at its first round; the levels. -/
def recs (K : Dev nD × Ck → ℕ) : sProp 𝕄 :=
  iprop(bigSep Finset.univ (fun x => cellInv ER (Rd m) (K x) (kcell x)) ∗ bigSep Finset.univ (fun x => reached ER (kcell x) 0) ∗ levAts L lv)

instance recs_persistent (K : Dev nD × Ck → ℕ) : BI.Persistent (recs m K) := by unfold recs; infer_instance

variable (K : Dev nD × Ck → ℕ)

theorem inv_at (x : Dev nD × Ck) : recs m K ⊢ cellInv ER (Rd m) (K x) (kcell x) := by
  unfold recs; exact sep_elim_left.trans (bigSep_elim (Φ := fun x => cellInv ER (Rd m) (K x) (kcell x)) (Finset.mem_univ x))
theorem reached_at (x : Dev nD × Ck) : recs m K ⊢ reached ER (kcell x) 0 := by
  unfold recs; exact sep_elim_right.trans (sep_elim_left.trans (bigSep_elim (Φ := fun x => reached ER (kcell x) 0) (Finset.mem_univ x)))
theorem lev_at : recs m K ⊢ levAts L lv := by
  unfold recs; iintro ⟨-, -, H⟩; iexact H

/-! ## A transfer to the next device of the ring -/

/-- The right to one transfer of ring `r` from device `c`. -/
def sendable (r : Fin 4) (c : Dev nD) : sProp 𝕄 :=
  iprop(dutyTok ER (sendCell r 0 c) 0 false ∗ dutyTok ER (recvCell r 1 (dn r c)) 0 false)

theorem send_wp (c n : Dev nD) (r : Fin 4) (hn : n = dn r c) (l : List (GSem nD τ sig × ℕ)) {k : P F} {Q : PUnit → sProp 𝕄} :
    iprop(recs m K ∗ sendable (F := F) r c ∗ slot r 0 c (part m r 0 c) ∗ slotAny (F := F) r 1 (dn r c) ∗ owing (F := F) c ((recvCell r 1 (dn r c), N) :: l))
      ⊢ iprop((iprop(cred (tallyAt (sendCell r 0 c) 0 N) ∗ owing c l) -∗ WP c k Q) -∗ WP c (send n r 0 1 k) Q) := by
  subst hn
  unfold send sendable slotAny slot owns owing
  iintro ⟨#HR, ⟨Ht, Ht'⟩, ⟨%f, %hf, Hs⟩, ⟨%V, %g, %hg, Hd⟩, %W, HO⟩ Hk
  iapply (Rounds.wp_send_pointsTo 𝒱₀ ER (Rd m) (c : Thread nD τ) none (c' := (dn r c : Thread nD τ)) (src := slotM r 0) (dst := slotM r 1)
      (sS := .dma (sendS r 0)) (sem := .dma (recvS r 1)) (fs := f) (fd := g)
      (κ₁ := K (c, some (false, r))) (κ₂ := K (dn r c, some (true, r)))
      (r₁ := 0) (r₂ := 0) (d₁ := false) (d₂ := false)
      (by rw [duties_send]; exact Finset.mem_singleton_self _) (by rw [duties_recv]; exact Finset.mem_singleton_self _)
      (0 : ℕ) (0 : ℕ) N rfl (amount_send m c r 0 0 false) (amount_recv m (dn r c) r 1 0 false) (owe l) rfl (W := W)
      (by rw [payload_send]; iintro H; iexists _; iapply (owns_intro (c : Thread nD τ) (slotM r 0) fullShare f) $$ H)
      (by
        rw [payload_recv, up_dn]; iintro H
        ihave H := (owns_intro (dn r c : Thread nD τ) (slotM r 1) fullShare _) $$ H
        rw [View.read_write_univ, hf]
        iexact H)) $$ [Ht Ht' Hs Hd HO]
  · isplitr; · iapply (inv_at m K (c, some (false, r))) $$ HR
    isplitr; · iapply (inv_at m K (dn r c, some (true, r))) $$ HR
    isplitl [Hs]; · iexact Hs
    isplitl [Hd]; · iexact Hd
    isplitl [HO]; · iexact HO
    isplitl [Ht]; · iexact Ht
    isplitr; · iapply (reached_at m K (c, some (false, r))) $$ HR
    isplitl [Ht']; · iexact Ht'
    iapply (reached_at m K (dn r c, some (true, r))) $$ HR
  iintro ⟨Hc, HO⟩
  iapply Hk
  isplitl [Hc]; · iexact Hc
  iexists W; iexact HO

/-- The wait until it is sent brings its source back, -/
theorem sent_wp (c : Dev nD) (r : Fin 4) (l : List (GSem nD τ sig × ℕ))
    (hl : ∀ p ∈ l, p.1.1.2 = .tc ∧ lv ((c : Thread nD τ), .dma (sendS r 0)) 0 < lv p.1 0) {k : P F} {Q : PUnit → sProp 𝕄} :
    iprop(recs m K ∗ cred (tallyAt (sendCell r 0 c) 0 N) ∗ atPos ER (sendCell r 0 c) 0 ∅ 0 ∗ owing (F := F) c l)
      ⊢ iprop((iprop(slotAny (F := F) r 0 c ∗ semVal (sendCell r 0 c) 0 ∗ owing c l) -∗ WP c k Q) -∗ WP c (sent r 0 1 k) Q) := by
  unfold sent owing
  iintro ⟨#HR, Hc, Hat, %W, HO⟩ Hk
  iapply (Rounds.wp_wait_rest_token 𝒱₀ ER (Rd m) (c : Thread nD τ) none (κ := K (c, some (false, r)))
      (wpE_waitDma2_eq 𝒱₀ (c : Thread nD τ) none Set.univ) (Set.mem_univ _) (0 : ℕ) (O := owe l) (W := W) (R := 0) (m := 0) (T := ∅)
      (by rw [Nat.zero_add, expect_send])) $$ [Hc Hat HO]
  · isplitr; · iapply (inv_at m K (c, some (false, r))) $$ HR
    isplitl [Hc]; · iexact Hc
    isplitl [HO]; · iexact HO
    isplitr; · iapply (mayWait_owe c _ l hl); iapply (lev_at m K) $$ HR
    iexact Hat
  iintro ⟨HO, Hat, -, Hpay⟩
  ihave Hs := (Entails.of_eq (rest_send m c r)) $$ Hpay
  imod (Rounds.cell_close ER (Rd m) (Set.mem_univ (K (c, some (false, r)))) (fun h => h) (R := 0 + 1) (duties_later m (sendCell r 0 c))) $$ [Hat] with Hz
  · isplitr; · iapply (inv_at m K (c, some (false, r))) $$ HR
    iexact Hat
  iapply Hk
  isplitl [Hs]; · iexact Hs
  isplitl [Hz]; · iexact Hz
  iexists _; iexact HO

/-- the wait until it has landed the partial sum of the device behind. -/
theorem landed_wp (c : Dev nD) (r : Fin 4) (l : List (GSem nD τ sig × ℕ))
    (hl : ∀ p ∈ l, p.1.1.2 = .tc ∧ lv ((c : Thread nD τ), .dma (recvS r 1)) 0 < lv p.1 0) {k : P F} {Q : PUnit → sProp 𝕄} :
    iprop(recs m K ∗ cred (tallyAt (recvCell r 1 c) 0 N) ∗ atPos ER (recvCell r 1 c) 0 ∅ 0 ∗ owing (F := F) c l)
      ⊢ iprop((iprop(slot r 1 c (part m r 0 (up r c)) ∗ semVal (recvCell r 1 c) 0 ∗ owing c l) -∗ WP c k Q) -∗ WP c (landed r 0 1 k) Q) := by
  unfold landed owing
  iintro ⟨#HR, Hc, Hat, %W, HO⟩ Hk
  iapply (Rounds.wp_wait_rest_token 𝒱₀ ER (Rd m) (c : Thread nD τ) none (κ := K (c, some (true, r)))
      (wpE_waitDma2_eq 𝒱₀ (c : Thread nD τ) none Set.univ) (Set.mem_univ _) (0 : ℕ) (O := owe l) (W := W) (R := 0) (m := 0) (T := ∅)
      (by rw [Nat.zero_add, expect_recv])) $$ [Hc Hat HO]
  · isplitr; · iapply (inv_at m K (c, some (true, r))) $$ HR
    isplitl [Hc]; · iexact Hc
    isplitl [HO]; · iexact HO
    isplitr; · iapply (mayWait_owe c _ l hl); iapply (lev_at m K) $$ HR
    iexact Hat
  iintro ⟨HO, Hat, -, Hpay⟩
  ihave Hs := (Entails.of_eq (rest_recv m c r)) $$ Hpay
  imod (Rounds.cell_close ER (Rd m) (Set.mem_univ (K (c, some (true, r)))) (fun h => h) (R := 0 + 1) (duties_later m (recvCell r 1 c))) $$ [Hat] with Hz
  · isplitr; · iapply (inv_at m K (c, some (true, r))) $$ HR
    iexact Hat
  iapply Hk
  isplitl [Hs]; · iexact Hs
  isplitl [Hz]; · iexact Hz
  iexists _; iexact HO

/-! ## The handshake -/

theorem below_sends (c : Dev nD) {sm : SemLoc sig} (h : kd sm = .bar ∨ kd sm = .other) :
    ∀ p ∈ sends c, p.1.1.2 = .tc ∧ lv ((c : Thread nD τ), sm) 0 < lv p.1 0 := by
  intro p hp
  unfold sends at hp
  simp only [List.mem_cons, List.not_mem_nil, _root_.or_false] at hp
  rcases hp with rfl | rfl | rfl | rfl <;> refine ⟨rfl, ?_⟩ <;> unfold lv <;> dsimp only <;> rw [kd_recv] <;>
    rcases h with h | h <;> rw [h] <;> decide

/-- Each device hands its landing slots to the devices that will send into them. -/
theorem handshake_wp (c n₁ n₂ : Dev nD) (h₁ : n₁ = prv c) (h₂ : n₂ = nxt c) {k : P F} {Q : PUnit → sProp 𝕄} :
    iprop(recs m K ∗ dutyTok ER (barCell (prv c)) 0 true ∗ dutyTok ER (barCell (nxt c)) 0 false ∗ atPos ER (barCell c) 0 ∅ 0
        ∗ cred (tallyAt (barCell c) 0 2) ∗ slotAny (F := F) 0 1 c ∗ slotAny (F := F) 1 1 c ∗ slotAny (F := F) 2 1 c ∗ slotAny (F := F) 3 1 c
        ∗ owing (F := F) c (pays c))
      ⊢ iprop((iprop(semVal (barCell c) 0 ∗ slotAny (F := F) 0 1 (dn 0 c) ∗ slotAny (F := F) 1 1 (dn 1 c) ∗ slotAny (F := F) 2 1 (dn 2 c)
          ∗ slotAny (F := F) 3 1 (dn 3 c) ∗ owing c (sends c)) -∗ WP c k Q) -∗ WP c (handshake n₁ n₂ k) Q) := by
  subst h₁ h₂
  unfold handshake owing
  iintro ⟨#HR, Htp, Htn, Hat, Hc, Hs0, Hs1, Hs2, Hs3, %W, HO⟩ Hk
  iapply (Rounds.wp_signal 𝒱₀ ER (Rd m) (c : Thread nD τ) none (dst := (prv c : Thread nD τ)) (κ := K (prv c, none)) (d := true)
      (by rw [duties_bar]; exact Finset.mem_univ _) ((amount_bar m (prv c) 0 true).trans (by decide)) (0 : ℕ)
      (owe ((barCell (nxt c), 1) :: sends c)) rfl) $$ [HO Htp Hs0 Hs1]
  · isplitr; · iapply (inv_at m K (prv c, none)) $$ HR
    isplitl [HO]; · iexact HO
    isplitl [Htp]; · iexact Htp
    isplitl [Hs0 Hs1]
    · rw [payload_bar]; unfold barPay give
      rw [if_pos rfl, nxt_prv]
      isplitl [Hs0]
      · isplitl [Hs0]; · iexact Hs0
        iapply (reached_at m K (c, some (true, 0))) $$ HR
      · isplitl [Hs1]; · iexact Hs1
        iapply (reached_at m K (c, some (true, 1))) $$ HR
    iapply (reached_at m K (prv c, none)) $$ HR
  iintro HO
  iapply (Rounds.wp_signal 𝒱₀ ER (Rd m) (c : Thread nD τ) none (dst := (nxt c : Thread nD τ)) (κ := K (nxt c, none)) (d := false)
      (by rw [duties_bar]; exact Finset.mem_univ _) ((amount_bar m (nxt c) 0 false).trans (by decide)) (0 : ℕ)
      (owe (sends c)) rfl) $$ [HO Htn Hs2 Hs3]
  · isplitr; · iapply (inv_at m K (nxt c, none)) $$ HR
    isplitl [HO]; · iexact HO
    isplitl [Htn]; · iexact Htn
    isplitl [Hs2 Hs3]
    · rw [payload_bar]; unfold barPay give
      rw [if_neg (by decide), prv_nxt]
      isplitl [Hs2]
      · isplitl [Hs2]; · iexact Hs2
        iapply (reached_at m K (c, some (true, 2))) $$ HR
      · isplitl [Hs3]; · iexact Hs3
        iapply (reached_at m K (c, some (true, 3))) $$ HR
    iapply (reached_at m K (nxt c, none)) $$ HR
  iintro HO
  iapply (Rounds.wp_wait_rest_token 𝒱₀ ER (Rd m) (c : Thread nD τ) none (κ := K (c, none))
      (wpE_semWait_eq 𝒱₀ (c : Thread nD τ) none Set.univ) (Set.mem_univ _) (0 : ℕ) (O := owe (sends c)) (W := W) (R := 0) (m := 0) (T := ∅)
      (by rw [expect_bar])) $$ [Hc HO Hat]
  · isplitr; · iapply (inv_at m K (c, none)) $$ HR
    isplitl [Hc]; · iexact Hc
    isplitl [HO]; · iexact HO
    isplitr
    · iapply (mayWait_owe c _ (sends c) (below_sends c (.inl kd_bar))); iapply (lev_at m K) $$ HR
    iexact Hat
  iintro ⟨HO, Hat, -, Hpay⟩
  ihave Hp := (Entails.of_eq (rest_bar m c)) $$ Hpay
  unfold barPay give
  rw [if_pos rfl, if_neg (by decide)]
  icases Hp with ⟨⟨⟨Hs2, -⟩, Hs3, -⟩, ⟨Hs0, -⟩, Hs1, -⟩
  imod (Rounds.cell_close ER (Rd m) (Set.mem_univ (K (c, none))) (fun h => h) (R := 0 + 1) (duties_later m (barCell c))) $$ [Hat] with Hz
  · isplitr; · iapply (inv_at m K (c, none)) $$ HR
    iexact Hat
  iapply Hk
  isplitl [Hz]; · iexact Hz
  isplitl [Hs0]; · iexact Hs0
  isplitl [Hs1]; · iexact Hs1
  isplitl [Hs2]; · iexact Hs2
  isplitl [Hs3]; · iexact Hs3
  iexists _; iexact HO

end Cert.KernelIdeal.Hop
-- ==== Proof.Hop.Split.lean ====
/-
# The buffers taken apart

The rings' scratch is its eight slots, the result its four rings' columns.
-/
module

public import proofs.«01_k».proof.Proof.Hop.Local

@[expose] public section

set_option maxRecDepth 16384

noncomputable section

namespace Cert.KernelIdeal.Hop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The rings' scratch -/

theorem slot_disjoint (t t' : Fin 4 × Fin 2) (h : t ≠ t') : Disjoint (slotM t.1 t.2).view.set (slotM t'.1 t'.2).view.set := by
  rw [slot_set, slot_set]
  refine (Finset.disjoint_map _).mpr (Finset.disjoint_left.mpr fun i hi hi' => h ?_)
  have h0 := Rect.mem_set_unit.mp hi
  have h1 := Rect.mem_set_unit.mp hi'
  have a0 := h0 0; have a1 := h0 1; have b0 := h1 0; have b1 := h1 1
  simp only [Matrix.cons_val_zero, Matrix.cons_val_one] at a0 a1 b0 b1
  change t.1.val ≤ _ ∧ _ < t.1.val + 1 at a0
  change t.2.val ≤ _ ∧ _ < t.2.val + 1 at a1
  change t'.1.val ≤ _ ∧ _ < t'.1.val + 1 at b0
  change t'.2.val ≤ _ ∧ _ < t'.2.val + 1 at b1
  exact Prod.ext (Fin.ext (by omega)) (Fin.ext (by omega))

/-- A slot's elements of the scratch. -/
abbrev slotSet (c : Dev nD) (t : Fin 4 × Fin 2) : Finset (Idx ((c : Thread nD τ).loc cc0_scratch2)) := (slotM t.1 t.2).view.set

theorem slot_cover (c : Dev nD) : Finset.univ.biUnion (slotSet c) = Finset.univ := by
  refine Finset.eq_univ_iff_forall.mpr fun i => ?_
  let i' : S4x2x1024x1024.Idx := i
  have h0 : (i' 0).val < 4 := (i' 0).isLt
  have h1 : (i' 1).val < 2 := (i' 1).isLt
  have h2 : (i' 2).val < 1024 := (i' 2).isLt
  have h3 : (i' 3).val < 1024 := (i' 3).isLt
  refine Finset.mem_biUnion.mpr ⟨(⟨(i' 0).val, h0⟩, ⟨(i' 1).val, h1⟩), Finset.mem_univ _, ?_⟩
  rw [slotSet, slot_set]
  refine Finset.mem_map.mpr ⟨i', Rect.mem_set_unit.mpr ?_, rfl⟩
  intro a
  fin_cases a
  · exact ⟨le_rfl, Nat.lt_succ_self _⟩
  · exact ⟨le_rfl, Nat.lt_succ_self _⟩
  · exact ⟨Nat.zero_le _, by show (i' 2).val < 0 + 1024; omega⟩
  · exact ⟨Nat.zero_le _, by show (i' 3).val < 0 + 1024; omega⟩

/-- All the slots of a device, holding anything. -/
def slots (c : Dev nD) : sProp 𝕄 :=
  iprop(slotAny (F := F) 0 0 c ∗ slotAny (F := F) 1 0 c ∗ slotAny (F := F) 2 0 c ∗ slotAny (F := F) 3 0 c
    ∗ slotAny (F := F) 0 1 c ∗ slotAny (F := F) 1 1 c ∗ slotAny (F := F) 2 1 c ∗ slotAny (F := F) 3 1 c)

theorem slots_eq (c : Dev nD) : (bigSep Finset.univ fun t : Fin 4 × Fin 2 => slotAny (F := F) t.1 t.2 c) = slots c :=
  bigSep_univ_eq_bigSepL [(0, 0), (1, 0), (2, 0), (3, 0), (0, 1), (1, 1), (2, 1), (3, 1)] (by decide) (by decide) _

theorem slots_split (c : Dev nD) (f : Buf (Elt F) ((c : Thread nD τ).loc cc0_scratch2)) :
    ((c : Thread nD τ).loc cc0_scratch2 ↦{fullShare} f) ⊢ slots (F := F) c := by
  have e : ((c : Thread nD τ).loc cc0_scratch2 ↦{fullShare} f : sProp 𝕄)
      = bigSep Finset.univ fun t => ((c : Thread nD τ).loc cc0_scratch2 ↦[slotSet c t]{fullShare} f) := by
    rw [← pointsTo_biUnion Finset.univ (slotSet c) (fun t _ t' _ h => slot_disjoint t t' h), slot_cover c]
  have h (t : Fin 4 × Fin 2) : ((c : Thread nD τ).loc cc0_scratch2 ↦[slotSet c t]{fullShare} f : sProp 𝕄) ⊢ slotAny (F := F) t.1 t.2 c := by
    iintro H
    iexists _
    iapply (owns_intro (c : Thread nD τ) (slotM t.1 t.2) fullShare f) $$ H
  rw [← slots_eq, e]
  exact bigSep_mono fun t _ => h t

theorem slots_join (c : Dev nD) :
    slots (F := F) c ⊢ (iprop(∃ f : Buf (Elt F) ((c : Thread nD τ).loc cc0_scratch2), ((c : Thread nD τ).loc cc0_scratch2) ↦{fullShare} f) : sProp 𝕄) := by
  have h (t : Fin 4 × Fin 2) : slotAny (F := F) t.1 t.2 c
      ⊢ (iprop(∃ f : Buf (Elt F) ((c : Thread nD τ).loc cc0_scratch2), (c : Thread nD τ).loc cc0_scratch2 ↦[slotSet c t]{fullShare} f) : sProp 𝕄) := by
    unfold slotAny slot owns
    iintro ⟨%V, %f, -, H⟩
    iexists f; iexact H
  rw [← slots_eq]
  iintro H
  ihave H := (show _ ⊢ _ from bigSep_mono (s := Finset.univ) fun t _ => h t) $$ H
  ihave H := (BI.bigSep_exists_pi Finset.univ (fun (t : Fin 4 × Fin 2) (f : Buf (Elt F) ((c : Thread nD τ).loc cc0_scratch2)) =>
    ((c : Thread nD τ).loc cc0_scratch2 ↦[slotSet c t]{fullShare} f : sProp 𝕄))) $$ H
  icases H with ⟨%fs, H⟩
  ihave H := (pointsTo_biUnion_join Finset.univ (slotSet c) fs (fs (0, 0)) (fun t _ t' _ h => slot_disjoint t t' h)) $$ H
  icases H with ⟨%g, -, H⟩
  rw [slot_cover c]
  iexists g; iexact H

/-! ## The result -/

theorem col_set (r : Fin 4) : (outM r).view.set = oM.view.setOn (colR r).set := View.set_slice _ _

theorem col_disjoint (r r' : Fin 4) (h : r ≠ r') : Disjoint (outM r).view.set (outM r').view.set := by
  rw [col_set, col_set]
  refine (Finset.disjoint_map _).mpr (Finset.disjoint_left.mpr fun i hi hi' => h ?_)
  have a := Rect.mem_set_unit.mp hi 1
  have b := Rect.mem_set_unit.mp hi' 1
  change 1024 * r.val ≤ _ ∧ _ < 1024 * r.val + 1024 at a
  change 1024 * r'.val ≤ _ ∧ _ < 1024 * r'.val + 1024 at b
  exact Fin.ext (by omega)

/-- The elements of ring `r`'s columns. -/
abbrev colSet (c : Dev nD) (r : Fin 4) : Finset (Idx ((c : Thread nD τ).loc main_v1)) := (outM r).view.set

theorem col_cover (c : Dev nD) : Finset.univ.biUnion (colSet c) = Finset.univ := by
  refine Finset.eq_univ_iff_forall.mpr fun i => ?_
  let i' : S1024x4096.Idx := i
  have h0 : (i' 0).val < 1024 := (i' 0).isLt
  have h1 : (i' 1).val < 4096 := (i' 1).isLt
  refine Finset.mem_biUnion.mpr ⟨⟨(i' 1).val / 1024, by omega⟩, Finset.mem_univ _, ?_⟩
  rw [colSet, col_set]
  refine Finset.mem_map.mpr ⟨i', Rect.mem_set_unit.mpr ?_, rfl⟩
  intro a
  fin_cases a
  · exact ⟨Nat.zero_le _, by show (i' 0).val < 0 + 1024; omega⟩
  · show 1024 * ((i' 1).val / 1024) ≤ (i' 1).val ∧ (i' 1).val < 1024 * ((i' 1).val / 1024) + 1024; omega

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Ring `r`'s columns of the result on device `c`. -/
abbrev col (r : Fin 4) (c : Dev nD) (V : Vec F S1024x1024 .f32) : sProp 𝕄 := owns (c : Thread nD τ) (outM r) fullShare V
abbrev colAny (r : Fin 4) (c : Dev nD) : sProp 𝕄 := iprop(∃ V, col (F := F) r c V)

theorem cols_split (c : Dev nD) (f : Buf (Elt F) ((c : Thread nD τ).loc main_v1)) :
    ((c : Thread nD τ).loc main_v1 ↦{fullShare} f)
      ⊢ iprop(colAny (F := F) 0 c ∗ colAny (F := F) 1 c ∗ colAny (F := F) 2 c ∗ colAny (F := F) 3 c) := by
  have e : ((c : Thread nD τ).loc main_v1 ↦{fullShare} f : sProp 𝕄)
      = bigSep Finset.univ fun r => ((c : Thread nD τ).loc main_v1 ↦[colSet c r]{fullShare} f) := by
    rw [← pointsTo_biUnion Finset.univ (colSet c) (fun r _ r' _ h => col_disjoint r r' h), col_cover c]
  have h (r : Fin 4) : ((c : Thread nD τ).loc main_v1 ↦[colSet c r]{fullShare} f : sProp 𝕄) ⊢ colAny (F := F) r c := by
    iintro H
    iexists _
    iapply (owns_intro (c : Thread nD τ) (outM r) fullShare f) $$ H
  rw [← bigSep_four (fun r => colAny (F := F) r c), e]
  exact bigSep_mono fun r _ => h r

theorem cols_join (c : Dev nD) (V : Fin 4 → Vec F S1024x1024 .f32) :
    iprop(col (F := F) 0 c (V 0) ∗ col (F := F) 1 c (V 1) ∗ col (F := F) 2 c (V 2) ∗ col (F := F) 3 c (V 3))
      ⊢ (iprop(∃ f : Buf (Elt F) ((c : Thread nD τ).loc main_v1), ⌜∀ r, (outM r).view.read (Elt F) f = V r⌝ ∗ ((c : Thread nD τ).loc main_v1) ↦{fullShare} f) : sProp 𝕄) := by
  have h (r : Fin 4) : col (F := F) r c (V r)
      ⊢ (iprop(∃ f : Buf (Elt F) ((c : Thread nD τ).loc main_v1), ⌜(outM r).view.read (Elt F) f = V r⌝
        ∗ (c : Thread nD τ).loc main_v1 ↦[colSet c r]{fullShare} f) : sProp 𝕄) := by
    unfold col owns
    iintro ⟨%f, %hf, H⟩
    iexists f
    isplitr; · ipureintro; exact hf
    iexact H
  rw [← bigSep_four (fun r => col (F := F) r c (V r))]
  iintro H
  ihave H := (show _ ⊢ _ from bigSep_mono (s := Finset.univ) fun r _ => h r) $$ H
  ihave H := (BI.bigSep_exists_pi Finset.univ (fun (r : Fin 4) (f : Buf (Elt F) ((c : Thread nD τ).loc main_v1)) =>
    (iprop(⌜(outM r).view.read (Elt F) f = V r⌝ ∗ (c : Thread nD τ).loc main_v1 ↦[colSet c r]{fullShare} f) : sProp 𝕄))) $$ H
  icases H with ⟨%fs, H⟩
  ihave H := (BI.bigSep_pure_sep Finset.univ (fun r : Fin 4 => (outM r).view.read (Elt F) (fs r) = V r)
    (fun r => ((c : Thread nD τ).loc main_v1 ↦[colSet c r]{fullShare} fs r : sProp 𝕄))) $$ H
  icases H with ⟨%hp, H⟩
  ihave H := (pointsTo_biUnion_join Finset.univ (colSet c) fs (fs 0) (fun r _ r' _ h => col_disjoint r r' h)) $$ H
  icases H with ⟨%g, %hg, H⟩
  rw [col_cover c]
  iexists g
  isplitr
  · ipureintro
    intro r
    rw [← hp r (Finset.mem_univ r)]
    exact View.read_congr fun i hi => hg r (Finset.mem_univ r) i hi
  · iexact H

end Cert.KernelIdeal.Hop
-- ==== Proof.Hop.Body.lean ====
/-
# The body's run

The body is run once, at a device `c` left open, one stretch after the other.
-/
module

public import proofs.«01_k».proof.Proof.Hop.Ring
public import proofs.«01_k».proof.Proof.Hop.Split

@[expose] public section

set_option maxRecDepth 16384

noncomputable section

namespace Cert.KernelIdeal.Hop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

variable (K : Dev nD × Ck → ℕ)

/-! ## Who is who -/

theorem dev1 (c : Dev nD) : (⟨k0_dev1 c, k0_dev1_lt c⟩ : Dev nD) = prv c := Fin.ext (k0_dev1_eq c)
theorem dev2 (c : Dev nD) : (⟨k0_dev2 c, k0_dev2_lt c⟩ : Dev nD) = nxt c := Fin.ext (k0_dev2_eq c)
theorem dev3 (c : Dev nD) : (⟨k0_dev3 c, k0_dev3_lt c⟩ : Dev nD) = dn 0 c := Fin.ext (k0_dev3_eq c)
theorem dev4 (c : Dev nD) : (⟨k0_dev4 c, k0_dev4_lt c⟩ : Dev nD) = dn 1 c := Fin.ext (k0_dev4_eq c)
theorem dev5 (c : Dev nD) : (⟨k0_dev5 c, k0_dev5_lt c⟩ : Dev nD) = dn 2 c := Fin.ext (k0_dev5_eq c)
theorem dev6 (c : Dev nD) : (⟨k0_dev6 c, k0_dev6_lt c⟩ : Dev nD) = dn 3 c := Fin.ext (k0_dev6_eq c)

theorem off1 (c : Dev nD) : k0_off1 c = ![1024 * (prv c).val, 0] := k0_off1_eq c
theorem off2 (c : Dev nD) : k0_off2 c = ![1024 * (nxt c).val, 0] := k0_off2_eq c
theorem off3 (c : Dev nD) : k0_off3 c = ![1024 * (prv (prv c)).val, 0] := by
  rw [k0_off3_eq c, show (prv (prv c)).val = (c.val + 14) % 8 by show ((c.val + 7) % 8 + 7) % 8 = _; omega]
theorem off4 (c : Dev nD) : k0_off4 c = ![1024 * (nxt (nxt c)).val, 0] := by
  rw [k0_off4_eq c, show (nxt (nxt c)).val = (c.val + 2) % 8 by show ((c.val + 1) % 8 + 1) % 8 = _; omega]

theorem below_nil (c : Dev nD) (sm : SemLoc sig) :
    ∀ p ∈ ([] : List (GSem nD τ sig × ℕ)), p.1.1.2 = .tc ∧ lv ((c : Thread nD τ), sm) 0 < lv p.1 0 := fun _ h => absurd h List.not_mem_nil
theorem below_suffix (c : Dev nD) {sm : SemLoc sig} (h : kd sm = .other) {l : List (GSem nD τ sig × ℕ)} (hl : ∀ p ∈ l, p ∈ sends c) :
    ∀ p ∈ l, p.1.1.2 = .tc ∧ lv ((c : Thread nD τ), sm) 0 < lv p.1 0 := fun p hp => below_sends c (.inr h) p (hl p hp)

/-! ## What a device holds, before and after -/

/-- Ring `r`'s positions on device `c`, and its right to send. -/
def ringLin (r : Fin 4) (c : Dev nD) : sProp 𝕄 :=
  iprop(atPos ER (sendCell r 0 c) 0 ∅ 0 ∗ atPos ER (recvCell r 1 c) 0 ∅ 0 ∗ sendable (F := F) r c)

/-- A device's own ghost state. -/
def lin (c : Dev nD) : sProp 𝕄 :=
  iprop(atPos ER (barCell c) 0 ∅ 0 ∗ dutyTok ER (barCell (prv c)) 0 true ∗ dutyTok ER (barCell (nxt c)) 0 false
    ∗ ringLin (F := F) 0 c ∗ ringLin (F := F) 1 c ∗ ringLin (F := F) 2 c ∗ ringLin (F := F) 3 c)

/-- The credit it waits with. -/
def creds (c : Dev nD) : sProp 𝕄 :=
  iprop(cred (tallyAt (barCell c) 0 2) ∗ cred (tallyAt (recvCell 0 1 c) 0 N) ∗ cred (tallyAt (recvCell 1 1 c) 0 N)
    ∗ cred (tallyAt (recvCell 2 1 c) 0 N) ∗ cred (tallyAt (recvCell 3 1 c) 0 N))

abbrev zero (c : Dev nD) (q : DmaSem sig) : sProp 𝕄 := semVal ((c : Thread nD τ), SemLoc.dma q) 0

/-- The semaphores of its local transfers, at zero. -/
def locals (c : Dev nD) : sProp 𝕄 :=
  iprop(zero (F := F) c aS ∗ zero (F := F) c bS ∗ zero (F := F) c (outS 0) ∗ zero (F := F) c (outS 1) ∗ zero (F := F) c (outS 2) ∗ zero (F := F) c (outS 3))

/-- The semaphores of its cells, at zero. -/
def ringSems (c : Dev nD) : sProp 𝕄 :=
  iprop((zero (F := F) c (sendS 0 0) ∗ zero (F := F) c (sendS 1 0) ∗ zero (F := F) c (sendS 2 0) ∗ zero (F := F) c (sendS 3 0))
    ∗ zero (F := F) c (recvS 0 1) ∗ zero (F := F) c (recvS 1 1) ∗ zero (F := F) c (recvS 2 1) ∗ zero (F := F) c (recvS 3 1))

def bufs (c : Dev nD) : sProp 𝕄 := iprop(bufAny (F := F) aM c ∗ bufAny (F := F) bM c ∗ slots (F := F) c)

def before (c : Dev nD) : sProp 𝕄 :=
  iprop(recs m K ∗ lin (F := F) c ∗ creds (F := F) c ∗ locals (F := F) c ∗ xPts m c fullShare ∗ wPts m c ∗ bufs (F := F) c
    ∗ (colAny (F := F) 0 c ∗ colAny (F := F) 1 c ∗ colAny (F := F) 2 c ∗ colAny (F := F) 3 c) ∗ owing (F := F) c (pays c))

def after (c : Dev nD) : sProp 𝕄 :=
  iprop(semVal (barCell c) 0 ∗ ringSems (F := F) c ∗ locals (F := F) c ∗ xPts m c fullShare ∗ wPts m c ∗ bufs (F := F) c
    ∗ (col 0 c (part m 0 1 c) ∗ col 1 c (part m 1 1 c) ∗ col 2 c (part m 2 1 c) ∗ col 3 c (part m 3 1 c)) ∗ owing (F := F) c [])

/-! ## The run -/

theorem device_wp (c : Dev nD) (k : Dev nD → P F) (Q : PUnit → sProp 𝕄) : WP c (k c) Q ⊢ WP c (.op .deviceId k) Q :=
  Entails.of_eq (wp_deviceId 𝒱₀ (c : Thread nD τ) none Set.univ).symm
theorem ret_wp (c : Dev nD) (Q : PUnit → sProp 𝕄) : Q ⟨⟩ ⊢ WP c (.ret ⟨⟩ : P F) Q := by
  unfold WP; rw [wp_ret]; iintro H; imodintro; iexact H

set_option maxHeartbeats 1600000 in
theorem run_body (c : Dev nD) (Q : PUnit → sProp 𝕄) : before m K c ⊢ iprop((after m c -∗ Q ⟨⟩) -∗ WP c (body (F := F)) Q) := by
  unfold before lin ringLin creds locals bufs slots body opening step finish
  iintro ⟨#HR, ⟨HaB, HtP, HtN, ⟨HaS0, HaV0, Hd0⟩, ⟨HaS1, HaV1, Hd1⟩, ⟨HaS2, HaV2, Hd2⟩, ⟨HaS3, HaV3, Hd3⟩⟩, ⟨HcB, HcV0, HcV1, HcV2, HcV3⟩,
    ⟨HzA, HzB, Hz0, Hz1, Hz2, Hz3⟩, Hx, Hw, ⟨HA, HB, H00, H10, H20, H30, H01, H11, H21, H31⟩, ⟨Ho0, Ho1, Ho2, Ho3⟩, HO⟩ Hk
  iapply (device_wp c _ Q)
  ihave #Hlev := (lev_at m K) $$ HR
  ihave Hx := (pointsTo_share (PosShare.mem_left_op_right fullShare)).1 $$ Hx
  icases Hx with ⟨HxA, HxB⟩
  -- the handshake
  iapply (handshake_wp m K c _ _ (dev1 c) (dev2 c)) $$ [HtP HtN HaB HcB H01 H11 H21 H31 HO]
  · isplitr; · iexact HR
    isplitl [HtP]; · iexact HtP
    isplitl [HtN]; · iexact HtN
    isplitl [HaB]; · iexact HaB
    isplitl [HcB]; · iexact HcB
    isplitl [H01]; · iexact H01
    isplitl [H11]; · iexact H11
    isplitl [H21]; · iexact H21
    isplitl [H31]; · iexact H31
    iexact HO
  iintro ⟨HzBar, Hp0, Hp1, Hp2, Hp3, HO⟩
  -- both chunks
  iapply (stage_wp m aM aS c (prv c) fullShare.left (off1 c)) $$ [HxA HA HzA]
  · isplitl [HxA]; · iexact HxA
    isplitl [HA] <;> iassumption
  iintro HfA
  iapply (stage_wp m bM bS c (nxt c) fullShare.right (off2 c)) $$ [HxB HB HzB]
  · isplitl [HxB]; · iexact HxB
    isplitl [HB] <;> iassumption
  iintro HfB
  iapply (staged_wp m aM aS c (prv c) fullShare.left (sends c) (below_suffix c kd_a fun _ h => h)) $$ [HfA HO]
  · isplitr; · iexact Hlev
    isplitl [HfA] <;> iassumption
  iintro ⟨HA, HxA, HzA, HO⟩
  -- rings 0 and 1
  iapply (first_wp m aM c 0 0 (chunk m c (prv c))) $$ [HA Hw H00]
  · isplitl [HA]; · iexact HA
    isplitl [Hw] <;> iassumption
  iintro ⟨HA, Hw, H00⟩
  iapply (send_wp m K c _ 0 (dev3 c) ((sends c).tail)) $$ [Hd0 H00 Hp0 HO]
  · isplitr; · iexact HR
    isplitl [Hd0]; · iexact Hd0
    isplitl [H00]; · iexact H00
    isplitl [Hp0]; · iexact Hp0
    iexact HO
  iintro ⟨HcS0, HO⟩
  iapply (first_wp m aM c 1 0 (chunk m c (prv c))) $$ [HA Hw H10]
  · isplitl [HA]; · iexact HA
    isplitl [Hw] <;> iassumption
  iintro ⟨HA, Hw, H10⟩
  iapply (send_wp m K c _ 1 (dev4 c) ((sends c).tail.tail)) $$ [Hd1 H10 Hp1 HO]
  · isplitr; · iexact HR
    isplitl [Hd1]; · iexact Hd1
    isplitl [H10]; · iexact H10
    isplitl [Hp1]; · iexact Hp1
    iexact HO
  iintro ⟨HcS1, HO⟩
  iapply (staged_wp m bM bS c (nxt c) fullShare.right ((sends c).tail.tail)
    (below_suffix c kd_b fun _ h => List.mem_of_mem_tail (List.mem_of_mem_tail h))) $$ [HfB HO]
  · isplitr; · iexact Hlev
    isplitl [HfB] <;> iassumption
  iintro ⟨HB, HxB, HzB, HO⟩
  -- rings 2 and 3
  iapply (first_wp m bM c 2 0 (chunk m c (nxt c))) $$ [HB Hw H20]
  · isplitl [HB]; · iexact HB
    isplitl [Hw] <;> iassumption
  iintro ⟨HB, Hw, H20⟩
  iapply (send_wp m K c _ 2 (dev5 c) ((sends c).tail.tail.tail)) $$ [Hd2 H20 Hp2 HO]
  · isplitr; · iexact HR
    isplitl [Hd2]; · iexact Hd2
    isplitl [H20]; · iexact H20
    isplitl [Hp2]; · iexact Hp2
    iexact HO
  iintro ⟨HcS2, HO⟩
  iapply (first_wp m bM c 3 0 (chunk m c (nxt c))) $$ [HB Hw H30]
  · isplitl [HB]; · iexact HB
    isplitl [Hw] <;> iassumption
  iintro ⟨HB, Hw, H30⟩
  iapply (send_wp m K c _ 3 (dev6 c) []) $$ [Hd3 H30 Hp3 HO]
  · isplitr; · iexact HR
    isplitl [Hd3]; · iexact Hd3
    isplitl [H30]; · iexact H30
    isplitl [Hp3]; · iexact Hp3
    iexact HO
  iintro ⟨HcS3, HO⟩
  -- the next chunks
  iapply (stage_wp m aM aS c (prv (prv c)) fullShare.left (off3 c)) $$ [HxA HA HzA]
  · isplitl [HxA]; · iexact HxA
    isplitl [HA]; · iexists _; iexact HA
    iexact HzA
  iintro HfA
  iapply (stage_wp m bM bS c (nxt (nxt c)) fullShare.right (off4 c)) $$ [HxB HB HzB]
  · isplitl [HxB]; · iexact HxB
    isplitl [HB]; · iexists _; iexact HB
    iexact HzB
  iintro HfB
  iapply (staged_wp m aM aS c (prv (prv c)) fullShare.left [] (below_nil c _)) $$ [HfA HO]
  · isplitr; · iexact Hlev
    isplitl [HfA] <;> iassumption
  iintro ⟨HA, HxA, HzA, HO⟩
  -- ring 0 lands
  iapply (sent_wp m K c 0 [] (below_nil c _)) $$ [HcS0 HaS0 HO]
  · isplitr; · iexact HR
    isplitl [HcS0]; · iexact HcS0
    isplitl [HaS0] <;> iassumption
  iintro ⟨H00, HzS0, HO⟩
  iapply (landed_wp m K c 0 [] (below_nil c _)) $$ [HcV0 HaV0 HO]
  · isplitr; · iexact HR
    isplitl [HcV0]; · iexact HcV0
    isplitl [HaV0] <;> iassumption
  iintro ⟨H01, HzV0, HO⟩
  iapply (accum_wp m aM c 0 1 (chunk m c (prv (prv c))) (part m 0 0 (up 0 c))) $$ [HA Hw H01]
  · isplitl [HA]; · iexact HA
    isplitl [Hw] <;> iassumption
  iintro ⟨HA, Hw, H01⟩
  iapply (staged_wp m bM bS c (nxt (nxt c)) fullShare.right [] (below_nil c _)) $$ [HfB HO]
  · isplitr; · iexact Hlev
    isplitl [HfB] <;> iassumption
  iintro ⟨HB, HxB, HzB, HO⟩
  -- ring 2
  iapply (sent_wp m K c 2 [] (below_nil c _)) $$ [HcS2 HaS2 HO]
  · isplitr; · iexact HR
    isplitl [HcS2]; · iexact HcS2
    isplitl [HaS2] <;> iassumption
  iintro ⟨H20, HzS2, HO⟩
  iapply (landed_wp m K c 2 [] (below_nil c _)) $$ [HcV2 HaV2 HO]
  · isplitr; · iexact HR
    isplitl [HcV2]; · iexact HcV2
    isplitl [HaV2] <;> iassumption
  iintro ⟨H21, HzV2, HO⟩
  iapply (accum_wp m bM c 2 1 (chunk m c (nxt (nxt c))) (part m 2 0 (up 2 c))) $$ [HB Hw H21]
  · isplitl [HB]; · iexact HB
    isplitl [Hw] <;> iassumption
  iintro ⟨HB, Hw, H21⟩
  -- ring 1
  iapply (sent_wp m K c 1 [] (below_nil c _)) $$ [HcS1 HaS1 HO]
  · isplitr; · iexact HR
    isplitl [HcS1]; · iexact HcS1
    isplitl [HaS1] <;> iassumption
  iintro ⟨H10, HzS1, HO⟩
  iapply (landed_wp m K c 1 [] (below_nil c _)) $$ [HcV1 HaV1 HO]
  · isplitr; · iexact HR
    isplitl [HcV1]; · iexact HcV1
    isplitl [HaV1] <;> iassumption
  iintro ⟨H11, HzV1, HO⟩
  iapply (accum_wp m aM c 1 1 (chunk m c (prv (prv c))) (part m 1 0 (up 1 c))) $$ [HA Hw H11]
  · isplitl [HA]; · iexact HA
    isplitl [Hw] <;> iassumption
  iintro ⟨HA, Hw, H11⟩
  -- ring 3
  iapply (sent_wp m K c 3 [] (below_nil c _)) $$ [HcS3 HaS3 HO]
  · isplitr; · iexact HR
    isplitl [HcS3]; · iexact HcS3
    isplitl [HaS3] <;> iassumption
  iintro ⟨H30, HzS3, HO⟩
  iapply (landed_wp m K c 3 [] (below_nil c _)) $$ [HcV3 HaV3 HO]
  · isplitr; · iexact HR
    isplitl [HcV3]; · iexact HcV3
    isplitl [HaV3] <;> iassumption
  iintro ⟨H31, HzV3, HO⟩
  iapply (accum_wp m bM c 3 1 (chunk m c (nxt (nxt c))) (part m 3 0 (up 3 c))) $$ [HB Hw H31]
  · isplitl [HB]; · iexact HB
    isplitl [Hw] <;> iassumption
  iintro ⟨HB, Hw, H31⟩
  -- the blocks are written back
  iapply (writeBack_wp c 0 1 (part m 0 1 c)) $$ [H01 Ho0 Hz0]
  · isplitl [H01]; · iexact H01
    isplitl [Ho0] <;> iassumption
  iintro Hf0
  iapply (writeBack_wp c 1 1 (part m 1 1 c)) $$ [H11 Ho1 Hz1]
  · isplitl [H11]; · iexact H11
    isplitl [Ho1] <;> iassumption
  iintro Hf1
  iapply (writeBack_wp c 2 1 (part m 2 1 c)) $$ [H21 Ho2 Hz2]
  · isplitl [H21]; · iexact H21
    isplitl [Ho2] <;> iassumption
  iintro Hf2
  iapply (writeBack_wp c 3 1 (part m 3 1 c)) $$ [H31 Ho3 Hz3]
  · isplitl [H31]; · iexact H31
    isplitl [Ho3] <;> iassumption
  iintro Hf3
  iapply (written_wp c 0 1 (part m 0 1 c) [] (below_nil c _)) $$ [Hf0 HO]
  · isplitr; · iexact Hlev
    isplitl [Hf0] <;> iassumption
  iintro ⟨Ho0, H01, Hz0, HO⟩
  iapply (written_wp c 1 1 (part m 1 1 c) [] (below_nil c _)) $$ [Hf1 HO]
  · isplitr; · iexact Hlev
    isplitl [Hf1] <;> iassumption
  iintro ⟨Ho1, H11, Hz1, HO⟩
  iapply (written_wp c 2 1 (part m 2 1 c) [] (below_nil c _)) $$ [Hf2 HO]
  · isplitr; · iexact Hlev
    isplitl [Hf2] <;> iassumption
  iintro ⟨Ho2, H21, Hz2, HO⟩
  iapply (written_wp c 3 1 (part m 3 1 c) [] (below_nil c _)) $$ [Hf3 HO]
  · isplitr; · iexact Hlev
    isplitl [Hf3] <;> iassumption
  iintro ⟨Ho3, H31, Hz3, HO⟩
  iapply (ret_wp c Q)
  iapply Hk
  unfold after ringSems locals bufs slots
  isplitl [HzBar]; · iexact HzBar
  isplitl [HzS0 HzS1 HzS2 HzS3 HzV0 HzV1 HzV2 HzV3]
  · isplitl [HzS0 HzS1 HzS2 HzS3]
    · isplitl [HzS0]; · iexact HzS0
      isplitl [HzS1]; · iexact HzS1
      isplitl [HzS2] <;> iassumption
    isplitl [HzV0]; · iexact HzV0
    isplitl [HzV1]; · iexact HzV1
    isplitl [HzV2] <;> iassumption
  isplitl [HzA HzB Hz0 Hz1 Hz2 Hz3]
  · isplitl [HzA]; · iexact HzA
    isplitl [HzB]; · iexact HzB
    isplitl [Hz0]; · iexact Hz0
    isplitl [Hz1]; · iexact Hz1
    isplitl [Hz2] <;> iassumption
  isplitl [HxA HxB]
  · iapply (pointsTo_share (PosShare.mem_left_op_right fullShare)).2
    isplitl [HxA] <;> iassumption
  isplitl [Hw]; · iexact Hw
  isplitl [HA HB H00 H10 H20 H30 H01 H11 H21 H31]
  · isplitl [HA]; · iexists _; iexact HA
    isplitl [HB]; · iexists _; iexact HB
    isplitl [H00]; · iexact H00
    isplitl [H10]; · iexact H10
    isplitl [H20]; · iexact H20
    isplitl [H30]; · iexact H30
    isplitl [H01]; · iexact H01
    isplitl [H11]; · iexact H11
    isplitl [H21] <;> iassumption
  isplitl [Ho0 Ho1 Ho2 Ho3]
  · isplitl [Ho0]; · iexact Ho0
    isplitl [Ho1]; · iexact Ho1
    isplitl [Ho2] <;> iassumption
  iexact HO

end Cert.KernelIdeal.Hop
-- ==== Proof.Hop.Launch.lean ====
/-
# The launch

The ghost state of the rings is made, dealt to the devices, and the call is run on all of them.
-/
module

public import proofs.«01_k».proof.Proof.Hop.Body
public import Idealize.ShloMosaic.Lib.Pipeline.Launch
public import Idealize.ShloMosaic.Lib.Pipeline.CollectiveSegs
public import proofs.«01_k».proof.Proof.Gen.KernelIdeal.Launch

@[expose] public section

set_option maxRecDepth 16384

noncomputable section

namespace Cert.KernelIdeal.Hop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (ρ : Dev nD → PrngReg)

/-- The launch memory. -/
abbrev s₀ : MemSt nD τ sig (Elt F) := ⟨m, fun _ => 0, ρ⟩

/-! ## The semaphores -/

/-- The call's own DMA semaphores: all but the one its operand is staged on. -/
abbrev osem : Fin 22 → SemLoc sig := fun i => .dma ⟨i.val + 1, Nat.succ_lt_succ i.isLt⟩

theorem ownSemFacts : Pipeline.OwnSemFacts cfg0.spec osem := by decide

/-- The semaphores of slots no transfer of this program uses. -/
def spare (c : Dev nD) : sProp 𝕄 :=
  iprop((zero (F := F) c (sendS 0 1) ∗ zero (F := F) c (sendS 1 1) ∗ zero (F := F) c (sendS 2 1) ∗ zero (F := F) c (sendS 3 1))
    ∗ zero (F := F) c (recvS 0 0) ∗ zero (F := F) c (recvS 1 0) ∗ zero (F := F) c (recvS 2 0) ∗ zero (F := F) c (recvS 3 0))

theorem ownSems0_list (c : Dev nD) :
    (Pipeline.ownSems0 (Ix := ℕ) (Name := ℕ) (U := UU) (Lvl := ℕ) (Val := Elt F) (τ := τ) osem c : sProp 𝕄)
      = iprop(zero (F := F) c aS ∗ zero (F := F) c bS ∗ zero (F := F) c (outS 0) ∗ zero (F := F) c (outS 1) ∗ zero (F := F) c (outS 2) ∗ zero (F := F) c (outS 3)
        ∗ zero (F := F) c (sendS 0 0) ∗ zero (F := F) c (sendS 0 1) ∗ zero (F := F) c (sendS 1 0) ∗ zero (F := F) c (sendS 1 1)
        ∗ zero (F := F) c (sendS 2 0) ∗ zero (F := F) c (sendS 2 1) ∗ zero (F := F) c (sendS 3 0) ∗ zero (F := F) c (sendS 3 1)
        ∗ zero (F := F) c (recvS 0 0) ∗ zero (F := F) c (recvS 0 1) ∗ zero (F := F) c (recvS 1 0) ∗ zero (F := F) c (recvS 1 1)
        ∗ zero (F := F) c (recvS 2 0) ∗ zero (F := F) c (recvS 2 1) ∗ zero (F := F) c (recvS 3 0) ∗ zero (F := F) c (recvS 3 1)) := by
  rw [Pipeline.ownSems0_eq_of_list c osem [0, 1, 2, 3, 4, 5, 6, 7, 8, 9, 10, 11, 12, 13, 14, 15, 16, 17, 18, 19, 20, 21] (by decide) (by decide)]
  rfl

theorem ownSems0_split (c : Dev nD) :
    (Pipeline.ownSems0 (Ix := ℕ) (Name := ℕ) (U := UU) (Lvl := ℕ) (Val := Elt F) (τ := τ) osem c : sProp 𝕄)
      ⊢ iprop(ringSems (F := F) c ∗ locals (F := F) c ∗ spare (F := F) c) := by
  rw [ownSems0_list]
  unfold ringSems locals spare
  iintro ⟨HA, HB, H0, H1, H2, H3, S00, S01, S10, S11, S20, S21, S30, S31, V00, V01, V10, V11, V20, V21, V30, V31⟩
  isplitl [S00 S10 S20 S30 V01 V11 V21 V31]
  · isplitl [S00 S10 S20 S30]
    · isplitl [S00]; · iexact S00
      isplitl [S10]; · iexact S10
      isplitl [S20] <;> iassumption
    isplitl [V01]; · iexact V01
    isplitl [V11]; · iexact V11
    isplitl [V21] <;> iassumption
  isplitl [HA HB H0 H1 H2 H3]
  · isplitl [HA]; · iexact HA
    isplitl [HB]; · iexact HB
    isplitl [H0]; · iexact H0
    isplitl [H1]; · iexact H1
    isplitl [H2] <;> iassumption
  isplitl [S01 S11 S21 S31]
  · isplitl [S01]; · iexact S01
    isplitl [S11]; · iexact S11
    isplitl [S21] <;> iassumption
  isplitl [V00]; · iexact V00
  isplitl [V10]; · iexact V10
  isplitl [V20] <;> iassumption

theorem ownSems0_join (c : Dev nD) :
    iprop(ringSems (F := F) c ∗ locals (F := F) c ∗ spare (F := F) c)
      ⊢ (Pipeline.ownSems0 (Ix := ℕ) (Name := ℕ) (U := UU) (Lvl := ℕ) (Val := Elt F) (τ := τ) osem c : sProp 𝕄) := by
  rw [ownSems0_list]
  unfold ringSems locals spare
  iintro ⟨⟨⟨S00, S10, S20, S30⟩, V01, V11, V21, V31⟩, ⟨HA, HB, H0, H1, H2, H3⟩, ⟨S01, S11, S21, S31⟩, V00, V10, V20, V30⟩
  isplitl [HA]; · iexact HA
  isplitl [HB]; · iexact HB
  isplitl [H0]; · iexact H0
  isplitl [H1]; · iexact H1
  isplitl [H2]; · iexact H2
  isplitl [H3]; · iexact H3
  isplitl [S00]; · iexact S00
  isplitl [S01]; · iexact S01
  isplitl [S10]; · iexact S10
  isplitl [S11]; · iexact S11
  isplitl [S20]; · iexact S20
  isplitl [S21]; · iexact S21
  isplitl [S30]; · iexact S30
  isplitl [S31]; · iexact S31
  isplitl [V00]; · iexact V00
  isplitl [V01]; · iexact V01
  isplitl [V10]; · iexact V10
  isplitl [V11]; · iexact V11
  isplitl [V20]; · iexact V20
  isplitl [V21]; · iexact V21
  isplitl [V30] <;> iassumption

theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The call's proof data -/

/-- What device `c`'s body starts from, its buffers aside. -/
def start (c : Dev nD) : sProp 𝕄 :=
  iprop((∃ K, recs m K) ∗ lin (F := F) c ∗ creds (F := F) c ∗ locals (F := F) c ∗ spare (F := F) c ∗ xPts m c fullShare
    ∗ (colAny (F := F) 0 c ∗ colAny (F := F) 1 c ∗ colAny (F := F) 2 c ∗ colAny (F := F) 3 c))

/-- What it ends with: the left operand unchanged, each ring's columns of the result. -/
def ends (c : Dev nD) : sProp 𝕄 :=
  iprop(semVal (barCell c) 0 ∗ xPts m c fullShare ∗ (col 0 c (part m 0 1 c) ∗ col 1 c (part m 1 1 c) ∗ col 2 c (part m 2 1 c) ∗ col 3 c (part m 3 1 c)))

def Φ₀ (c : Dev nD) : sProp 𝕄 := iprop(start m c ∗ bufs (F := F) c)
def Φ₁ (c : Dev nD) : sProp 𝕄 := iprop(ends m c ∗ ringSems (F := F) c ∗ locals (F := F) c ∗ spare (F := F) c ∗ bufs (F := F) c)

def dats (_ : Fin 1) (c : Dev nD) : Pipeline.Dat τ (Elt F) ℕ ℕ UU ℕ cfg0 c where
  A w := m ((cfg0.win w).arr.view.loc (c : Thread nD τ))
  after w _ := match w with
    | ⟨0, _⟩ => wAt m c
  Φ t := match t with
    | ⟨0, _⟩ => Φ₀ m c
    | ⟨_ + 1, _⟩ => Φ₁ m c
  q _ := fullShare
  owed t := match t with
    | ⟨0, _⟩ => owe (pays c)
    | ⟨_ + 1, _⟩ => owe []

theorem share_eq (c : Dev nD) (w : Fin cfg0.W) : (dats m 0 c).share w = fullShare := by unfold Pipeline.Dat.share; split <;> rfl

theorem fetch_0 (t : Fin cfg0.N) : (cfg0.win (0 : Fin 1)).fetch t = true := by rw [fin_N0 t]; rfl

/-- A window's staging buffer holding `X`. -/
abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

theorem bigSep_W (Φ : Fin cfg0.W → sProp 𝕄) : bigSep Finset.univ Φ = Φ (0 : Fin 1) := bigSep_W0 Φ

def bodyPre (c : Dev nD) : sProp 𝕄 :=
  iprop(Φ₀ m c ∗ (dats m 0 c).owesAt (0 : ℕ) t0_0.castSucc ∗ (∃ d, stg c ((dats m 0 c).before (0 : Fin 1) t0_0 d)))
def bodyPost (c : Dev nD) : sProp 𝕄 := iprop(Φ₁ m c ∗ (dats m 0 c).owesAt (0 : ℕ) t0_0.succ ∗ stg c (wAt m c))

theorem sound_body (c : Dev nD) : bodyPre m c ⊢ WP c (body (F := F)) (fun _ => bodyPost m c) := by
  unfold bodyPre Φ₀ start Pipeline.Dat.owesAt Pipeline.owesWithin
  iintro ⟨⟨⟨⟨%K, HR⟩, Hlin, Hcr, Hloc, Hsp, Hx, Hcol⟩, Hbuf⟩, ⟨%W, %hW, HO⟩, ⟨%d, %g, %hg, Hw⟩⟩
  have hw : g = wAt m c := by rw [hg]; unfold Pipeline.Dat.before; rw [if_pos (fetch_0 t0_0)]; rfl
  subst hw
  iapply (run_body m K c (fun _ => bodyPost m c)) $$ [HR Hlin Hcr Hloc Hx Hcol Hbuf HO Hw]
  · unfold before
    isplitl [HR]; · iexact HR
    isplitl [Hlin]; · iexact Hlin
    isplitl [Hcr]; · iexact Hcr
    isplitl [Hloc]; · iexact Hloc
    isplitl [Hx]; · iexact Hx
    isplitl [Hw]; · iexact Hw
    isplitl [Hbuf]; · iexact Hbuf
    isplitl [Hcol]; · iexact Hcol
    unfold owing
    iexists W; iexact HO
  unfold after owing
  iintro ⟨HzB, Hrs, Hloc, Hx, Hw, Hbuf, Hcol, %W', HO⟩
  unfold bodyPost Φ₁ ends Pipeline.Dat.owesAt Pipeline.owesWithin
  isplitl [HzB Hrs Hloc Hx Hbuf Hcol Hsp]
  · isplitl [HzB Hx Hcol]
    · isplitl [HzB]; · iexact HzB
      isplitl [Hx] <;> iassumption
    isplitl [Hrs]; · iexact Hrs
    isplitl [Hloc]; · iexact Hloc
    isplitl [Hsp] <;> iassumption
  isplitl [HO]
  · iexists W'
    isplitr; · ipureintro; exact fun _ _ => Or.inl trivial
    iexact HO
  iexists _
  isplitr; · (ipureintro; rfl)
  iexact Hw

set_option maxRecDepth 65536 in
theorem body_obligation (c : Dev nD) : Pipeline.BodyObligation (dats (F := F) m 0 c) (defs₀ (F := F)) 𝒱₀ (0 : ℕ) Set.univ := fun t => by
  rw [fin_N0 t, bigSep_W, bigSep_W]
  simp only [owns_whole_eq]
  show bodyPre m c ⊢ WP c (cc0_body (F := F) xM (Memref.isWhole_whole _) wM (Memref.isWhole_whole _) oM (Memref.isWhole_whole _)
      aM (Memref.isWhole_whole _) bM (Memref.isWhole_whole _)
      cM (Memref.isWhole_whole _) cc0_scratch3 cc0_scratch4 cc0_scratch5 cc0_scratch6 cc0_scratch7) (fun _ => bodyPost m c)
  rw [body_eq]
  exact sound_body m c

/-! ## The launch's ghost state -/

theorem kd_kcell (c : Dev nD) (k : Ck) : kd (kcell (c, k)).2 = match k with | none => .bar | some (false, r) => .send r 0 | some (true, r) => .recv r 1 := by
  rcases k with _ | ⟨_ | _, r⟩
  · exact kd_bar
  · exact kd_send r 0
  · exact kd_recv r 1

theorem kcell_dev (x : Dev nD × Ck) : (kcell x).1.1 = x.1 := by
  obtain ⟨c, _ | ⟨_ | _, r⟩⟩ := x <;> rfl

theorem kcell_injective : Function.Injective (kcell : Dev nD × Ck → GSem nD τ sig) := by
  rintro ⟨c, k⟩ ⟨c', k'⟩ h
  have h1 : c = c' := by have := congrArg (fun g : GSem nD τ sig => g.1.1) h; simpa only [kcell_dev] using this
  subst h1
  have h2 := congrArg (fun g : GSem nD τ sig => kd g.2) h
  rw [kd_kcell, kd_kcell] at h2
  rcases k with _ | ⟨_ | _, r⟩ <;> rcases k' with _ | ⟨_ | _, r'⟩ <;> dsimp only at h2 <;> first | rfl | (cases h2; rfl) | cases h2

def ringCells : Finset (GSem nD τ sig) := Finset.univ.map ⟨kcell, kcell_injective⟩

/-- The duties of a device's own cells. -/
abbrev tokOf (x : Dev nD × (Bool ⊕ Bool × Fin 4)) : GSem nD τ sig × ℕ × Bool := match x.2 with
  | .inl d => (kcell (x.1, none), 0, d)
  | .inr y => (kcell (x.1, some y), 0, false)

theorem tokOf_injective : Function.Injective tokOf := by
  rintro ⟨c, d | y⟩ ⟨c', d' | y'⟩ h
  · have h1 : (c, (none : Ck)) = (c', none) := kcell_injective (congrArg Prod.fst h)
    have h2 : d = d' := congrArg (fun x : GSem nD τ sig × ℕ × Bool => x.2.2) h
    cases h1; cases h2; rfl
  · have h1 : (c, (none : Ck)) = (c', some y') := kcell_injective (congrArg Prod.fst h); cases h1
  · have h1 : (c, some y) = (c', (none : Ck)) := kcell_injective (congrArg Prod.fst h); cases h1
  · have h1 : (c, some y) = (c', some y') := kcell_injective (congrArg Prod.fst h); cases h1; rfl

def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

theorem ownU_split : (ownU u₀ : sProp 𝕄)
    ⊢ iprop(BI.own (EP (initOf (Pipeline.cells cfgs cellOf_inj) (Pipeline.launchToks cfgs cellOf_inj))) ∗ BI.own (ER (initOf ringCells ringToks))) :=
  ownU_pair _ _

/-- The duty tokens of ring `r`'s own cells, -/
def toksR (r : Fin 4) (c : Dev nD) : sProp 𝕄 := iprop(dutyTok ER (sendCell r 0 c) 0 false ∗ dutyTok ER (recvCell r 1 c) 0 false)
/-- of all. -/
def toks (c : Dev nD) : sProp 𝕄 :=
  iprop(dutyTok ER (barCell c) 0 true ∗ dutyTok ER (barCell c) 0 false ∗ toksR (F := F) 0 c ∗ toksR (F := F) 1 c ∗ toksR (F := F) 2 c ∗ toksR (F := F) 3 c)

theorem toks_eq (c : Dev nD) : (bigSep Finset.univ fun j => dutyTok ER (tokOf (c, j)).1 (tokOf (c, j)).2.1 (tokOf (c, j)).2.2 : sProp 𝕄) ⊢ toks (F := F) c := by
  rw [bigSep_univ_eq_bigSepL [.inl true, .inl false, .inr (false, 0), .inr (true, 0), .inr (false, 1), .inr (true, 1), .inr (false, 2), .inr (true, 2),
    .inr (false, 3), .inr (true, 3)] (by decide) (by decide)]
  show iprop(dutyTok ER (barCell c) 0 true ∗ dutyTok ER (barCell c) 0 false ∗ dutyTok ER (sendCell 0 0 c) 0 false ∗ dutyTok ER (recvCell 0 1 c) 0 false
    ∗ dutyTok ER (sendCell 1 0 c) 0 false ∗ dutyTok ER (recvCell 1 1 c) 0 false ∗ dutyTok ER (sendCell 2 0 c) 0 false ∗ dutyTok ER (recvCell 2 1 c) 0 false
    ∗ dutyTok ER (sendCell 3 0 c) 0 false ∗ dutyTok ER (recvCell 3 1 c) 0 false) ⊢ _
  unfold toks toksR
  iintro ⟨HT, HF, S0, V0, S1, V1, S2, V2, S3, V3⟩
  isplitl [HT]; · iexact HT
  isplitl [HF]; · iexact HF
  isplitl [S0 V0]; · isplitl [S0] <;> iassumption
  isplitl [S1 V1]; · isplitl [S1] <;> iassumption
  isplitl [S2 V2]; · isplitl [S2] <;> iassumption
  isplitl [S3] <;> iassumption

/-- The launch's share of the rings' ghost state for device `c`. -/
def G (c : Dev nD) : sProp 𝕄 :=
  iprop((bigSep Finset.univ fun k : Ck => roundState ER (Rd m) (kcell (c, k)) 0)
    ∗ (bigSep Finset.univ fun k : Ck => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks (F := F) c := by
    unfold ringToks; rw [bigSep_map, bigSep_univ_prod]
    exact bigSep_mono fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- A device's cells one by one. -/
theorem bigSep_cells (Φ : Ck → sProp 𝕄) : bigSep Finset.univ Φ = iprop(Φ none ∗ Φ (some (false, 0)) ∗ Φ (some (false, 1)) ∗ Φ (some (false, 2)) ∗ Φ (some (false, 3))
    ∗ Φ (some (true, 0)) ∗ Φ (some (true, 1)) ∗ Φ (some (true, 2)) ∗ Φ (some (true, 3))) :=
  bigSep_univ_eq_bigSepL [none, some (false, 0), some (false, 1), some (false, 2), some (false, 3), some (true, 0), some (true, 1), some (true, 2), some (true, 3)]
    (by decide) (by decide) Φ

theorem cells_zero (c : Dev nD) : iprop(semVal (barCell c) 0 ∗ ringSems (F := F) c) ⊢ (bigSep Finset.univ fun k : Ck => semVal (kcell (c, k)) 0 : sProp 𝕄) := by
  rw [bigSep_cells]
  unfold ringSems
  iintro ⟨HB, ⟨S0, S1, S2, S3⟩, V0, V1, V2, V3⟩
  isplitl [HB]; · iexact HB
  isplitl [S0]; · iexact S0
  isplitl [S1]; · iexact S1
  isplitl [S2]; · iexact S2
  isplitl [S3]; · iexact S3
  isplitl [V0]; · iexact V0
  isplitl [V1]; · iexact V1
  isplitl [V2]; · iexact V2
  iexact V3

/-- What the cells' opening leaves on device `c`. -/
def opened (c : Dev nD) : sProp 𝕄 :=
  iprop((bigSep Finset.univ fun k : Ck => iprop(∃ κ : ℕ, cellInv ER (Rd m) κ (kcell (c, k))))
    ∗ (bigSep Finset.univ fun k : Ck => iprop(atPos ER (kcell (c, k)) 0 ∅ 0 ∗ reached ER (kcell (c, k)) 0)) ∗ toks (F := F) c
    ∗ iprop(locals (F := F) c ∗ spare (F := F) c))

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> opened m c := by
  unfold G opened
  rw [unscopedSems0_eq]
  iintro ⟨Hos, Hus, Hst, Hat, Htok⟩
  ihave Hos := (ownSems0_split (F := F) c) $$ Hos
  icases Hos with ⟨Hrs, Hloc, Hsp⟩
  ihave Hv := (cells_zero (F := F) c) $$ [Hus Hrs]
  · isplitl [Hus] <;> iassumption
  imod (show iprop((bigSep Finset.univ fun k : Ck => semVal (kcell (c, k)) 0) ∗ bigSep Finset.univ fun k : Ck => roundState ER (Rd m) (kcell (c, k)) 0)
      ⊢ (|={Set.univ}=> bigSep Finset.univ fun k : Ck => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hloc] <;> iassumption

/-- The records, the levels aside. -/
def records (K : Dev nD × Ck → ℕ) : sProp 𝕄 :=
  iprop(bigSep Finset.univ (fun x => cellInv ER (Rd m) (K x) (kcell x)) ∗ bigSep Finset.univ (fun x => reached ER (kcell x) 0))

instance records_persistent (K : Dev nD × Ck → ℕ) : BI.Persistent (records m K) := by unfold records; infer_instance

/-- What the launch leaves device `c` with. -/
def G' (c : Dev nD) : sProp 𝕄 := iprop((∃ K, records m K) ∗ lin (F := F) c ∗ iprop(locals (F := F) c ∗ spare (F := F) c))

/-- The tokens of ring `r`'s receive cells pass to the devices that pay them; -/
theorem toksR_around (r : Fin 4) : (bigSep Finset.univ fun c : Dev nD => toksR (F := F) r c) ⊢ bigSep Finset.univ fun c : Dev nD => sendable (F := F) r c := by
  unfold toksR sendable
  rw [bigSep_sep', bigSep_sep', bigSep_univ_equiv (ring r) (fun c : Dev nD => (dutyTok ER (recvCell r 1 c) 0 false : sProp 𝕄))]
  exact .rfl

/-- The tokens each device pays with. -/
def payToks (c : Dev nD) : sProp 𝕄 :=
  iprop(dutyTok ER (barCell (prv c)) 0 true ∗ dutyTok ER (barCell (nxt c)) 0 false
    ∗ sendable (F := F) 0 c ∗ sendable (F := F) 1 c ∗ sendable (F := F) 2 c ∗ sendable (F := F) 3 c)

theorem toks_around : (bigSep Finset.univ fun c : Dev nD => toks (F := F) c) ⊢ bigSep Finset.univ fun c : Dev nD => payToks (F := F) c := by
  unfold toks payToks
  simp only [bigSep_sep']
  rw [bigSep_univ_equiv turn.symm (fun c : Dev nD => (dutyTok ER (barCell c) 0 true : sProp 𝕄)),
    bigSep_univ_equiv turn (fun c : Dev nD => (dutyTok ER (barCell c) 0 false : sProp 𝕄))]
  iintro ⟨HT, HF, H0, H1, H2, H3⟩
  ihave H0 := (toksR_around (F := F) 0) $$ H0
  ihave H1 := (toksR_around (F := F) 1) $$ H1
  ihave H2 := (toksR_around (F := F) 2) $$ H2
  ihave H3 := (toksR_around (F := F) 3) $$ H3
  isplitl [HT]; · iexact HT
  isplitl [HF]; · iexact HF
  isplitl [H0]; · iexact H0
  isplitl [H1]; · iexact H1
  isplitl [H2] <;> iassumption

/-- A device's positions and its tokens are its own ghost state. -/
theorem lin_intro (c : Dev nD) : iprop((bigSep Finset.univ fun k : Ck => atPos ER (kcell (c, k)) 0 ∅ 0) ∗ payToks (F := F) c) ⊢ lin (F := F) c := by
  rw [bigSep_cells]
  show iprop((atPos ER (barCell c) 0 ∅ 0 ∗ atPos ER (sendCell 0 0 c) 0 ∅ 0 ∗ atPos ER (sendCell 1 0 c) 0 ∅ 0 ∗ atPos ER (sendCell 2 0 c) 0 ∅ 0 ∗ atPos ER (sendCell 3 0 c) 0 ∅ 0
    ∗ atPos ER (recvCell 0 1 c) 0 ∅ 0 ∗ atPos ER (recvCell 1 1 c) 0 ∅ 0 ∗ atPos ER (recvCell 2 1 c) 0 ∅ 0 ∗ atPos ER (recvCell 3 1 c) 0 ∅ 0) ∗ payToks (F := F) c) ⊢ _
  unfold payToks lin ringLin
  iintro ⟨⟨HB, S0, S1, S2, S3, V0, V1, V2, V3⟩, HT, HF, D0, D1, D2, D3⟩
  isplitl [HB]; · iexact HB
  isplitl [HT]; · iexact HT
  isplitl [HF]; · iexact HF
  isplitl [S0 V0 D0]
  · isplitl [S0]; · iexact S0
    isplitl [V0] <;> iassumption
  isplitl [S1 V1 D1]
  · isplitl [S1]; · iexact S1
    isplitl [V1] <;> iassumption
  isplitl [S2 V2 D2]
  · isplitl [S2]; · iexact S2
    isplitl [V2] <;> iassumption
  isplitl [S3]; · iexact S3
  isplitl [V3] <;> iassumption

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => opened m c) ⊢ bigSep Finset.univ (G' m) := by
  unfold opened
  rw [bigSep_sep', bigSep_sep', bigSep_sep', ← bigSep_univ_prod (fun x : Dev nD × Ck => iprop(∃ κ : ℕ, cellInv ER (Rd m) κ (kcell x))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun x : Dev nD × Ck => (reached ER (kcell x) 0 : sProp 𝕄))]
  iintro ⟨HI, ⟨Hat, #HR⟩, Htok, Hrest⟩
  ihave HK := (BI.bigSep_exists_pi Finset.univ (fun (x : Dev nD × Ck) (κ : ℕ) => (cellInv ER (Rd m) κ (kcell x) : sProp 𝕄))) $$ HI
  icases HK with ⟨%K, #HI⟩
  ihave Htk := (toks_around (F := F)) $$ Htok
  iapply (bigSep_with (R := records m K)
    (Φ := fun c => iprop(iprop((bigSep Finset.univ fun k : Ck => atPos ER (kcell (c, k)) 0 ∅ 0) ∗ payToks (F := F) c) ∗ iprop(locals (F := F) c ∗ spare (F := F) c)))
    fun c _ => by
      unfold G'
      iintro ⟨HR, Hl, Hrest⟩
      isplitl [HR]; · iexists K; iexact HR
      isplitl [Hl]; · iapply (lin_intro c) $$ Hl
      iexact Hrest)
  isplitr
  · unfold records; isplitl; · iexact HI
    iexact HR
  · rw [bigSep_sep' Finset.univ (fun c : Dev nD => iprop((bigSep Finset.univ fun k : Ck => atPos ER (kcell (c, k)) 0 ∅ 0) ∗ payToks (F := F) c)),
      bigSep_sep' Finset.univ (fun c : Dev nD => (bigSep Finset.univ fun k : Ck => atPos ER (kcell (c, k)) 0 ∅ 0 : sProp 𝕄))]
    isplitl [Hat Htk]
    · isplitl [Hat]; · iexact Hat
      iexact Htk
    iexact Hrest

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem owe_apply (l : List (GSem nD τ sig × ℕ)) (g : GSem nD τ sig) (u : ℕ) : owe l g u = (l.map fun p => if g = p.1 ∧ u = 0 then p.2 else 0).sum := by
  induction l with
  | nil => rfl
  | cons p l ih => rw [owe, Pi.add_apply, Finsupp.add_apply, tallyAt_apply, ih, List.map_cons, List.sum_cons, Nat.add_comm]

theorem bar_eq {a b : Dev nD} : Iff (barCell a = barCell b) (a = b) :=
  ⟨fun h => congrArg (fun g : GSem nD τ sig => g.1.1) h, fun h => h ▸ rfl⟩
theorem bar_recv {a b : Dev nD} {r : Fin 4} {k : Fin 2} : ¬ barCell a = recvCell r k b := fun h => by
  have := congrArg (fun g : GSem nD τ sig => kd g.2) h
  dsimp only [barCell, recvCell] at this
  rw [kd_bar, kd_recv] at this; cases this
theorem recv_eq {a b : Dev nD} {r r' : Fin 4} {k k' : Fin 2} : Iff (recvCell r k a = recvCell r' k' b) (r = r' ∧ k = k' ∧ a = b) := by
  refine ⟨fun h => ?_, fun ⟨h1, h2, h3⟩ => by rw [h1, h2, h3]⟩
  have h1 := congrArg (fun g : GSem nD τ sig => kd g.2) h
  have h2 := congrArg (fun g : GSem nD τ sig => g.1.1) h
  dsimp only [recvCell] at h1 h2
  rw [kd_recv, kd_recv] at h1
  cases h1; exact ⟨rfl, rfl, h2⟩

theorem bar_prv {c d : Dev nD} : Iff (barCell c = barCell (prv d)) (d = nxt c) := bar_eq.trans ⟨fun h => by rw [h, nxt_prv], fun h => by rw [h, prv_nxt]⟩
theorem bar_nxt {c d : Dev nD} : Iff (barCell c = barCell (nxt d)) (d = prv c) := bar_eq.trans ⟨fun h => by rw [h, prv_nxt], fun h => by rw [h, nxt_prv]⟩
theorem eq_up {r : Fin 4} {c d : Dev nD} : Iff (c = dn r d) (d = up r c) := ⟨fun h => by rw [h, up_dn], fun h => by rw [h, dn_up]⟩

theorem owed_bar (d c : Dev nD) : owe (pays d) (barCell c) 0 = (if d = nxt c then 1 else 0) + (if d = prv c then 1 else 0) := by
  rw [owe_apply]; unfold pays sends
  simp only [List.map_cons, List.map_nil, List.sum_cons, List.sum_nil, bar_prv, bar_nxt, bar_recv, _root_.and_true, _root_.false_and, if_false, Nat.add_zero]

theorem owed_recv (r : Fin 4) (d c : Dev nD) : owe (pays d) (recvCell r 1 c) 0 = if d = up r c then N else 0 := by
  rw [owe_apply]; unfold pays sends
  have hb (a b : Dev nD) : ¬ recvCell r 1 a = barCell b := fun h => bar_recv h.symm
  simp only [List.map_cons, List.map_nil, List.sum_cons, List.sum_nil, hb, recv_eq, eq_up, _root_.and_true, _root_.true_and, _root_.false_and, if_false, Nat.add_zero, Nat.zero_add]
  fin_cases r <;> simp

theorem owed_other (d : Dev nD) (g : GSem nD τ sig) (u : ℕ) (h : u ≠ 0) : owe (pays d) g u = 0 :=
  Nat.eq_zero_of_not_pos fun hp => h (owe_pos hp).1

theorem launch_bar (c : Dev nD) :
    tallyOn (barCell c) (launchCredit (Pipeline.owing fun d => owe (pays d)) 0 (barCell c)) = (tallyAt (barCell c) 0 2 : CellTallies nD τ sig ℕ) := by
  unfold tallyAt; refine congrArg _ (Finsupp.ext fun u => ?_)
  rw [Pipeline.launchCredit_owing]
  by_cases hu : u = 0
  · subst hu
    rw [Finsupp.single_eq_same, Finset.sum_congr rfl fun d _ => owed_bar d c, Finset.sum_add_distrib,
      Finset.sum_ite_eq' Finset.univ (nxt c) fun _ => 1, Finset.sum_ite_eq' Finset.univ (prv c) fun _ => 1, if_pos (Finset.mem_univ _), if_pos (Finset.mem_univ _)]
  · rw [Finset.sum_congr rfl fun d _ => owed_other d _ u hu, Finset.sum_const_zero, Finsupp.single_apply, if_neg fun h => hu h.symm]

theorem launch_recv (r : Fin 4) (c : Dev nD) :
    tallyOn (recvCell r 1 c) (launchCredit (Pipeline.owing fun d => owe (pays d)) 0 (recvCell r 1 c)) = (tallyAt (recvCell r 1 c) 0 N : CellTallies nD τ sig ℕ) := by
  unfold tallyAt; refine congrArg _ (Finsupp.ext fun u => ?_)
  rw [Pipeline.launchCredit_owing]
  by_cases hu : u = 0
  · subst hu
    rw [Finsupp.single_eq_same, Finset.sum_congr rfl fun d _ => owed_recv r d c, Finset.sum_ite_eq' Finset.univ (up r c) fun _ => N, if_pos (Finset.mem_univ _)]
  · rw [Finset.sum_congr rfl fun d _ => owed_other d _ u hu, Finset.sum_const_zero, Finsupp.single_apply, if_neg fun h => hu h.symm]

theorem recvS_inj {r r' : Fin 4} (h : (SemLoc.dma (recvS r 1) : SemLoc sig) = .dma (recvS r' 1)) : r = r' := by
  have := congrArg kd h
  rw [kd_recv, kd_recv] at this; cases this; rfl
theorem recvS_ne_bar (r : Fin 4) : (SemLoc.dma (recvS r 1) : SemLoc sig) ≠ .reg barS := fun h => by cases h

theorem creds_intro (c : Dev nD) : (Pipeline.launchCred (fun d => owe (pays d)) c : sProp 𝕄) ⊢ creds (F := F) c := by
  have e : (Finset.univ : Finset (SemLoc sig)).filter (fun s => kd s = .bar ∨ ∃ r, kd s = .recv r 1)
      = [SemLoc.reg barS, .dma (recvS 0 1), .dma (recvS 1 1), .dma (recvS 2 1), .dma (recvS 3 1)].toFinset := by decide
  unfold Pipeline.launchCred creds
  refine (bigSep_subset (Finset.filter_subset (fun s => kd s = .bar ∨ ∃ r, kd s = .recv r 1) _)).trans ?_
  rw [e, bigSep_eq_bigSepL_of_eq _ rfl (by decide)]
  rw [← launch_bar, ← launch_recv, ← launch_recv, ← launch_recv, ← launch_recv]
  exact Entails.of_eq (PROP := sProp 𝕄) rfl

/-! ## The run -/

theorem start_intro (c : Dev nD) :
    iprop(Pipeline.unscopedRestP Pipeline.Prefetch.none cfg0.spec c (fun b => m ((c : Thread nD τ).loc b)) ∗ levAts L lv
        ∗ Pipeline.launchCred (fun d => owe (pays d)) c ∗ prngReg c (ρ c) ∗ G' m c)
      ⊢ |={Set.univ}=> iprop(start m c ∗ emp) := by
  rw [Pipeline.unscopedRestP_none, unscopedRest0_eq]
  unfold G' start records
  iintro ⟨⟨Hx, Ho⟩, Hlev, Hcr, -, ⟨%K, HI, HR⟩, Hlin, Hloc, Hsp⟩
  ihave Hcr := (creds_intro (F := F) c) $$ Hcr
  ihave Ho := (cols_split (F := F) c _) $$ Ho
  imodintro
  isplitl
  · isplitl [HI HR Hlev]
    · iexists K
      unfold recs
      isplitl [HI]; · iexact HI
      isplitl [HR]; · iexact HR
      iexact Hlev
    isplitl [Hlin]; · iexact Hlin
    isplitl [Hcr]; · iexact Hcr
    isplitl [Hloc]; · iexact Hloc
    isplitl [Hsp]; · iexact Hsp
    isplitl [Hx]; · iexact Hx
    iexact Ho
  · iempintro

theorem bufs_intro (c : Dev nD) : (Pipeline.scopedRest cfg0.spec c : sProp 𝕄) ⊢ bufs (F := F) c := by
  rw [scopedRest0_eq]
  unfold bufs bufAny buf
  simp only [owns_whole]
  iintro ⟨⟨%f, HA⟩, ⟨%g, HB⟩, ⟨%h, HC⟩⟩
  isplitl [HA]; · iexists f; iexact HA
  isplitl [HB]; · iexists g; iexact HB
  iapply (slots_split c h) $$ HC

theorem bufs_elim (c : Dev nD) : bufs (F := F) c ⊢ (Pipeline.scopedRest cfg0.spec c : sProp 𝕄) := by
  rw [scopedRest0_eq]
  unfold bufs bufAny buf
  simp only [owns_whole]
  iintro ⟨⟨%f, HA⟩, ⟨%g, HB⟩, HC⟩
  isplitl [HA]; · iexists f; iexact HA
  isplitl [HB]; · iexists g; iexact HB
  iapply (slots_join c) $$ HC

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (bufs_intro c) $$ Hr

theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl]
  unfold Φ₁
  iintro ⟨He, Hrs, Hloc, Hsp, Hb⟩
  isplitl [He]; · iexact He
  isplitl [Hrs Hloc Hsp]
  · iapply (ownSems0_join c)
    isplitl [Hrs]; · iexact Hrs
    isplitl [Hloc] <;> iassumption
  iapply (bufs_elim c) $$ Hb

theorem below_pays (c : Dev nD) {sm : SemLoc sig} (h : kd sm = .other) : ∀ p ∈ pays c, p.1.1.2 = .tc ∧ lv ((c : Thread nD τ), sm) 0 < lv p.1 0 := by
  intro p hp
  unfold pays at hp
  rcases List.mem_cons.mp hp with rfl | hp
  · refine ⟨rfl, ?_⟩; unfold lv; dsimp only; rw [h, kd_bar]; decide
  rcases List.mem_cons.mp hp with rfl | hp
  · refine ⟨rfl, ?_⟩; unfold lv; dsimp only; rw [h, kd_bar]; decide
  exact below_sends c (.inr h) p hp

theorem waits (c : Dev nD) : (levAts L lv : sProp 𝕄) ⊢ Pipeline.cellsWaits cfgs (dats m) (0 : ℕ) 0 c :=
  Pipeline.cellsWaits_intro cfgs (dats m) (0 : ℕ) 0 c fun w s t => by
    have hk : kd (.dma ((cfg0.win w).sem s)) = .other := by revert w s; decide
    rcases t with ⟨_ | _, ht⟩
    · exact mayWait_owe c _ (pays c) (below_pays c hk)
    · exact mayWait_owe c _ [] (below_nil c _)

/-- What a final state holds: on each device the operands unchanged, and in each ring's columns of the result
    the ring's partial sum after one hop. -/
def QC (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ ∀ i : Fin 4, (outM i).view.read (Elt F) (r.2.mem ((c : Thread nD τ).loc main_v1)) = part m i 1 c

/-- What is read off the memory at the end. -/
def QY (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ ∀ i : Fin 4, (outM i).view.read (Elt F) (s.mem ((c : Thread nD τ).loc main_v1)) = part m i 1 c

theorem read_end (c : Dev nD) (s' : Phys nD τ sig (Elt F)) :
    iprop(ends m c ∗ emp ∗ SI s') ⊢ |={Set.univ}=> iprop(⌜QY m c s'.mem⌝ ∗ SI s') := by
  unfold ends
  iintro ⟨⟨HzB, Hx, Hcol⟩, -, HSI⟩
  ihave Hcol := (cols_join c (fun r => part m r 1 c)) $$ Hcol
  icases Hcol with ⟨%f, %hf, Ho⟩
  ihave %h0 := SI_pointsTo_agree $$ [HSI Hx]
  · isplitl [HSI] <;> iassumption
  ihave %h1 := SI_pointsTo_agree $$ [HSI Ho]
  · isplitl [HSI] <;> iassumption
  imod (Pipeline.unscopedSems0_read (X := semVal (barCell c) 0) (c := c) (by rw [unscopedSems0_eq]; exact fupd_intro) s') $$ [HzB HSI] with ⟨%hs, HSI⟩
  · isplitl [HzB] <;> iassumption
  imodintro
  isplitr
  · ipureintro
    refine ⟨hs, funext fun i => h0 i (Finset.mem_univ i), fun i => ?_⟩
    rw [← hf i]
    exact congrArg _ (funext fun j => h1 j (Finset.mem_univ j))
  · iexact HSI

set_option maxRecDepth 8000 in
/-- From any memory with zero counters every execution ends, and every final state has the contents above and zero counters. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun d => owe (pays d)) (howed₀ := fun _ => rfl) (howedN := fun _ => rfl)
    (L := L) (lv := lv) (hL := L_of_ne) (hwaits := waits m)
    (G := G m) (G' := G' m) (u₀ := u₀)
    (hu₀ := by
      iintro Hu
      ihave H := ownU_split $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := ends m) (Z := fun _ => iprop(emp))
    (hX := start_intro m ρ) (hin := phi0_intro m) (hout := phi1_exit m)
    (QY := QY m) (hY := read_end m)
    (hQ := fun s h hs => ⟨fun c => ⟨(h c).2.2.2.1, ((h c).1 0).trans ((dats (F := F) m 0 c).arrAt_in (0 : Fin 1) rfl _), (h c).2.2.2.2⟩,
      sem_eq_zero hs fun c => (h c).2.2.1⟩)

end Cert.KernelIdeal.Hop
-- ==== Proof.Hop.Value.lean ====
/-
# The values

The partial sums of the rings, as sums over the devices' blocks of the contraction.
-/
module

public import proofs.«01_k».proof.Proof.Hop.Launch
public import Idealize.ShloMosaic.Lib.StackMember
public import Idealize.ShloMosaic.Lib.Layout
public import Idealize.ShloMosaic.Lib.IdealHost

@[expose] public section

set_option maxRecDepth 16384

noncomputable section

namespace Cert.KernelIdeal.Hop

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

open Idealize.ShloMosaic.ValueIdx

/-! ## The operands read at an index -/

variable (m : (ℓ : Loc nD τ sig) → Buf (Elt F) ℓ)

theorem block_lt (d : Dev nD) (i : Fin 1024) : 1024 * d.val + i.val < 8192 := by
  have h1 : d.val < 8 := d.isLt
  have h2 := i.isLt
  omega

theorem col_lt (r : Fin 4) (j : Fin 1024) : 1024 * r.val + j.val < 4096 := by
  have h1 := r.isLt
  have h2 := j.isLt
  omega

/-- Row `i` of block `d`. -/
abbrev at8 (d : Dev nD) (i : Fin 1024) : Fin 8192 := ⟨1024 * d.val + i.val, block_lt d i⟩
/-- Column `j` of ring `r`. -/
abbrev at4 (r : Fin 4) (j : Fin 1024) : Fin 4096 := ⟨1024 * r.val + j.val, col_lt r j⟩

theorem chunk_apply (c d : Dev nD) (i k : Fin 1024) : chunk m c d (ix2 i k) = xAt m c (ix2 (at8 d i) k) := by
  refine congrArg (xAt m c) (funext fun a => Fin.ext ?_)
  fin_cases a
  · exact congrArg (1024 * d.val + ·) (Nat.one_mul i.val)
  · exact (Nat.zero_add _).trans (Nat.one_mul k.val)

theorem wAt_apply (c : Dev nD) (k : Fin 1024) (n : Fin 4096) : wAt m c (ix2 k n) = m ((c : Thread nD τ).loc main_arg1) (ix2 k n) := by
  refine congrArg (m ((c : Thread nD τ).loc main_arg1)) (funext fun a => Fin.ext ?_)
  fin_cases a
  · exact (Nat.zero_add _).trans (Nat.one_mul k.val)
  · exact (Nat.zero_add _).trans (Nat.one_mul n.val)

theorem wcol_apply (c : Dev nD) (r : Fin 4) (k j : Fin 1024) :
    wcol m c r (ix2 k j) = m ((c : Thread nD τ).loc main_arg1) (ix2 k (at4 r j)) := by
  refine Eq.trans (congrArg (wAt m c) (funext fun a => Fin.ext ?_)) (wAt_apply m c k (at4 r j))
  fin_cases a
  · exact (Nat.zero_add _).trans (Nat.one_mul k.val)
  · exact congrArg (1024 * r.val + ·) (Nat.one_mul j.val)

theorem outM_read (r : Fin 4) (f : (main_v1 : Ref sig .tc).ty.Contents (Elt F)) (i j : Fin 1024) :
    (outM r).view.read (Elt F) f (ix2 i j) = f (ix2 i (at4 r j)) := by
  refine congrArg f (funext fun a => Fin.ext ?_)
  fin_cases a
  · exact (Nat.zero_add _).trans (Nat.one_mul i.val)
  · exact congrArg (1024 * r.val + ·) (Nat.one_mul j.val)

/-! ## The partial sums -/

section Ideal

variable (m : (ℓ : Loc nD τ sig) → Buf (Elt Ideal) ℓ)
  (X : (⟨2, ![8192, 8192]⟩ : Shape).Idx → EReal) (W : (⟨2, ![8192, 4096]⟩ : Shape).Idx → EReal)

/-- The entry at row `i` of row block `d` and column `n` of the product over `K` block `b` alone. -/
def term (d : Dev nD) (i : Fin 1024) (n : Fin 4096) (b : Dev nD) : EReal := ∑ k : Fin 1024, X (ix2 (at8 d i) (at8 b k)) * W (ix2 (at8 b k) n)

/-- The devices' operands are the blocks of `X` and `W`. -/
def Cut : Prop := ∀ c : Dev nD,
  (∀ (i : Fin 8192) (k : Fin 1024), (m ((c : Thread nD τ).loc main_arg0) : S8192x1024.Idx → EReal) (ix2 i k) = X (ix2 i (at8 c k)))
    ∧ ∀ (k : Fin 1024) (n : Fin 4096), (m ((c : Thread nD τ).loc main_arg1) : S1024x4096.Idx → EReal) (ix2 k n) = W (ix2 (at8 c k) n)

variable {m X W} (h : Cut m X W)
include h

theorem dot_apply (c d : Dev nD) (r : Fin 4) (i j : Fin 1024) :
    (dot (chunk m c d) (wcol m c r) : S1024x1024.Idx → EReal) (ix2 i j) = term X W d i (at4 r j) c := by
  unfold dot term
  rw [matmul_zero_eq_dotGeneral]
  refine (StackMember.dotGeneral_plain_apply none (chunk m c d) (wcol m c r) i j).trans (Finset.sum_congr rfl fun k _ => ?_)
  rw [chunk_apply, wcol_apply]
  exact congrArg₂ (· * ·) ((h c).1 _ _) ((h c).2 _ _)

/-- The partial sum of ring `r` at hop `s`: the row block that is on its way to the device `s + 1` places on, over the `K` blocks of the
    devices it has passed. -/
theorem part_apply (r : Fin 4) (s : ℕ) : ∀ (c : Dev nD) (i j : Fin 1024),
    (part m r s c : S1024x1024.Idx → EReal) (ix2 i j) = ∑ t ∈ Finset.range (s + 1), term X W ((up r)^[s + 1] c) i (at4 r j) ((up r)^[t] c) := by
  induction s with
  | zero =>
    intro c i j
    rw [Finset.sum_range_one]
    exact dot_apply h c (up r c) r i j
  | succ s ih =>
    intro c i j
    rw [Finset.sum_range_succ']
    exact congrArg₂ (· + ·) (ih (up r c) i j) (dot_apply h c _ r i j)

end Ideal

/-- A sum over the whole contraction, block by block. -/
theorem sum_at8 (f : Fin 8192 → EReal) : ∑ K, f K = ∑ b : Dev nD, ∑ k : Fin 1024, f (at8 b k) := by
  rw [← Equiv.sum_comp (finProdFinEquiv : Fin 8 × Fin 1024 ≃ Fin (8 * 1024)) f, Fintype.sum_prod_type]
  exact Finset.sum_congr rfl fun b _ => Finset.sum_congr rfl fun k _ => congrArg f (Fin.ext (Nat.add_comm _ _))

end Cert.KernelIdeal.Hop
-- ==== Proof.Hop.Reference.lean ====
/-
# The reference

The plain program read at an index: the two terms that a device's partial sum has after one hop.
-/
module

public import proofs.«01_k».proof.Proof.Hop.Value
public import proofs.«01_k».proof.Proof.Gen.ReferenceIdeal.Run

@[expose] public section

set_option maxRecDepth 16384

noncomputable section

namespace Cert.ReferenceIdeal.Hop

open Cert.ReferenceIdeal Cert.ReferenceIdeal.Gen
open Idealize.ShloMosaic Idealize.ShloMosaic.TcCoe Idealize.ShloMosaic.ValueIdx Idealize.SL.Sem
open Cert.KernelIdeal.Hop (term at8 at4 sum_at8 up)

variable (X : (⟨2, ![8192, 8192]⟩ : Shape).Idx → EReal) (W : (⟨2, ![8192, 4096]⟩ : Shape).Idx → EReal)

/-- The row block that is `o` blocks past block `c`. -/
def shift (o : ℕ) (c : Fin 8) : Fin 8 := ⟨(c.val + o) % 8, Nat.mod_lt _ (by decide)⟩

/-- The left operand by blocks. -/
abbrev xb : S8x1024x8x1024.Idx → EReal := shapeCast _ X shapeCasts_S8192x8192_S8x1024x8x1024

theorem xb_apply (c : Fin 8) (i : Fin 1024) (b : Fin 8) (k : Fin 1024) : xb X (ix4 c i b k) = X (ix2 (at8 c i) (at8 b k)) := by
  refine shapeCast_apply X _ _ _ ?_
  rw [Shape.rowMajor_val_two, Shape.rowMajor_val_four]
  show (1024 * c.val + i.val) * 8192 + (1024 * b.val + k.val) = ((c.val * 1024 + i.val) * 8 + b.val) * 1024 + k.val
  omega

/-- The row blocks from block 6 on, then those before it; -/
abbrev rowsR : S8x1024x8x1024.Idx → EReal := concatenate S8x1024x8x1024 0
  [⟨S2x1024x8x1024, extractStridedSlice S2x1024x8x1024 ![6, 0, 0, 0] (xb X) slices_S8x1024x8x1024_S2x1024x8x1024_6_0_0_0⟩,
   ⟨S6x1024x8x1024, extractStridedSlice S6x1024x8x1024 ![0, 0, 0, 0] (xb X) slices_S8x1024x8x1024_S6x1024x8x1024_0_0_0_0⟩]
  concatenates_S2x1024x8x1024_S6x1024x8x1024_S8x1024x8x1024_d0

theorem rowsR_apply (c : Fin 8) (i : Fin 1024) (b : Fin 8) (k : Fin 1024) : rowsR X (ix4 c i b k) = X (ix2 (at8 (shift 6 c) i) (at8 b k)) := by
  rw [← xb_apply X]
  by_cases hc : c.val < 2
  · have h0 : (shift 6 c).val = 6 + c.val := by show (c.val + 6) % 8 = _; omega
    exact (concatenate_pair_apply_left (t := S8x1024x8x1024) (s₁ := S2x1024x8x1024) (s₂ := S6x1024x8x1024) 0 _ _ _ (ix4 c i b k) rfl (ix4 (⟨c.val, hc⟩ : Fin 2) i b k) fun a => match a with
        | ⟨0, _⟩ | ⟨1, _⟩ | ⟨2, _⟩ | ⟨3, _⟩ => rfl).trans
      (extractStridedSlice_apply _ _ _ _ (ix4 (shift 6 c) i b k) fun a => match a with
        | ⟨0, _⟩ => h0
        | ⟨1, _⟩ | ⟨2, _⟩ | ⟨3, _⟩ => (Nat.zero_add _).symm)
  · have hlt : c.val - 2 < 6 := by have := c.isLt; omega
    have h0 : (shift 6 c).val = 0 + (c.val - 2) := by show (c.val + 6) % 8 = _; omega
    exact (concatenate_pair_apply_right (t := S8x1024x8x1024) (s₁ := S2x1024x8x1024) (s₂ := S6x1024x8x1024) 0 _ _ _ (ix4 c i b k) rfl rfl (ix4 (⟨c.val - 2, hlt⟩ : Fin 6) i b k) (fun a ha => match a, ha with
        | ⟨0, _⟩, ha => absurd rfl ha
        | ⟨1, _⟩, _ | ⟨2, _⟩, _ | ⟨3, _⟩, _ => rfl) (Nat.sub_add_cancel (Nat.le_of_not_lt hc))).trans
      (extractStridedSlice_apply _ _ _ _ (ix4 (shift 6 c) i b k) fun a => match a with
        | ⟨0, _⟩ => h0
        | ⟨1, _⟩ | ⟨2, _⟩ | ⟨3, _⟩ => (Nat.zero_add _).symm)

/-- and from block 2 on. -/
abbrev rowsL : S8x1024x8x1024.Idx → EReal := concatenate S8x1024x8x1024 0
  [⟨S6x1024x8x1024, extractStridedSlice S6x1024x8x1024 ![2, 0, 0, 0] (xb X) slices_S8x1024x8x1024_S6x1024x8x1024_2_0_0_0⟩,
   ⟨S2x1024x8x1024, extractStridedSlice S2x1024x8x1024 ![0, 0, 0, 0] (xb X) slices_S8x1024x8x1024_S2x1024x8x1024_0_0_0_0⟩]
  concatenates_S6x1024x8x1024_S2x1024x8x1024_S8x1024x8x1024_d0

theorem rowsL_apply (c : Fin 8) (i : Fin 1024) (b : Fin 8) (k : Fin 1024) : rowsL X (ix4 c i b k) = X (ix2 (at8 (shift 2 c) i) (at8 b k)) := by
  rw [← xb_apply X]
  by_cases hc : c.val < 6
  · have h0 : (shift 2 c).val = 2 + c.val := by show (c.val + 2) % 8 = _; omega
    exact (concatenate_pair_apply_left (t := S8x1024x8x1024) (s₁ := S6x1024x8x1024) (s₂ := S2x1024x8x1024) 0 _ _ _ (ix4 c i b k) rfl (ix4 (⟨c.val, hc⟩ : Fin 6) i b k) fun a => match a with
        | ⟨0, _⟩ | ⟨1, _⟩ | ⟨2, _⟩ | ⟨3, _⟩ => rfl).trans
      (extractStridedSlice_apply _ _ _ _ (ix4 (shift 2 c) i b k) fun a => match a with
        | ⟨0, _⟩ => h0
        | ⟨1, _⟩ | ⟨2, _⟩ | ⟨3, _⟩ => (Nat.zero_add _).symm)
  · have hlt : c.val - 6 < 2 := by have := c.isLt; omega
    have h0 : (shift 2 c).val = 0 + (c.val - 6) := by show (c.val + 2) % 8 = _; omega
    exact (concatenate_pair_apply_right (t := S8x1024x8x1024) (s₁ := S6x1024x8x1024) (s₂ := S2x1024x8x1024) 0 _ _ _ (ix4 c i b k) rfl rfl (ix4 (⟨c.val - 6, hlt⟩ : Fin 2) i b k) (fun a ha => match a, ha with
        | ⟨0, _⟩, ha => absurd rfl ha
        | ⟨1, _⟩, _ | ⟨2, _⟩, _ | ⟨3, _⟩, _ => rfl) (Nat.sub_add_cancel (Nat.le_of_not_lt hc))).trans
      (extractStridedSlice_apply _ _ _ _ (ix4 (shift 2 c) i b k) fun a => match a with
        | ⟨0, _⟩ => h0
        | ⟨1, _⟩ | ⟨2, _⟩ | ⟨3, _⟩ => (Nat.zero_add _).symm)

/-- Which `K` blocks the right half's devices have summed, -/
abbrev heldR : IVec S8x8 1 := cmpi .sle (andi (subi (iotaInDim S8x8 32 0) (iotaInDim S8x8 32 1)) (broadcastInDim S8x8 ![] bcast_S_S8x8 (constantI S_ 32 7#32)))
  (broadcastInDim S8x8 ![] bcast_S_S8x8 (constantI S_ 32 1#32))
/-- and which the left. -/
abbrev heldL : IVec S8x8 1 := cmpi .sle (andi (subi (iotaInDim S8x8 32 1) (iotaInDim S8x8 32 0)) (broadcastInDim S8x8 ![] bcast_S_S8x8 (constantI S_ 32 7#32)))
  (broadcastInDim S8x8 ![] bcast_S_S8x8 (constantI S_ 32 1#32))

theorem heldR_apply (c b : Fin 8) : heldR (ix2 c b) = if b = c ∨ b = shift 7 c then 1#1 else 0#1 := by
  revert c b; decide
theorem heldL_apply (c b : Fin 8) : heldL (ix2 c b) = if b = c ∨ b = shift 1 c then 1#1 else 0#1 := by
  revert c b; decide

/-- Rows with the blocks that are not held left out, as a matrix again. -/
abbrev kept (held : IVec S8x8 1) (rows : S8x1024x8x1024.Idx → EReal) : FVec Ideal S8192x8192 .f32 := shapeCast _
  (select (broadcastInDim S8x1024x8x1024 ![0, 1, 2, 3] bcast_S8x1x8x1_S8x1024x8x1024_0_1_2_3 (broadcastInDim S8x1x8x1 ![0, 2] bcast_S8x8_S8x1x8x1_0_2 held)) rows
    (broadcastInDim S8x1024x8x1024 ![] bcast_S_S8x1024x8x1024 (id (constant (F := Ideal) S_ .f32 0x00000000#32))))
  shapeCasts_S8x1024x8x1024_S8192x8192

theorem kept_apply (held : IVec S8x8 1) (rows : S8x1024x8x1024.Idx → EReal) (c : Fin 8) (i : Fin 1024) (b : Fin 8) (k : Fin 1024) :
    kept held rows (ix2 (at8 c i) (at8 b k)) = if held (ix2 c b) = 1#1 then rows (ix4 c i b k) else 0 := by
  refine (shapeCast_apply _ _ _ (ix4 c i b k) ?_).trans ?_
  · rw [Shape.rowMajor_val_two, Shape.rowMajor_val_four]
    show ((c.val * 1024 + i.val) * 8 + b.val) * 1024 + k.val = (1024 * c.val + i.val) * 8192 + (1024 * b.val + k.val)
    omega
  · have hm : broadcastInDim S8x1024x8x1024 ![0, 1, 2, 3] bcast_S8x1x8x1_S8x1024x8x1024_0_1_2_3 (broadcastInDim S8x1x8x1 ![0, 2] bcast_S8x8_S8x1x8x1_0_2 held) (ix4 c i b k)
        = held (ix2 c b) := by
      refine (broadcastInDim_apply _ _ _ _ (ix4 c (0 : Fin 1) b (0 : Fin 1)) fun a => ?_).trans
        (broadcastInDim_apply _ _ _ _ (ix2 c b) fun a => ?_)
      · fin_cases a <;> rfl
      · fin_cases a <;> rfl
    have hz : broadcastInDim S8x1024x8x1024 ![] bcast_S_S8x1024x8x1024 (id (constant (F := Ideal) S_ .f32 0x00000000#32)) (ix4 c i b k) = (0 : EReal) :=
      (broadcastInDim_scalar_apply _ _ _).trans Ideal.ofBits_zero_f32
    show (if _ = 1#1 then _ else _) = _
    rw [hm, hz]

/-- A column half of the right operand. -/
abbrev colsR : FVec Ideal S8192x2048 .f32 := extractStridedSlice S8192x2048 ![0, 0] W slices_S8192x4096_S8192x2048_0_0
abbrev colsL : FVec Ideal S8192x2048 .f32 := extractStridedSlice S8192x2048 ![0, 2048] W slices_S8192x4096_S8192x2048_0_2048

/-- A half's product at row `i` of row block `c`, where `held` keeps the blocks `c` and `a`: their two terms. -/
theorem half_apply (held : IVec S8x8 1) (rows : S8x1024x8x1024.Idx → EReal) (V : FVec Ideal S8192x2048 .f32) (c a d : Fin 8) (hne : a ≠ c)
    (hheld : ∀ b, held (ix2 c b) = if b = c ∨ b = a then 1#1 else 0#1) (hrows : ∀ i b k, rows (ix4 c i b k) = X (ix2 (at8 d i) (at8 b k)))
    (n : Fin 2048) (n' : Fin 4096) (hV : ∀ K, V (ix2 K n) = W (ix2 K n')) (i : Fin 1024) :
    Host.dotGeneral dot_S8192x8192_S8192x2048_S8192x2048_1_0_0_1_n_n none (kept held rows) V (ix2 (at8 c i) n)
      = term X W d i n' a + term X W d i n' c := by
  refine (StackMember.dotGeneral_plain_apply none (kept held rows) V (at8 c i) n).trans ?_
  rw [sum_at8]
  have hb (b : Fin 8) : (∑ k : Fin 1024, kept held rows (ix2 (at8 c i) (at8 b k)) * V (ix2 (at8 b k) n)) = if b = c ∨ b = a then term X W d i n' b else 0 := by
    by_cases hbc : b = c ∨ b = a
    · rw [if_pos hbc]
      refine Finset.sum_congr rfl fun k _ => ?_
      rw [kept_apply, hheld, if_pos hbc, if_pos rfl, hrows, hV]
    · rw [if_neg hbc]
      refine Finset.sum_eq_zero fun k _ => ?_
      rw [kept_apply, hheld, if_neg hbc, if_neg (by decide), zero_mul]
  rw [Finset.sum_congr rfl fun b _ => hb b, ← Finset.sum_filter,
    show (Finset.univ.filter fun b : Fin 8 => b = c ∨ b = a) = {a, c} from by ext b; simp [or_comm], Finset.sum_pair hne]

/-- Two halves side by side. -/
abbrev join (A B : S8192x2048.Idx → EReal) : S8192x4096.Idx → EReal :=
  concatenate S8192x4096 1 [⟨S8192x2048, A⟩, ⟨S8192x2048, B⟩] concatenates_S8192x2048_S8192x2048_S8192x4096_d1

theorem join_left (A B : S8192x2048.Idx → EReal) (R : Fin 8192) (n : Fin 4096) (n' : Fin 2048) (h : n'.val = n.val) :
    join A B (ix2 R n) = A (ix2 R n') :=
  concatenate_pair_apply_left 1 A B _ (ix2 R n) rfl (ix2 R n') fun a => match a with
    | ⟨0, _⟩ => rfl
    | ⟨1, _⟩ => h

theorem join_right (A B : S8192x2048.Idx → EReal) (R : Fin 8192) (n : Fin 4096) (n' : Fin 2048) (h : n'.val + 2048 = n.val) :
    join A B (ix2 R n) = B (ix2 R n') :=
  concatenate_pair_apply_right 1 A B _ (ix2 R n) rfl rfl (ix2 R n') (fun a ha => match a, ha with
    | ⟨0, _⟩, _ => rfl
    | ⟨1, _⟩, ha => absurd rfl ha) h

/-- The plain program's result. -/
abbrev result : S8192x4096.Idx → EReal := join
  (Host.dotGeneral dot_S8192x8192_S8192x2048_S8192x2048_1_0_0_1_n_n none (kept heldR (rowsR X)) (colsR W))
  (Host.dotGeneral dot_S8192x8192_S8192x2048_S8192x2048_1_0_0_1_n_n none (kept heldL (rowsL X)) (colsL W))

theorem up_right (r : Fin 4) (hr : r.val < 2) (c : Fin 8) : up r c = shift 7 c ∧ up r (up r c) = shift 6 c ∧ shift 7 c ≠ c := by
  revert r c; decide
theorem up_left (r : Fin 4) (hr : ¬ r.val < 2) (c : Fin 8) : up r c = shift 1 c ∧ up r (up r c) = shift 2 c ∧ shift 1 c ≠ c := by
  revert r c; decide

theorem result_apply (c : Fin 8) (r : Fin 4) (i j : Fin 1024) :
    result X W (ix2 (at8 c i) (at4 r j)) = term X W (up r (up r c)) i (at4 r j) (up r c) + term X W (up r (up r c)) i (at4 r j) c := by
  by_cases hr : r.val < 2
  · obtain ⟨h1, h2, h3⟩ := up_right r hr c
    have hn : 1024 * r.val + j.val < 2048 := by have := j.isLt; omega
    refine (join_left _ _ _ _ (⟨1024 * r.val + j.val, hn⟩ : Fin 2048) rfl).trans ?_
    rw [h2, h1]
    refine half_apply X W heldR (rowsR X) (colsR W) c (shift 7 c) (shift 6 c) h3 (heldR_apply c) (rowsR_apply X c) _ _ (fun K => ?_) i
    refine extractStridedSlice_apply _ _ _ _ _ fun a => ?_
    fin_cases a <;> exact (Nat.zero_add _).symm
  · obtain ⟨h1, h2, h3⟩ := up_left r hr c
    have hn : 1024 * r.val + j.val - 2048 < 2048 := by have := j.isLt; have := r.isLt; omega
    have hge : 2048 ≤ 1024 * r.val + j.val := by omega
    refine (join_right _ _ _ _ (⟨1024 * r.val + j.val - 2048, hn⟩ : Fin 2048) (Nat.sub_add_cancel hge)).trans ?_
    rw [h2, h1]
    refine half_apply X W heldL (rowsL X) (colsL W) c (shift 1 c) (shift 2 c) h3 (heldL_apply c) (rowsL_apply X c) _ _ (fun K => ?_) i
    refine extractStridedSlice_apply _ _ _ _ _ fun a => ?_
    fin_cases a
    · exact (Nat.zero_add _).symm
    · show 1024 * r.val + j.val = 2048 + (1024 * r.val + j.val - 2048); omega

end Cert.ReferenceIdeal.Hop
-- ==== Proof.Hop.Algebraic.lean ====
/-
# The value claim of the first ring step

On every device each ring's columns of the result are the plain program's, block by block.
-/
module

public import proofs.«01_k».proof.Defs
public import proofs.«01_k».proof.Proof.Gen.Kernel
public import proofs.«01_k».proof.Proof.Hop.Reference

@[expose] public section

set_option maxRecDepth 16384

noncomputable section

namespace Cert.Proof

open Idealize.ShloMosaic Idealize.ShloMosaic.TcCoe Idealize.ShloMosaic.ValueIdx Idealize.SL.Sem
open Cert.KernelIdeal.Hop (Cut term at8 at4 up part QC)

/-- Over any float values the kernel ends, its operands unchanged and every counter zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.KernelIdeal.Hop.run_main m ρ)

/-- Both printed programs call the same body. -/
theorem table_eq : (Cert.Kernel.defs₀ (F := Bits)) = (Cert.KernelIdeal.defs₀ (F := Bits)) := by
  unfold Cert.Kernel.defs₀ Cert.KernelIdeal.defs₀
  refine congrArg Defs.onTc ?_
  funext l a
  match l, a with
  | 0, (t, s) => exact rfl

theorem defs_eq : (Cert.Kernel.defs (F := Bits)) = (Cert.KernelIdeal.defs (F := Bits)) := by
  unfold Cert.Kernel.defs Cert.KernelIdeal.defs
  rw [table_eq]
  rfl

/-- The printed kernel's text is the idealized one's, read over machine floats. -/
theorem frame_kernel : Cert.quiescent_Kernel := fun m ρ _ => by
  rw [defs_eq]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every index of a device's result is a row and a column of some ring. -/
theorem index_cases (p : (⟨2, ![1024, 4096]⟩ : Shape).Idx) : ∃ (i : Fin 1024) (r : Fin 4) (j : Fin 1024), p = ix2 i (at4 r j) := by
  have hp : (p 1).val < 4096 := (p 1).isLt
  have hr : (p 1).val / 1024 < 4 := by omega
  have hj : (p 1).val % 1024 < 1024 := Nat.mod_lt _ (by decide)
  refine ⟨p 0, ⟨(p 1).val / 1024, hr⟩, ⟨(p 1).val % 1024, hj⟩, funext fun a => ?_⟩
  match a with
  | ⟨0, _⟩ => rfl
  | ⟨1, _⟩ => exact Fin.ext (Nat.div_add_mod _ _).symm

variable {m : (ℓ : Loc Cert.KernelIdeal.nD Cert.KernelIdeal.τ Cert.KernelIdeal.sig) → Buf (Elt Ideal) ℓ}
  {X : (⟨2, ![8192, 8192]⟩ : Shape).Idx → EReal} {W : (⟨2, ![8192, 4096]⟩ : Shape).Idx → EReal}

/-- A row block of an array at a row and a column. -/
theorem block_rows {a b : ℕ} (ha : b = 8 * a) (n : ℕ) (V : (⟨2, ![b, n]⟩ : Shape).Idx → EReal) (c : Fin 8) (i : Fin a) (k : Fin n) (I : Fin b)
    (hI : I.val = a * c.val + i.val) (h : Layout.Tiles ⟨2, ![a, n]⟩ ⟨2, ![b, n]⟩ 0 8) : Layout.block ⟨2, ![a, n]⟩ ⟨2, ![b, n]⟩ 0 8 c V h (ix2 i k) = V (ix2 I k) := by
  refine congrArg V (funext fun x => Fin.ext ?_)
  match x with
  | ⟨0, _⟩ => exact (congrArg (· + i.val) (Nat.mul_comm c.val a)).trans hI.symm
  | ⟨1, _⟩ => rfl

/-- A column block likewise. -/
theorem block_cols {a b : ℕ} (n : ℕ) (V : (⟨2, ![n, b]⟩ : Shape).Idx → EReal) (c : Fin 8) (i : Fin n) (k : Fin a) (K : Fin b)
    (hK : K.val = a * c.val + k.val) (h : Layout.Tiles ⟨2, ![n, a]⟩ ⟨2, ![n, b]⟩ 1 8) : Layout.block ⟨2, ![n, a]⟩ ⟨2, ![n, b]⟩ 1 8 c V h (ix2 i k) = V (ix2 i K) := by
  refine congrArg V (funext fun x => Fin.ext ?_)
  match x with
  | ⟨0, _⟩ => rfl
  | ⟨1, _⟩ => exact (congrArg (· + k.val) (Nat.mul_comm c.val a)).trans hK.symm

theorem algebraic : Cert.algebraic_KernelIdeal_ReferenceIdeal := by
  intro m ρ m' ρ' _ hag
  let X : (⟨2, ![8192, 8192]⟩ : Shape).Idx → EReal := m' (((0 : Dev Cert.ReferenceIdeal.nD).tc : Thread Cert.ReferenceIdeal.nD Cert.ReferenceIdeal.τ).loc Cert.ReferenceIdeal.main_arg0)
  let W : (⟨2, ![8192, 4096]⟩ : Shape).Idx → EReal := m' (((0 : Dev Cert.ReferenceIdeal.nD).tc : Thread Cert.ReferenceIdeal.nD Cert.ReferenceIdeal.τ).loc Cert.ReferenceIdeal.main_arg1)
  have hcut : Cut m X W := fun c =>
    ⟨fun i k => (congrFun (hag c).1 (ix2 i k)).trans (block_cols 8192 X c i k (at8 c k) rfl _),
      fun k n => (congrFun (hag c).2 (ix2 k n)).trans (block_rows rfl 4096 W c k n (at8 c k) rfl _)⟩
  refine ⟨Cert.ReferenceIdeal.Hop.result X W, (θ_run Cert.KernelIdeal.defs _ _).mono (fun r h c => ⟨?_, (h.1 c).1, (h.1 c).2.1⟩) (Cert.KernelIdeal.Hop.run_main (F := Ideal) m ρ),
    (θ_run Cert.ReferenceIdeal.defs _ _).mono (fun _ h => h 0) (Cert.ReferenceIdeal.Value.run (F := Ideal) m' ρ')⟩
  funext p
  obtain ⟨i, q, j, rfl⟩ := index_cases p
  refine Eq.trans ?_ (block_rows rfl 4096 (Cert.ReferenceIdeal.Hop.result X W) c i (at4 q j) (at8 c i) rfl _).symm
  rw [Cert.ReferenceIdeal.Hop.result_apply]
  refine ((Cert.KernelIdeal.Hop.outM_read q _ i j).symm.trans (congrFun ((h.1 c).2.2 q) (ix2 i j))).trans ((Cert.KernelIdeal.Hop.part_apply hcut q 1 c i j).trans ?_)
  rw [Finset.sum_range_succ, Finset.sum_range_one, add_comm]
  rfl

end Cert.Proof

end
-- ==== Proof.Rings.Program.lean ====
/-
# The kernel's body as a sequence of named stretches

The body is one long straight line. Every stretch of it — a chunk of the left operand staged, a product stored
into a slot, a slot sent round its ring, a received partial sum added to, a slot given back, a block written back — is named here once, over the
ring's number, with the rest of the program as its continuation; `body_eq` says that the printed function is these
stretches in order.
-/
module

public import proofs.«01_k».proof.Proof.Gen.CreditedIdeal
public import proofs.«01_k».proof.Proof.Gen.CreditedIdeal.Skeleton
public import proofs.«01_k».proof.Proof.Gen.CreditedIdeal.Points
public import proofs.«01_k».proof.Proof.Gen.CreditedIdeal.Launch

@[expose] public section

noncomputable section

namespace Cert.CreditedIdeal.Rings

open Cert.CreditedIdeal Cert.CreditedIdeal.Gen
open Idealize.ShloMosaic Idealize.ShloMosaic.TcCoe Idealize.SL Idealize.SL.Sem

variable {F : FTy → Type} [FloatOps F]

/-- The body's programs. -/
abbrev P (F : FTy → Type) : Type 1 := Prog (TpuEff nD τ sig (Elt F) Λ₀ .tc) PUnit

/-! ## The buffers, the slots and the semaphores -/

abbrev xM : Memref sig .tc .hbm S8192x1024 .f32 := Memref.whole main_arg0
abbrev wM : Memref sig .tc .vmem S1024x4096 .f32 := Memref.whole cc0_stg0_0
abbrev oM : Memref sig .tc .hbm S1024x4096 .f32 := Memref.whole main_v1
abbrev aM : Memref sig .tc .vmem S1024x1024 .f32 := Memref.whole cc0_scratch0
abbrev bM : Memref sig .tc .vmem S1024x1024 .f32 := Memref.whole cc0_scratch1
abbrev cM : Memref sig .tc .vmem S4x2x1024x1024 .f32 := Memref.whole cc0_scratch2
abbrev barS : Sem sig := (SemArray.scalar (sig.barrier 0 rfl) : Sems sig S_).sem

theorem slot_inb (r : Fin 4) (k : Fin 2) : ∀ a, (![r.val, k.val, 0, 0] : Fin 4 → ℕ) a + S1x1x1024x1024.size a ≤ S4x2x1024x1024.size a := by
  revert r k; decide
theorem sem2_inb (r : Fin 4) (k : Fin 2) : ∀ a, (![r.val, k.val] : Fin 2 → ℕ) a + S1x1.size a ≤ S4x2.size a := by
  revert r k; decide
theorem sem1_inb (r : Fin 4) : ∀ a, (![r.val] : Fin 1 → ℕ) a + S1.size a ≤ S4.size a := by
  revert r; decide
theorem col_inb (r : Fin 4) : ∀ a, (![0, 1024 * r.val] : Fin 2 → ℕ) a + S1024x1024.size a ≤ S1024x4096.size a := by
  revert r; decide

/-- Slot `k` of ring `r` in the rings' scratch, as a rectangle of it; -/
abbrev slotR (r : Fin 4) (k : Fin 2) : Rect S4x2x1024x1024 :=
  Rect.unit (s := S4x2x1024x1024) ![r.val, k.val, 0, 0] S1x1x1024x1024.size (slot_inb r k)
/-- and as a buffer of its own. -/
abbrev slotM (r : Fin 4) (k : Fin 2) : Memref sig .tc .vmem S1024x1024 .f32 :=
  (cM.slice (slotR r k) (fun _ => rfl)).squeeze S1024x1024 squeezes_S1x1x1024x1024_S1024x1024

/-- Ring `r`'s columns of the right operand and of the result. -/
abbrev colR (r : Fin 4) : Rect S1024x4096 := Rect.unit (s := S1024x4096) ![0, 1024 * r.val] S1024x1024.size (col_inb r)
abbrev outM (r : Fin 4) : Memref sig .tc .hbm S1024x1024 .f32 := oM.slice (colR r) (fun _ => rfl)

/-- A chunk of rows of the left operand. -/
abbrev rowR (off : Fin 2 → ℕ) (h : ∀ a, off a + S1024x1024.size a ≤ S8192x1024.size a) : Rect S8192x1024 :=
  Rect.unit (s := S8192x1024) off S1024x1024.size h
abbrev chunkM (off : Fin 2 → ℕ) (h : ∀ a, off a + S1024x1024.size a ≤ S8192x1024.size a) : Memref sig .tc .hbm S1024x1024 .f32 :=
  xM.slice (rowR off h) (fun _ => rfl)

abbrev full2 : Rect S1024x1024 := Rect.unit (s := S1024x1024) ![0, 0] S1024x1024.size inb_S1024x1024_S1024x1024_0_0

abbrev aS : DmaSem sig := cc0_scratch3.sem
abbrev bS : DmaSem sig := cc0_scratch4.sem
abbrev outS (r : Fin 4) : DmaSem sig :=
  ((cc0_scratch5.slice (Rect.unit (s := S4) ![r.val] S1.size (sem1_inb r))).squeeze S_ squeezes_S1_S_).sem
abbrev sendS (r : Fin 4) (k : Fin 2) : DmaSem sig :=
  ((cc0_scratch6.slice (Rect.unit (s := S4x2) ![r.val, k.val] S1x1.size (sem2_inb r k))).squeeze S_ squeezes_S1x1_S_).sem
abbrev recvS (r : Fin 4) (k : Fin 2) : DmaSem sig :=
  ((cc0_scratch7.slice (Rect.unit (s := S4x2) ![r.val, k.val] S1x1.size (sem2_inb r k))).squeeze S_ squeezes_S1x1_S_).sem

/-- What tells ring `r`'s sender that its landing slot may be reused. -/
abbrev freeS (r : Fin 4) : Sem sig :=
  ((cc0_scratch8.slice (Rect.unit (s := S4) ![r.val] S1.size (sem1_inb r))).squeeze S_ squeezes_S1_S_).sem

/-! ## The values -/

/-- A product of two blocks, from zero. -/
def dot (a b : Vec F S1024x1024 .f32) : Vec F S1024x1024 .f32 :=
  matmul dot_S1024x1024_S1024x1024_S1024x1024_1_0_0_1_n_n none a b (constant S1024x1024 .f32 0x00000000#32)

/-! ## The stretches -/

/-- Stage the chunk of rows at `off`. -/
def stage (off : Fin 2 → ℕ) (h : ∀ a, off a + S1024x1024.size a ≤ S8192x1024.size a) (b : Memref sig .tc .vmem S1024x1024 .f32) (hb : b.IsWhole)
    (q : DmaSem sig) (k : P F) : P F :=
  Prog.op (.enqueueDma (chunkM off h) (.here b) (.dma q) (View.wordExact_bits rfl) hb.wordExact ⟨Or.inl rfl, trivial⟩) fun _ => k

/-- Wait for it. -/
def staged (off : Fin 2 → ℕ) (h : ∀ a, off a + S1024x1024.size a ≤ S8192x1024.size a) (b : Memref sig .tc .vmem S1024x1024 .f32) (hb : b.IsWhole)
    (q : DmaSem sig) (k : P F) : P F :=
  Prog.op (.waitDma2 q (chunkM off h) b (View.wordExact_bits rfl) hb.wordExact) fun _ => k

/-- The product of the staged chunk with ring `r`'s columns, into the ring's slot `j`. -/
def first (b : Memref sig .tc .vmem S1024x1024 .f32) (r : Fin 4) (j : Fin 2) (k : P F) : P F :=
  Prog.op (.load b full2.toLoadRect (View.loadsAt_vmem h_S1024x1024)) fun v =>
  Prog.op (.load wM (colR r).toLoadRect (View.loadsAt_vmem h_S1024x1024)) fun u =>
  Prog.op (.load cM (slotR r j).toLoadRect (View.loadsAt_vmem h_S1x1x1024x1024)) fun _ =>
  Prog.op (.store cM (slotR r j)
    (shapeCast S1x1x1024x1024 (dot v (shapeCast S1024x1024 u shapeCasts_S1024x1024_S1024x1024)) shapeCasts_S1024x1024_S1x1x1024x1024)
    Finset.univ (View.stores_vmem_bits_univ h_S1x1x1024x1024 rfl) (.inl rfl)) fun _ => k

/-- Send ring `r`'s slot `j` into slot `j'` of device `n`. -/
def send (n : Dev nD) (r : Fin 4) (j j' : Fin 2) (k : P F) : P F :=
  Prog.op (.enqueueDma (slotM r j) (.remote (Dev.tc n) (slotM r j') (.dma (sendS r j))) (.dma (recvS r j'))
    ((View.wordExact_bits rfl).reshape _ _) ((View.wordExact_bits rfl).reshape _ _) ⟨⟨rfl, Or.inl rfl⟩, trivial⟩) fun _ => k

/-- Wait until ring `r`'s slot `j` is sent; -/
def sent (r : Fin 4) (j j' : Fin 2) (k : P F) : P F :=
  Prog.op (.waitDma2 (sendS r j) (slotM r j') (slotM r j) ((View.wordExact_bits rfl).reshape _ _) ((View.wordExact_bits rfl).reshape _ _)) fun _ => k

/-- until its slot `j'` has landed. -/
def landed (r : Fin 4) (j j' : Fin 2) (k : P F) : P F :=
  Prog.op (.waitDma2 (recvS r j') (slotM r j) (slotM r j') ((View.wordExact_bits rfl).reshape _ _) ((View.wordExact_bits rfl).reshape _ _)) fun _ => k

/-- Add the product of the staged chunk with ring `r`'s columns to the ring's slot `j`. -/
def accum (b : Memref sig .tc .vmem S1024x1024 .f32) (r : Fin 4) (j : Fin 2) (k : P F) : P F :=
  Prog.op (.load cM (slotR r j).toLoadRect (View.loadsAt_vmem h_S1x1x1024x1024)) fun y =>
  Prog.op (.load b full2.toLoadRect (View.loadsAt_vmem h_S1024x1024)) fun v =>
  Prog.op (.load wM (colR r).toLoadRect (View.loadsAt_vmem h_S1024x1024)) fun u =>
  Prog.op (.load cM (slotR r j).toLoadRect (View.loadsAt_vmem h_S1x1x1024x1024)) fun _ =>
  Prog.op (.store cM (slotR r j)
    (shapeCast S1x1x1024x1024 (addf (shapeCast S1024x1024 y shapeCasts_S1x1x1024x1024_S1024x1024)
      (dot v (shapeCast S1024x1024 u shapeCasts_S1024x1024_S1024x1024))) shapeCasts_S1024x1024_S1x1x1024x1024)
    Finset.univ (View.stores_vmem_bits_univ h_S1x1x1024x1024 rfl) (.inl rfl)) fun _ => k

/-- Write ring `r`'s slot `j` back into the ring's columns of the result; -/
def writeBack (r : Fin 4) (j : Fin 2) (k : P F) : P F :=
  Prog.op (.enqueueDma (slotM r j) (.here (outM r)) (.dma (outS r)) ((View.wordExact_bits rfl).reshape _ _) (View.wordExact_bits rfl) ⟨Or.inl rfl, trivial⟩) fun _ => k

/-- wait for it. -/
def written (r : Fin 4) (j : Fin 2) (k : P F) : P F :=
  Prog.op (.waitDma2 (outS r) (slotM r j) (outM r) ((View.wordExact_bits rfl).reshape _ _) (View.wordExact_bits rfl)) fun _ => k

/-- The neighbours' handshake. -/
def handshake (n₁ n₂ : Dev nD) (k : P F) : P F :=
  Prog.op (.semSignal (n₁, .tc) barS 1) fun _ => .op (.semSignal (n₂, .tc) barS 1) fun _ => .op (.semWait barS 2) fun _ => k

/-- Tell device `n`, which sends into ring `r` of this one, that the slot it will send into next is free; -/
def release (n : Dev nD) (r : Fin 4) (k : P F) : P F := Prog.op (.semSignal (n, .tc) (freeS r) 1) fun _ => k

/-- wait to be told so by the device ring `r` sends to. -/
def acquire (r : Fin 4) (k : P F) : P F := Prog.op (.semWait (freeS r) 1) fun _ => k

/-! ## The body -/

/-- The last stretches: the blocks written back. -/
def finish : P F :=
  writeBack 0 1 <| writeBack 1 1 <| writeBack 2 1 <| writeBack 3 1 <| written 0 1 <| written 1 1 <| written 2 1 <| written 3 1 <| .ret ⟨⟩

/-- The first products, each sent on round its ring. -/
def opening (c : Dev nD) (k : P F) : P F :=
  stage (k0_off1 c) (k0_off1_inb c) aM (Memref.isWhole_whole _) aS <| stage (k0_off2 c) (k0_off2_inb c) bM (Memref.isWhole_whole _) bS <|
  staged (k0_off1 c) (k0_off1_inb c) aM (Memref.isWhole_whole _) aS <|
  first aM 0 0 <| send ⟨k0_dev3 c, k0_dev3_lt c⟩ 0 0 1 <| first aM 1 0 <| send ⟨k0_dev4 c, k0_dev4_lt c⟩ 1 0 1 <|
  staged (k0_off2 c) (k0_off2_inb c) bM (Memref.isWhole_whole _) bS <|
  first bM 2 0 <| send ⟨k0_dev5 c, k0_dev5_lt c⟩ 2 0 1 <| first bM 3 0 <| send ⟨k0_dev6 c, k0_dev6_lt c⟩ 3 0 1 <| k

/-- Hop `s` leaves from slot `s % 2` and lands in the other one. -/
abbrev sl (s : ℕ) : Fin 2 := Fin.ofNat 2 s

/-- Ring `r`'s part in hop `s`, from device `u` behind to device `d` ahead: what was sent has left, its slot is given back; what has
    landed is added to and, once the slot ahead is free, sent on. -/
def lap (u d : Dev nD) (b : Memref sig .tc .vmem S1024x1024 .f32) (r : Fin 4) (s : ℕ) (k : P F) : P F :=
  sent r (sl s) (sl (s + 1)) <| landed r (sl s) (sl (s + 1)) <| release u r <| accum b r (sl (s + 1)) <| acquire r <|
  send d r (sl (s + 1)) (sl (s + 2)) <| k

/-- Its part in the last hop. -/
def lastLap (b : Memref sig .tc .vmem S1024x1024 .f32) (r : Fin 4) (s : ℕ) (k : P F) : P F :=
  sent r (sl s) (sl (s + 1)) <| landed r (sl s) (sl (s + 1)) <| accum b r (sl (s + 1)) <| k

/-- The devices hop `s` addresses, in order, -/
def dests (c : Dev nD) : Fin 6 → Fin 8 → Dev nD :=
  ![![⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩],
    ![⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩],
    ![⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩],
    ![⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩],
    ![⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩],
    ![⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩]]

/-- and the chunks it adds a product of. -/
abbrev offA (c : Dev nD) (s : Fin 7) : Fin 2 → ℕ := k0_off3 c (BitVec.ofNat 32 s.val)
abbrev offB (c : Dev nD) (s : Fin 7) : Fin 2 → ℕ := k0_off4 c (BitVec.ofNat 32 s.val)

/-- Hop `s`, with the next hop's chunks staged on the way. -/
def hop (c : Dev nD) (e : Fin 8 → Dev nD) (s s' : Fin 7) (k : P F) : P F :=
  staged (offA c s) (k0_off3_inb c s) aM (Memref.isWhole_whole _) aS <| lap (e 0) (e 1) aM 0 s.val <|
  staged (offB c s) (k0_off4_inb c s) bM (Memref.isWhole_whole _) bS <| lap (e 2) (e 3) bM 2 s.val <|
  lap (e 4) (e 5) aM 1 s.val <| stage (offA c s') (k0_off3_inb c s') aM (Memref.isWhole_whole _) aS <|
  lap (e 6) (e 7) bM 3 s.val <| stage (offB c s') (k0_off4_inb c s') bM (Memref.isWhole_whole _) bS <| k

/-- The last hop. -/
def lastHop (c : Dev nD) (s : Fin 7) (k : P F) : P F :=
  staged (offA c s) (k0_off3_inb c s) aM (Memref.isWhole_whole _) aS <| lastLap aM 0 s.val <|
  staged (offB c s) (k0_off4_inb c s) bM (Memref.isWhole_whole _) bS <| lastLap bM 2 s.val <|
  lastLap aM 1 s.val <| lastLap bM 3 s.val <| k

def body : P F :=
  Prog.op .deviceId fun c => handshake ⟨k0_dev1 c, k0_dev1_lt c⟩ ⟨k0_dev2 c, k0_dev2_lt c⟩ <| opening c <|
    stage (offA c 0) (k0_off3_inb c 0) aM (Memref.isWhole_whole _) aS <| stage (offB c 0) (k0_off4_inb c 0) bM (Memref.isWhole_whole _) bS <|
    hop c (dests c 0) 0 1 <| hop c (dests c 1) 1 2 <| hop c (dests c 2) 2 3 <| hop c (dests c 3) 3 4 <| hop c (dests c 4) 4 5 <|
    hop c (dests c 5) 5 6 <| lastHop c 6 finish

set_option maxRecDepth 1000000 in
set_option maxHeartbeats 8000000 in
theorem body_eq :
    cc0_body (F := F) xM (Memref.isWhole_whole _) wM (Memref.isWhole_whole _) oM (Memref.isWhole_whole _)
      aM (Memref.isWhole_whole _) bM (Memref.isWhole_whole _)
      cM (Memref.isWhole_whole _) cc0_scratch3 cc0_scratch4 cc0_scratch5 cc0_scratch6 cc0_scratch7 cc0_scratch8 = body := by
  rw [cc0_body_eq_skeleton]
  unfold cc0_body_skel
  rw [k0_part57_eq_skeleton]
  unfold k0_part57_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel
  simp only [semSignalWord, semWaitWord, Prog.lift, Prog.bind_op, Prog.bind_ret, Prog.pure_eq_ret]
  rfl

end Cert.CreditedIdeal.Rings
-- ==== Proof.Rings.Common.lean ====
/-
# The rings' protocol

Eight devices stand in a circle. Rings 0 and 1 pass partial sums to the next device, rings 2 and 3 to the device before.
A device's semaphores that other devices touch, or that stand for a transfer to another device, are cells with a
schedule of rounds. Who pays what into them:

* the barrier cell of device `c`: one unit from the device after it, which hands `c` its landing slots of rings 0 and 1,
  and one unit from the device before it, which hands `c` its landing slots of rings 2 and 3;
* the send cell of ring `r` and of a slot: the device's own transfers from that slot, which hand it back;
* the receive cell of ring `r` and of a slot: the transfers into it of the device behind in the ring, which hand over the slot,
  holding the partial sum that device sent, and that its credit cell has come as far as the hop;
* the credit cell of ring `r`: in round `s` one unit from the device ahead in the ring, which hands over the slot that hop `s + 1`
  lands in.
-/
module

public import proofs.«01_k».proof.Proof.Rings.Program
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.CreditedIdeal.Rings

open Cert.CreditedIdeal Cert.CreditedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb

abbrev 𝒱₀ : Variants := Variants.none

/-- The weakest precondition of a program of the body on device `c`. -/
abbrev WP (c : Dev nD) (p : P F) (Q : PUnit → sProp 𝕄) : sProp 𝕄 :=
  wp Idealize.ShloMosaic.frame (wpE (defs₀ (F := F)) 𝒱₀ (c : Thread nD τ) none) Set.univ p Q

variable (m : (ℓ : Loc nD τ sig) → Buf (Elt F) ℓ)

/-! ## The rings -/

set_option backward.proofsInPublic true in
/-- The device after `c`, -/
def nxt (c : Dev nD) : Dev nD := ⟨(c.val + 1) % 8, Nat.mod_lt _ (by decide)⟩
set_option backward.proofsInPublic true in
/-- the device before. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

/-- Where ring `r` sends to, -/
def dn (r : Fin 4) (c : Dev nD) : Dev nD := if r.val < 2 then nxt c else prv c
/-- and whence it receives. -/
def up (r : Fin 4) (c : Dev nD) : Dev nD := if r.val < 2 then prv c else nxt c

theorem up_dn (r : Fin 4) (c : Dev nD) : up r (dn r c) = c := by revert r c; decide
theorem dn_up (r : Fin 4) (c : Dev nD) : dn r (up r c) = c := by revert r c; decide

/-- A ring as a permutation of the devices. -/
def ring (r : Fin 4) : Dev nD ≃ Dev nD := ⟨dn r, up r, up_dn r, dn_up r⟩
def turn : Dev nD ≃ Dev nD := ⟨nxt, prv, prv_nxt, nxt_prv⟩

/-! ## The contents -/

/-- Device `c`'s share of the left operand. -/
abbrev xAt (c : Dev nD) : (main_arg0 : Ref sig .tc).ty.Contents (Elt F) := m ((c : Thread nD τ).loc main_arg0)

theorem row_inb (d : Dev nD) : ∀ a, (![1024 * d.val, 0] : Fin 2 → ℕ) a + S1024x1024.size a ≤ S8192x1024.size a := by
  revert d; decide

/-- Its rows in chunk `d`. -/
def chunk (c d : Dev nD) : Vec F S1024x1024 .f32 := (chunkM ![1024 * d.val, 0] (row_inb d)).view.read (Elt F) (xAt m c)

/-- Device `c`'s share of the right operand, staged; -/
def wAt (c : Dev nD) : (cc0_stg0_0 : Ref sig .tc).ty.Contents (Elt F) :=
  (win0_0.blk (0 : Fin 1)).view.read (Elt F) (m ((c : Thread nD τ).loc main_arg1))

/-- its columns in ring `r`. -/
def wcol (c : Dev nD) (r : Fin 4) : Vec F S1024x1024 .f32 := wM.view.readAt (Elt F) (colR r).toLoadRect (wAt m c)

/-- The partial sum of ring `r` that leaves device `c` at hop `s`. -/
def part (r : Fin 4) : ℕ → Dev nD → Vec F S1024x1024 .f32
  | 0, c => dot (chunk m c (up r c)) (wcol m c r)
  | s + 1, c => addf (part r s (up r c)) (dot (chunk m c ((up r)^[s + 2] c)) (wcol m c r))

/-! ## The cells -/

/-- What a semaphore of the body stands for. -/
inductive Kd
  | bar
  | send (r : Fin 4) (k : Fin 2)
  | recv (r : Fin 4) (k : Fin 2)
  | free (r : Fin 4)
  | other
  deriving DecidableEq

/-- Of each semaphore. -/
def kd : SemLoc sig → Kd
  | .reg s => if s = barS then .bar else .free (Fin.ofNat 4 s.val)
  | .dma q => if q.val < 7 then .other
      else if q.val < 15 then .send (Fin.ofNat 4 ((q.val - 7) / 2)) (Fin.ofNat 2 ((q.val - 7) % 2))
      else .recv (Fin.ofNat 4 ((q.val - 15) / 2)) (Fin.ofNat 2 ((q.val - 15) % 2))

theorem kd_bar : kd (.reg barS) = .bar := by decide
theorem kd_send (r : Fin 4) (k : Fin 2) : kd (.dma (sendS r k)) = .send r k := by revert r k; decide
theorem kd_recv (r : Fin 4) (k : Fin 2) : kd (.dma (recvS r k)) = .recv r k := by revert r k; decide
theorem kd_free (r : Fin 4) : kd (.reg (freeS r)) = .free r := by revert r; decide
theorem kd_a : kd (.dma aS) = .other := by decide
theorem kd_b : kd (.dma bS) = .other := by decide
theorem kd_out (r : Fin 4) : kd (.dma (outS r)) = .other := by revert r; decide

abbrev barCell (c : Dev nD) : GSem nD τ sig := ((c : Thread nD τ), .reg barS)
abbrev sendCell (r : Fin 4) (k : Fin 2) (c : Dev nD) : GSem nD τ sig := ((c : Thread nD τ), .dma (sendS r k))
abbrev recvCell (r : Fin 4) (k : Fin 2) (c : Dev nD) : GSem nD τ sig := ((c : Thread nD τ), .dma (recvS r k))
abbrev freeCell (r : Fin 4) (c : Dev nD) : GSem nD τ sig := ((c : Thread nD τ), .reg (freeS r))

/-- What a block's transfer counts. -/
def N : ℕ := (slotM 0 0).view.dmaCredit
theorem N_pos : 0 < N := View.dmaCredit_pos _ (by decide)

/-- Slot `k` of ring `r` on device `c`, holding `V`; -/
abbrev slot (r : Fin 4) (k : Fin 2) (c : Dev nD) (V : Vec F S1024x1024 .f32) : sProp 𝕄 :=
  owns (c : Thread nD τ) (slotM r k) fullShare V
/-- holding anything. -/
abbrev slotAny (r : Fin 4) (k : Fin 2) (c : Dev nD) : sProp 𝕄 := iprop(∃ V, slot (F := F) r k c V)

theorem sl_two (s : ℕ) : sl (s + 2) = sl s := Fin.ext (by show (s + 2) % 2 = s % 2; omega)
theorem sl_val (s : ℕ) : (sl s).val = s % 2 := rfl

/-! ## The schedule -/

/-- The landing slots of two rings on device `c`. -/
def give (r r' : Fin 4) (c : Dev nD) : sProp 𝕄 := iprop(slotAny (F := F) r 1 c ∗ slotAny (F := F) r' 1 c)

/-- What the barrier cell of device `c` brings: from the device after it, and from the device before it. -/
def barPay (c : Dev nD) (d : Bool) : sProp 𝕄 := if d then give 0 1 (nxt c) else give 2 3 (prv c)

/-- What hop `s` of ring `r` brings to device `c`; -/
def recvPay (r : Fin 4) (k : Fin 2) (s : ℕ) (c : Dev nD) : sProp 𝕄 :=
  iprop(slot r k c (part m r s (up r c)) ∗ reached ER (freeCell r (up r c)) s)

/-- what the credit for hop `s + 1` brings: the slot ahead, and that its receive cell has come as far. -/
def freePay (r : Fin 4) (s : ℕ) (c : Dev nD) : sProp 𝕄 :=
  iprop(slotAny (F := F) r (sl s) (dn r c) ∗ reached ER (recvCell r (sl s) (dn r c)) ((s + 1) / 2))

def pay (g : GSem nD τ sig) (j : ℕ) (d : Bool) : sProp 𝕄 :=
  match kd g.2 with
  | .bar => barPay g.1.1 d
  | .send r k => slotAny r k g.1.1
  | .recv r k => recvPay m r k (2 * j + (1 - k.val)) g.1.1
  | .free r => freePay r j g.1.1
  | .other => iprop(emp)

def dts (g : GSem nD τ sig) (j : ℕ) : Finset Bool :=
  if g.1.2 = .tc then
    match kd g.2 with
    | .bar => if j = 0 then Finset.univ else ∅
    | .send r k => if 2 * j + k.val < 7 then {false} else ∅
    | .recv r k => if 2 * j + (1 - k.val) < 7 then {false} else ∅
    | .free r => if j < 6 then {false} else ∅
    | .other => ∅
  else ∅

def amt (g : GSem nD τ sig) : ℕ :=
  match kd g.2 with
  | .bar => 1
  | .free _ => 1
  | _ => N

def Rd : Rounds.Schedule (GSem nD τ sig) Bool 𝕄 where
  duties := dts
  unitless _ := False
  amount g _ _ := amt g
  payload := pay m
  amount_pos g _ _ _ := by
    unfold amt
    split
    · exact Nat.one_pos
    · exact Nat.one_pos
    · exact N_pos

instance give_storable (r r' : Fin 4) (c : Dev nD) : BI.Storable (upEmb : UEmb _ 𝕄) (give (F := F) r r' c) := by
  unfold give; infer_instance
instance recvPay_storable (r : Fin 4) (k : Fin 2) (s : ℕ) (c : Dev nD) : BI.Storable (upEmb : UEmb _ 𝕄) (recvPay (F := F) m r k s c) := by
  unfold recvPay; infer_instance
instance freePay_storable (r : Fin 4) (s : ℕ) (c : Dev nD) : BI.Storable (upEmb : UEmb _ 𝕄) (freePay (F := F) r s c) := by
  unfold freePay; infer_instance

instance Rd_payload_storable (g : GSem nD τ sig) (j : ℕ) (d : Bool) :
    BI.Storable (upEmb : UEmb _ 𝕄) ((Rd (F := F) m).payload g j d) := by
  show BI.Storable upEmb (pay m g j d)
  unfold pay barPay
  (repeat' split) <;> infer_instance

section Tables
variable (c : Dev nD) (r : Fin 4)

theorem amount_bar (j : ℕ) (d : Bool) : (Rd (F := F) m).amount (barCell c) j d = 1 := by
  show amt (barCell c) = 1
  unfold amt; rw [kd_bar]
theorem amount_send (k : Fin 2) (j : ℕ) (d : Bool) : (Rd (F := F) m).amount (sendCell r k c) j d = N := by
  show amt (sendCell r k c) = N
  unfold amt; rw [kd_send]
theorem amount_recv (k : Fin 2) (j : ℕ) (d : Bool) : (Rd (F := F) m).amount (recvCell r k c) j d = N := by
  show amt (recvCell r k c) = N
  unfold amt; rw [kd_recv]
theorem amount_free (j : ℕ) (d : Bool) : (Rd (F := F) m).amount (freeCell r c) j d = 1 := by
  show amt (freeCell r c) = 1
  unfold amt; rw [kd_free]

theorem duties_bar : (Rd (F := F) m).duties (barCell c) 0 = Finset.univ := by
  show dts (barCell c) 0 = _
  unfold dts; rw [if_pos rfl, kd_bar]; exact if_pos rfl
theorem duties_send {s : ℕ} (hs : s < 7) : (Rd (F := F) m).duties (sendCell r (sl s) c) (s / 2) = {false} := by
  show dts (sendCell r (sl s) c) (s / 2) = _
  unfold dts; rw [if_pos rfl, kd_send]; exact if_pos (by rw [sl_val]; omega)
theorem duties_recv {s : ℕ} (hs : s < 7) : (Rd (F := F) m).duties (recvCell r (sl (s + 1)) c) (s / 2) = {false} := by
  show dts (recvCell r (sl (s + 1)) c) (s / 2) = _
  unfold dts; rw [if_pos rfl, kd_recv]; exact if_pos (by rw [sl_val]; omega)
theorem duties_free {s : ℕ} (hs : s < 6) : (Rd (F := F) m).duties (freeCell r c) s = {false} := by
  show dts (freeCell r c) s = _
  unfold dts; rw [if_pos rfl, kd_free]; exact if_pos hs

theorem over_bar : ∀ j, 1 ≤ j → (Rd (F := F) m).duties (barCell c) j = ∅ := by
  intro j hj
  show dts (barCell c) j = _
  unfold dts; rw [if_pos rfl, kd_bar]; exact if_neg (by omega)
theorem over_send (k : Fin 2) (R : ℕ) (hR : 7 ≤ 2 * R + k.val) : ∀ j, R ≤ j → (Rd (F := F) m).duties (sendCell r k c) j = ∅ := by
  intro j hj
  show dts (sendCell r k c) j = _
  unfold dts; rw [if_pos rfl, kd_send]; exact if_neg (by omega)
theorem over_recv (k : Fin 2) (R : ℕ) (hR : 7 ≤ 2 * R + (1 - k.val)) : ∀ j, R ≤ j → (Rd (F := F) m).duties (recvCell r k c) j = ∅ := by
  intro j hj
  show dts (recvCell r k c) j = _
  unfold dts; rw [if_pos rfl, kd_recv]; exact if_neg (by omega)
theorem over_free : ∀ j, 6 ≤ j → (Rd (F := F) m).duties (freeCell r c) j = ∅ := by
  intro j hj
  show dts (freeCell r c) j = _
  unfold dts; rw [if_pos rfl, kd_free]; exact if_neg (by omega)

theorem expect_bar : (Rd (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_send {s : ℕ} (hs : s < 7) : (Rd (F := F) m).expect (sendCell r (sl s) c) (s / 2) = N := by
  unfold Schedule.expect Schedule.amountOf; rw [duties_send m c r hs, Finset.sum_singleton, amount_send]
theorem expect_recv {s : ℕ} (hs : s < 7) : (Rd (F := F) m).expect (recvCell r (sl (s + 1)) c) (s / 2) = N := by
  unfold Schedule.expect Schedule.amountOf; rw [duties_recv m c r hs, Finset.sum_singleton, amount_recv]
theorem expect_free {s : ℕ} (hs : s < 6) : (Rd (F := F) m).expect (freeCell r c) s = 1 := by
  unfold Schedule.expect Schedule.amountOf; rw [duties_free m c r hs, Finset.sum_singleton, amount_free]

theorem payload_bar (j : ℕ) (d : Bool) : (Rd (F := F) m).payload (barCell c) j d = barPay c d := by
  show pay m (barCell c) j d = _
  unfold pay; rw [kd_bar]
theorem payload_send (k : Fin 2) (j : ℕ) (d : Bool) : (Rd (F := F) m).payload (sendCell r k c) j d = slotAny r k c := by
  show pay m (sendCell r k c) j d = _
  unfold pay; rw [kd_send]
theorem payload_recv (s : ℕ) (d : Bool) : (Rd (F := F) m).payload (recvCell r (sl (s + 1)) c) (s / 2) d = recvPay m r (sl (s + 1)) s c := by
  show pay m (recvCell r (sl (s + 1)) c) (s / 2) d = _
  unfold pay; rw [kd_recv]
  show recvPay m r (sl (s + 1)) (2 * (s / 2) + (1 - (sl (s + 1)).val)) c = _
  rw [show 2 * (s / 2) + (1 - (sl (s + 1)).val) = s by rw [sl_val]; omega]
theorem payload_free (s : ℕ) (d : Bool) : (Rd (F := F) m).payload (freeCell r c) s d = freePay r s c := by
  show pay m (freeCell r c) s d = _
  unfold pay; rw [kd_free]

theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send {s : ℕ} (hs : s < 7) : bigSep ((Rd (F := F) m).duties (sendCell r (sl s) c) (s / 2) \ ∅) (fun d => (Rd (F := F) m).payload (sendCell r (sl s) c) (s / 2) d)
    = slotAny r (sl s) c := by
  rw [Finset.sdiff_empty, duties_send m c r hs, bigSep_singleton, payload_send]
theorem rest_recv {s : ℕ} (hs : s < 7) : bigSep ((Rd (F := F) m).duties (recvCell r (sl (s + 1)) c) (s / 2) \ ∅) (fun d => (Rd (F := F) m).payload (recvCell r (sl (s + 1)) c) (s / 2) d)
    = recvPay m r (sl (s + 1)) s c := by
  rw [Finset.sdiff_empty, duties_recv m c r hs, bigSep_singleton, payload_recv]
theorem rest_free {s : ℕ} (hs : s < 6) : bigSep ((Rd (F := F) m).duties (freeCell r c) s \ ∅) (fun d => (Rd (F := F) m).payload (freeCell r c) s d)
    = freePay r s c := by
  rw [Finset.sdiff_empty, duties_free m c r hs, bigSep_singleton, payload_free]

end Tables

/-! ## The payments -/

/-- What a device pays into a cell: a signal of the handshake, a transfer's arrival, a credit, a transfer's departure. -/
inductive Ev
  | bar (d : Bool)
  | recv (r : Fin 4) (s : ℕ)
  | free (r : Fin 4) (s : ℕ)
  | send (r : Fin 4) (s : ℕ)
  deriving DecidableEq

namespace Ev

/-- Its cell on device `c`, -/
def cell : Ev → Dev nD → GSem nD τ sig
  | .bar _, c => barCell c
  | .recv r s, c => recvCell r (sl (s + 1)) c
  | .free r _, c => freeCell r c
  | .send r s, c => sendCell r (sl s) c
/-- the device a device pays it to, -/
def payee : Ev → (Dev nD ≃ Dev nD)
  | .bar true => turn.symm
  | .bar false => turn
  | .recv r _ => ring r
  | .free r _ => (ring r).symm
  | .send _ _ => Equiv.refl _
theorem payee_recv (r : Fin 4) (s : ℕ) (c : Dev nD) : (Ev.recv r s).payee c = dn r c := rfl
theorem payee_free (r : Fin 4) (s : ℕ) (c : Dev nD) : (Ev.free r s).payee c = up r c := rfl
theorem payee_prv (c : Dev nD) : (Ev.bar true).payee c = prv c := rfl
theorem payee_nxt (c : Dev nD) : (Ev.bar false).payee c = nxt c := rfl
/-- its hop, -/
def ix : Ev → ℕ
  | .bar _ => 0
  | .recv _ s => s
  | .free _ s => s
  | .send _ s => s
/-- how much it is, -/
def units : Ev → ℕ
  | .bar _ => 1
  | .recv _ _ => N
  | .free _ _ => 1
  | .send _ _ => N
/-- in which round of the cell, -/
def round : Ev → ℕ
  | .bar _ => 0
  | .recv _ s => s / 2
  | .free _ s => s
  | .send _ s => s / 2
/-- and for which duty there. -/
def duty : Ev → Bool
  | .bar d => d
  | _ => false

/-- The rings' order within a hop. -/
def pos : Fin 4 → ℕ := ![0, 2, 1, 3]

/-- Its level: a hop's cells above those of the hops before it, and within a hop in the rings' order. -/
def lvl : Ev → ℕ
  | .bar _ => 1
  | .recv r s => 2 * (4 * s + pos r) + 2
  | .free r s => 2 * (4 * s + pos r) + 3
  | .send _ _ => 0

end Ev

/-- What device `c` owes along a list of payments to come, the next one first. -/
def owe (c : Dev nD) : List Ev → CellTallies nD τ sig ℕ
  | [] => 0
  | p :: l => owe c l + tallyAt (p.cell (p.payee c)) p.ix p.units

theorem owe_recv (c : Dev nD) (r : Fin 4) (s : ℕ) (l : List Ev) : owe c (.recv r s :: l) = owe c l + tallyAt (recvCell r (sl (s + 1)) (dn r c)) s N := by
  rw [owe, Ev.payee_recv]; dsimp only [Ev.cell, Ev.ix, Ev.units]
theorem owe_free (c : Dev nD) (r : Fin 4) (s : ℕ) (l : List Ev) : owe c (.free r s :: l) = owe c l + tallyAt (freeCell r (up r c)) s 1 := by
  rw [owe, Ev.payee_free]; dsimp only [Ev.cell, Ev.ix, Ev.units]
theorem owe_prv (c : Dev nD) (l : List Ev) : owe c (.bar true :: l) = owe c l + tallyAt (barCell (prv c)) 0 1 := by
  rw [owe, Ev.payee_prv]; dsimp only [Ev.cell, Ev.ix, Ev.units]
theorem owe_nxt (c : Dev nD) (l : List Ev) : owe c (.bar false :: l) = owe c l + tallyAt (barCell (nxt c)) 0 1 := by
  rw [owe, Ev.payee_nxt]; dsimp only [Ev.cell, Ev.ix, Ev.units]

/-- Ring `r`'s payments in hop `s`, -/
abbrev lapPays (r : Fin 4) (s : ℕ) : List Ev := [.free r s, .recv r (s + 1)]
/-- all the hop's, -/
abbrev hopPays (s : ℕ) : List Ev := lapPays 0 s ++ (lapPays 2 s ++ (lapPays 1 s ++ lapPays 3 s))
/-- those from hop `s` on. -/
abbrev ahead (s : ℕ) : List Ev := (List.range' s (6 - s)).flatMap hopPays
/-- The first transfers; -/
abbrev sends : List Ev := .recv 0 0 :: .recv 1 0 :: .recv 2 0 :: .recv 3 0 :: ahead 0
/-- before them the two signals. -/
abbrev pays : List Ev := .bar true :: .bar false :: sends

theorem ahead_hop {s : ℕ} (hs : s < 6) : ahead s = lapPays 0 s ++ (lapPays 2 s ++ (lapPays 1 s ++ (lapPays 3 s ++ ahead (s + 1)))) := by
  have h : ∀ s : Fin 6, ahead s = lapPays 0 s ++ (lapPays 2 s ++ (lapPays 1 s ++ (lapPays 3 s ++ ahead (s + 1)))) := by decide
  exact h ⟨s, hs⟩

/-! ## The levels -/

def L (g : GSem nD τ sig) : Finset ℕ := if g.1.2 = .tc then Finset.range 7 else ∅
def lv (g : GSem nD τ sig) (s : ℕ) : ℕ :=
  match kd g.2 with
  | .bar => 1
  | .recv r _ => 2 * (4 * s + Ev.pos r) + 2
  | .free r => 2 * (4 * s + Ev.pos r) + 3
  | _ => 0

theorem L_of_ne (g : GSem nD τ sig) (h : g.1.2 ≠ .tc) : L g = ∅ := if_neg h
theorem L_tc (c : Dev nD) (sm : SemLoc sig) : L ((c : Thread nD τ), sm) = Finset.range 7 := if_pos rfl

theorem lv_cell (p : Ev) (c : Dev nD) : lv (p.cell c) p.ix = p.lvl := by
  cases p <;> unfold lv <;> dsimp only [Ev.cell]
  · rw [kd_bar]; rfl
  · rw [kd_recv]; rfl
  · rw [kd_free]; rfl
  · rw [kd_send]; rfl
theorem cell_tc (p : Ev) (c : Dev nD) : (p.cell c).1.2 = .tc := by cases p <;> rfl
theorem cell_dev (p : Ev) (c : Dev nD) : (p.cell c).1.1 = c := by cases p <;> rfl

/-- All the payments of a list lie above level `n`. -/
abbrev Above (n : ℕ) (l : List Ev) : Prop := ∀ p ∈ l, p.ix < 7 ∧ n < p.lvl

theorem Above.mono {n n' : ℕ} {l : List Ev} (h : Above n l) (hn : n' ≤ n) : Above n' l := fun p hp => ⟨(h p hp).1, lt_of_le_of_lt hn (h p hp).2⟩
theorem Above.cons {n : ℕ} {p : Ev} {l : List Ev} (hp : p.ix < 7 ∧ n < p.lvl) (h : Above n l) : Above n (p :: l) := fun q hq => by
  rcases List.mem_cons.mp hq with rfl | hq
  · exact hp
  · exact h q hq

/-- Only what is on the list is owed. -/
theorem owe_pos {c : Dev nD} {l : List Ev} {g : GSem nD τ sig} {u : ℕ} (h : 0 < owe c l g u) : ∃ p ∈ l, g = p.cell (p.payee c) ∧ u = p.ix := by
  induction l with
  | nil => exact absurd h (Nat.lt_irrefl 0)
  | cons p l ih =>
    rw [owe, Pi.add_apply, Finsupp.add_apply, tallyAt_apply] at h
    by_cases hp : g = p.cell (p.payee c) ∧ u = p.ix
    · exact ⟨p, List.mem_cons_self, hp⟩
    · rw [if_neg hp, Nat.add_zero] at h
      obtain ⟨q, hq, e⟩ := ih h
      exact ⟨q, List.mem_cons_of_mem _ hq, e⟩

/-- A device may wait on a semaphore below everything it still owes. -/
theorem mayWait_owe (c : Dev nD) (sm : SemLoc sig) (s : ℕ) (hs : s < 7) (l : List Ev) (hl : Above (lv ((c : Thread nD τ), sm) s) l) :
    (levAts L lv : sProp 𝕄) ⊢ MayWait (c : Thread nD τ) sm s (owe c l) :=
  MayOwe.of_cut (L := L) (lev := lv) (lv ((c : Thread nD τ), sm) s)
    (fun p hp => by rw [Finset.mem_singleton.mp hp, L_tc]; exact Finset.mem_range.mpr hs)
    (fun g u hg => by
      obtain ⟨p, hp, rfl, rfl⟩ := owe_pos hg
      rw [L, if_pos (cell_tc p _)]; exact Finset.mem_range.mpr (hl p hp).1)
    (fun p hp => by rw [Finset.mem_singleton.mp hp])
    (fun g u hg => by
      obtain ⟨p, hp, rfl, rfl⟩ := owe_pos hg
      rw [lv_cell]; exact (hl p hp).2)

theorem lv_other (c : Dev nD) {sm : SemLoc sig} (h : kd sm = .other) (s : ℕ) : lv ((c : Thread nD τ), sm) s = 0 := by
  unfold lv; dsimp only; rw [h]
theorem lv_bar (c : Dev nD) (s : ℕ) : lv (barCell c) s = 1 := by unfold lv; dsimp only [barCell]; rw [kd_bar]
theorem lv_send (c : Dev nD) (r : Fin 4) (k : Fin 2) (s : ℕ) : lv (sendCell r k c) s = 0 := by unfold lv; dsimp only [sendCell]; rw [kd_send]
theorem lv_recv (c : Dev nD) (r : Fin 4) (k : Fin 2) (s : ℕ) : lv (recvCell r k c) s = Ev.lvl (.recv r s) := by
  unfold lv; dsimp only [recvCell]; rw [kd_recv]; rfl
theorem lv_free (c : Dev nD) (r : Fin 4) (s : ℕ) : lv (freeCell r c) s = Ev.lvl (.free r s) := by
  unfold lv; dsimp only [freeCell]; rw [kd_free]; rfl

end Cert.CreditedIdeal.Rings
-- ==== Proof.Rings.Local.lean ====
/-
# The stretches that stay on a device

The rules of the stretches that touch no other device: a chunk staged, the two products, a block written back.
-/
module

public import proofs.«01_k».proof.Proof.Rings.Common
public import Idealize.ShloMosaic.Lib.VecWindow
public import Idealize.ShloMosaic.Lib.Pipeline.Value

@[expose] public section

set_option maxRecDepth 16384

noncomputable section

namespace Cert.CreditedIdeal.Rings

open Cert.CreditedIdeal Cert.CreditedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## Slots -/

theorem slot_set (r : Fin 4) (k : Fin 2) : (slotM r k).view.set = cM.view.setOn (slotR r k).set := by
  show ((cM.view.slice (slotR r k)).reshape S1024x1024 _).set = _
  rw [View.set_reshape, View.set_slice]
  rfl

/-- Reading a slot. -/
theorem slot_load (c : Dev nD) (r : Fin 4) (k : Fin 2) (V : Vec F S1024x1024 .f32) {hl : cM.view.LoadsAt (slotR r k).toLoadRect}
    {kk : Vec F S1x1x1024x1024 .f32 → P F} {Q : PUnit → sProp 𝕄} :
    slot (F := F) r k c V ⊢ iprop((slot (F := F) r k c V -∗ WP c (kk (shapeCast S1x1x1024x1024 V shapeCasts_S1024x1024_S1x1x1024x1024)) Q)
      -∗ WP c (.op (.load cM (slotR r k).toLoadRect hl) kk) Q) := by
  unfold slot owns
  iintro ⟨%f, %hf, H⟩ Hk
  iapply (wp_load 𝒱₀ (c : Thread nD τ) none Set.univ (m := cM) (r := (slotR r k).toLoadRect) (S := (slotM r k).view.set) (f := f) (slot_set r k).ge) $$ H
  iintro H
  have e : cM.view.readAt (Elt F) (slotR r k).toLoadRect f = shapeCast S1x1x1024x1024 V shapeCasts_S1024x1024_S1x1x1024x1024 := by
    rw [← hf]
    exact (shapeCast_shapeCast (cM.view.readAt (Elt F) (slotR r k).toLoadRect f) _ _).symm
  rw [e]
  iapply Hk
  iexists f
  isplitr; · ipureintro; exact hf
  iexact H

/-- Writing a slot. -/
theorem slot_store (c : Dev nD) (r : Fin 4) (k : Fin 2) (v : Vec F S1024x1024 .f32)
    {hx : (cM.access (slotR r k)).Stores Finset.univ} {hm : (Finset.univ : Finset (slotR r k).shape.Idx) = Finset.univ ∨ ∀ a, (slotR r k).stride a = 1}
    {kk : PUnit → P F} {Q : PUnit → sProp 𝕄} :
    slotAny (F := F) r k c ⊢ iprop((slot (F := F) r k c v -∗ WP c (kk ⟨⟩) Q)
      -∗ WP c (.op (.store cM (slotR r k) (shapeCast S1x1x1024x1024 v shapeCasts_S1024x1024_S1x1x1024x1024) Finset.univ hx hm) kk) Q) := by
  unfold slotAny slot owns
  iintro ⟨%V, %f, %hf, H⟩ Hk
  iapply (wp_store 𝒱₀ (c : Thread nD τ) none Set.univ (m := cM) (r := slotR r k) (S := (slotM r k).view.set) (f := f)
    (by rw [slot_set]; exact (View.set_slice _ _).le)) $$ H
  iintro H
  iapply Hk
  iexists ((cM.access (slotR r k)).write (Elt F) f (shapeCast S1x1x1024x1024 v shapeCasts_S1024x1024_S1x1x1024x1024) Finset.univ)
  isplitr
  · ipureintro
    show shapeCast S1024x1024 ((cM.view.slice (slotR r k)).read (Elt F) ((cM.access (slotR r k)).write (Elt F) f _ Finset.univ)) _ = v
    rw [View.read_write_univ]
    exact shapeCast_shapeCast v _ _
  iexact H

/-! ## The two products -/

/-- A staging buffer on device `c`, holding `V`. -/
abbrev buf (b : Memref sig .tc .vmem S1024x1024 .f32) (c : Dev nD) (V : Vec F S1024x1024 .f32) : sProp 𝕄 :=
  owns (c : Thread nD τ) b fullShare V
abbrev bufAny (b : Memref sig .tc .vmem S1024x1024 .f32) (c : Dev nD) : sProp 𝕄 := iprop(∃ V, buf (F := F) b c V)

/-- Reading a staging buffer. -/
theorem buf_load (b : Memref sig .tc .vmem S1024x1024 .f32) (c : Dev nD) (V : Vec F S1024x1024 .f32) {hl : b.view.LoadsAt full2.toLoadRect}
    {kk : Vec F S1024x1024 .f32 → P F} {Q : PUnit → sProp 𝕄} :
    buf (F := F) b c V ⊢ iprop((buf (F := F) b c V -∗ WP c (kk V) Q) -∗ WP c (.op (.load b full2.toLoadRect hl) kk) Q) := by
  unfold buf owns
  iintro ⟨%f, %hf, H⟩ Hk
  iapply (wp_load 𝒱₀ (c : Thread nD τ) none Set.univ (m := b) (r := full2.toLoadRect) (S := b.view.set) (f := f) (View.setOn_subset_set _ _)) $$ H
  iintro H
  have e : b.view.readAt (Elt F) full2.toLoadRect f = V := (View.readAt_full b.view f _).trans hf
  rw [e]
  iapply Hk
  iexists f
  isplitr; · ipureintro; exact hf
  iexact H

/-- Device `c`'s share of the right operand, staged. -/
abbrev wPts (c : Dev nD) : sProp 𝕄 := (c : Thread nD τ).loc cc0_stg0_0 ↦{fullShare} wAt m c

theorem w_load (c : Dev nD) (r : Fin 4) {hl : wM.view.LoadsAt (colR r).toLoadRect}
    {kk : Vec F S1024x1024 .f32 → P F} {Q : PUnit → sProp 𝕄} :
    wPts m c ⊢ iprop((wPts m c -∗ WP c (kk (wcol m c r)) Q) -∗ WP c (.op (.load wM (colR r).toLoadRect hl) kk) Q) :=
  wp_load 𝒱₀ (c : Thread nD τ) none Set.univ (m := wM) (S := Finset.univ) (f := wAt m c) (Finset.subset_univ _)

theorem first_wp (b : Memref sig .tc .vmem S1024x1024 .f32) (c : Dev nD) (r : Fin 4) (j : Fin 2) (V : Vec F S1024x1024 .f32)
    {k : P F} {Q : PUnit → sProp 𝕄} :
    iprop(buf (F := F) b c V ∗ wPts m c ∗ slotAny (F := F) r j c)
      ⊢ iprop((iprop(buf (F := F) b c V ∗ wPts m c ∗ slot r j c (dot V (wcol m c r))) -∗ WP c k Q) -∗ WP c (first b r j k) Q) := by
  unfold first
  iintro ⟨Hb, Hw, %V', Hs⟩ Hk
  iapply (buf_load b c V) $$ Hb
  iintro Hb
  iapply (w_load m c r) $$ Hw
  iintro Hw
  iapply (slot_load c r j V') $$ Hs
  iintro Hs
  rw [shapeCast_self (wcol m c r)]
  iapply (slot_store c r j (dot V (wcol m c r))) $$ [Hs]
  · iexists V'; iexact Hs
  iintro Hs
  iapply Hk
  isplitl [Hb]; · iexact Hb
  isplitl [Hw] <;> iassumption

theorem accum_wp (b : Memref sig .tc .vmem S1024x1024 .f32) (c : Dev nD) (r : Fin 4) (j : Fin 2) (V Y : Vec F S1024x1024 .f32)
    {k : P F} {Q : PUnit → sProp 𝕄} :
    iprop(buf (F := F) b c V ∗ wPts m c ∗ slot (F := F) r j c Y)
      ⊢ iprop((iprop(buf (F := F) b c V ∗ wPts m c ∗ slot r j c (addf Y (dot V (wcol m c r)))) -∗ WP c k Q) -∗ WP c (accum b r j k) Q) := by
  unfold accum
  iintro ⟨Hb, Hw, Hs⟩ Hk
  iapply (slot_load c r j Y) $$ Hs
  iintro Hs
  iapply (buf_load b c V) $$ Hb
  iintro Hb
  iapply (w_load m c r) $$ Hw
  iintro Hw
  iapply (slot_load c r j Y) $$ Hs
  iintro Hs
  rw [shapeCast_self (wcol m c r), shapeCast_shapeCast Y]
  iapply (slot_store c r j (addf Y (dot V (wcol m c r)))) $$ [Hs]
  · iexists Y; iexact Hs
  iintro Hs
  iapply Hk
  isplitl [Hb]; · iexact Hb
  isplitl [Hw] <;> iassumption

/-! ## Staging a chunk of rows -/

/-- What device `c` still owes along the list `l`. -/
def owing (c : Dev nD) (l : List Ev) : sProp 𝕄 := iprop(∃ W, owes (c : Thread nD τ) (owe c l) W)

/-- Device `c`'s share of the left operand. -/
abbrev xPts (c : Dev nD) (q : PosShare TreeShare) : sProp 𝕄 := (c : Thread nD τ).loc main_arg0 ↦{q} xAt m c

abbrev rowsAt (d : Dev nD) : Memref sig .tc .hbm S1024x1024 .f32 := chunkM ![1024 * d.val, 0] (row_inb d)

/-- The chunk `d` on its way into `b`; the rest of the left operand beside it. -/
def staging (b : Memref sig .tc .vmem S1024x1024 .f32) (q : DmaSem sig) (c d : Dev nD) (sh : PosShare TreeShare) : sProp 𝕄 :=
  iprop(Flight EC (c : Thread nD τ) (.dma q) (0 : ℕ) b.view.dmaCredit
      (iprop(buf b c (chunk m c d) ∗ ((rowsAt d).view.loc (c : Thread nD τ) ↦[(rowsAt d).view.set]{sh} xAt m c)) : sProp 𝕄)
    ∗ ((c : Thread nD τ).loc main_arg0 ↦[Finset.univ \ (rowsAt d).view.set]{sh} xAt m c))

theorem stage_wp {off : Fin 2 → ℕ} {h : ∀ a, off a + S1024x1024.size a ≤ S8192x1024.size a} (b : Memref sig .tc .vmem S1024x1024 .f32) {hb : b.IsWhole}
    (q : DmaSem sig) (c d : Dev nD) (sh : PosShare TreeShare) (hoff : off = ![1024 * d.val, 0]) {k : P F} {Q : PUnit → sProp 𝕄} :
    iprop(xPts m c sh ∗ bufAny (F := F) b c ∗ semVal ((c : Thread nD τ), SemLoc.dma q) 0)
      ⊢ iprop((staging m b q c d sh -∗ WP c k Q) -∗ WP c (stage off h b hb q k) Q) := by
  subst hoff
  unfold stage bufAny buf owns
  iintro ⟨Hx, ⟨%V, %f, %hf, Hb⟩, Hv⟩ Hk
  ihave Hx := (pointsTo_split_subset (Finset.subset_univ (rowsAt d).view.set)).1 $$ Hx
  icases Hx with ⟨Hx, Hr⟩
  iapply (Transfers.wp_dmaLocal EC 𝒱₀ (c : Thread nD τ) none (src := rowsAt d) (dst := b) (fs := xAt m c) (fd := f) (0 : ℕ) b.view.dmaCredit rfl
    (View.dmaCredit_pos _ (by decide)) (Finset.Subset.refl _)) $$ [Hx Hb Hv]
  · isplitl [Hx]; · iexact Hx
    isplitl [Hb] <;> iassumption
  iintro Hf
  iapply Hk
  unfold staging
  isplitl [Hf]
  · iapply (Transfers.Flight_mono EC (c : Thread nD τ) ?_) $$ Hf
    iintro ⟨Hb, Hx⟩
    isplitl [Hb]
    · ihave Hb := (owns_intro (c : Thread nD τ) b fullShare _) $$ Hb
      rw [View.read_write_univ]
      iexact Hb
    · iexact Hx
  · iexact Hr

theorem staged_wp {off : Fin 2 → ℕ} {h : ∀ a, off a + S1024x1024.size a ≤ S8192x1024.size a} (b : Memref sig .tc .vmem S1024x1024 .f32) {hb : b.IsWhole}
    (q : DmaSem sig) (c d : Dev nD) (sh : PosShare TreeShare) (l : List Ev)
    (hq : kd (.dma q) = .other) (hl : Above 0 l) {k : P F} {Q : PUnit → sProp 𝕄} :
    iprop(levAts L lv ∗ staging m b q c d sh ∗ owing c l)
      ⊢ iprop((iprop(buf b c (chunk m c d) ∗ xPts m c sh ∗ semVal ((c : Thread nD τ), SemLoc.dma q) 0 ∗ owing c l) -∗ WP c k Q)
        -∗ WP c (staged off h b hb q k) Q) := by
  unfold staged staging owing
  iintro ⟨Hlev, ⟨Hf, Hr⟩, %W, HO⟩ Hk
  iapply (Transfers.wp_waitLocalO EC 𝒱₀ (c : Thread nD τ) none (0 : ℕ) rfl (O := owe c l) (W := W)) $$ [Hlev Hf HO]
  · isplitl [Hf]; · iexact Hf
    isplitl [HO]; · iexact HO
    iapply (mayWait_owe c _ 0 (by decide) l (by rw [lv_other c hq]; exact hl)) $$ Hlev
  iintro ⟨⟨Hb, Hx⟩, Hv, HO⟩
  iapply Hk
  isplitl [Hb]; · iexact Hb
  isplitl [Hx Hr]
  · iapply (pointsTo_split_subset (Finset.subset_univ (rowsAt d).view.set)).2
    isplitl [Hx] <;> iassumption
  isplitl [Hv]; · iexact Hv
  iexists _; iexact HO

/-! ## Writing a block back -/

/-- Ring `r`'s slot 1 on its way into the ring's columns of the result. -/
def writing (c : Dev nD) (r : Fin 4) (j : Fin 2) (V : Vec F S1024x1024 .f32) : sProp 𝕄 :=
  Flight EC (c : Thread nD τ) (.dma (outS r)) (0 : ℕ) (outM r).view.dmaCredit
    (iprop(owns (c : Thread nD τ) (outM r) fullShare V ∗ slotAny r j c) : sProp 𝕄)

theorem writeBack_wp (c : Dev nD) (r : Fin 4) (j : Fin 2) (V : Vec F S1024x1024 .f32) {k : P F} {Q : PUnit → sProp 𝕄} :
    iprop(slot (F := F) r j c V ∗ (∃ V', owns (c : Thread nD τ) (outM r) fullShare V') ∗ semVal ((c : Thread nD τ), SemLoc.dma (outS r)) 0)
      ⊢ iprop((writing c r j V -∗ WP c k Q) -∗ WP c (writeBack r j k) Q) := by
  unfold writeBack slot owns
  iintro ⟨⟨%g, %hg, Hs⟩, ⟨%V', %f, %hf, Ho⟩, Hv⟩ Hk
  iapply (Transfers.wp_dmaLocal EC 𝒱₀ (c : Thread nD τ) none (src := slotM r j) (dst := outM r) (fs := g) (fd := f) (0 : ℕ) (outM r).view.dmaCredit rfl
    (View.dmaCredit_pos _ (by decide)) (Finset.Subset.refl _)) $$ [Hs Ho Hv]
  · isplitl [Hs]; · iexact Hs
    isplitl [Ho] <;> iassumption
  iintro Hf
  iapply Hk
  unfold writing
  iapply (Transfers.Flight_mono EC (c : Thread nD τ) ?_) $$ Hf
  iintro ⟨Ho, Hs⟩
  isplitl [Ho]
  · ihave Ho := (owns_intro (c : Thread nD τ) (outM r) fullShare _) $$ Ho
    rw [View.read_write_univ, ReadAs.apply_same, hg]
    iexact Ho
  · iexists _
    iapply (owns_intro (c : Thread nD τ) (slotM r j) fullShare g) $$ Hs

theorem written_wp (c : Dev nD) (r : Fin 4) (j : Fin 2) (V : Vec F S1024x1024 .f32) (l : List Ev)
    (hl : Above 0 l) {k : P F} {Q : PUnit → sProp 𝕄} :
    iprop(levAts L lv ∗ writing c r j V ∗ owing c l)
      ⊢ iprop((iprop(owns (c : Thread nD τ) (outM r) fullShare V ∗ slotAny (F := F) r j c ∗ semVal ((c : Thread nD τ), SemLoc.dma (outS r)) 0 ∗ owing c l) -∗ WP c k Q)
        -∗ WP c (written r j k) Q) := by
  unfold written writing owing
  iintro ⟨Hlev, Hf, %W, HO⟩ Hk
  iapply (Transfers.wp_waitLocalO EC 𝒱₀ (c : Thread nD τ) none (0 : ℕ) rfl (O := owe c l) (W := W)) $$ [Hlev Hf HO]
  · isplitl [Hf]; · iexact Hf
    isplitl [HO]; · iexact HO
    iapply (mayWait_owe c _ 0 (by decide) l (by rw [lv_other c (kd_out r)]; exact hl)) $$ Hlev
  iintro ⟨⟨Ho, Hs⟩, Hv, HO⟩
  iapply Hk
  isplitl [Ho]; · iexact Ho
  isplitl [Hs]; · iexact Hs
  isplitl [Hv]; · iexact Hv
  iexists _; iexact HO

end Cert.CreditedIdeal.Rings
-- ==== Proof.Rings.Ring.lean ====
/-
# The stretches between devices

The rules of the handshake, of a transfer to the next device of a ring, of the two waits it ends in, and of the credit that
precedes the next one.
-/
module

public import proofs.«01_k».proof.Proof.Rings.Local

@[expose] public section

set_option maxRecDepth 16384

noncomputable section

namespace Cert.CreditedIdeal.Rings

open Cert.CreditedIdeal Cert.CreditedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The records every device may use -/

/-- The cells of a device: its barrier cell, its credit cells, its send cells, its receive cells. -/
abbrev Ck : Type := Option (Fin 4 ⊕ Bool × Fin 4 × Fin 2)
abbrev freeK (r : Fin 4) : Ck := some (.inl r)
abbrev sendK (r : Fin 4) (k : Fin 2) : Ck := some (.inr (false, r, k))
abbrev recvK (r : Fin 4) (k : Fin 2) : Ck := some (.inr (true, r, k))

def kcell (x : Dev nD × Ck) : GSem nD τ sig :=
  match x.2 with
  | none => barCell x.1
  | some (.inl r) => freeCell r x.1
  | some (.inr (false, r, k)) => sendCell r k x.1
  | some (.inr (true, r, k)) => recvCell r k x.1

/-- Every cell runs the schedule, and stands open at its first round; the levels. -/
def recs (K : Dev nD × Ck → ℕ) : sProp 𝕄 :=
  iprop(bigSep Finset.univ (fun x => cellInv ER (Rd m) (K x) (kcell x)) ∗ bigSep Finset.univ (fun x => reached ER (kcell x) 0) ∗ levAts L lv)

instance recs_persistent (K : Dev nD × Ck → ℕ) : BI.Persistent (recs m K) := by unfold recs; infer_instance

variable (K : Dev nD × Ck → ℕ)

theorem inv_at (x : Dev nD × Ck) : recs m K ⊢ cellInv ER (Rd m) (K x) (kcell x) := by
  unfold recs; exact sep_elim_left.trans (bigSep_elim (Φ := fun x => cellInv ER (Rd m) (K x) (kcell x)) (Finset.mem_univ x))
theorem reached_at (x : Dev nD × Ck) : recs m K ⊢ reached ER (kcell x) 0 := by
  unfold recs; exact sep_elim_right.trans (sep_elim_left.trans (bigSep_elim (Φ := fun x => reached ER (kcell x) 0) (Finset.mem_univ x)))
theorem lev_at : recs m K ⊢ levAts L lv := by
  unfold recs; iintro ⟨-, -, H⟩; iexact H

/-! ## A payment's due -/

/-- For a transfer, the right to its departure. -/
def dep (c : Dev nD) : Ev → sProp 𝕄
  | .recv r s => dutyTok ER (sendCell r (sl s) c) (s / 2) false
  | _ => iprop(emp)

/-- What goes with a payment of device `c` to come: the credit it can itself count on for the same payment of another device,
    the right to pay, and for a transfer the right to its departure too. -/
def right (c : Dev nD) (p : Ev) : sProp 𝕄 :=
  iprop(cred (tallyAt (p.cell c) p.ix p.units) ∗ dutyTok ER (p.cell (p.payee c)) p.round p.duty ∗ dep (F := F) c p)

def rights (c : Dev nD) : List Ev → sProp 𝕄
  | [] => iprop(emp)
  | p :: l => iprop(right (F := F) c p ∗ rights c l)

theorem right_recv (c : Dev nD) (r : Fin 4) (s : ℕ) : right (F := F) c (.recv r s)
    = iprop(cred (tallyAt (recvCell r (sl (s + 1)) c) s N) ∗ dutyTok ER (recvCell r (sl (s + 1)) (dn r c)) (s / 2) false
      ∗ dutyTok ER (sendCell r (sl s) c) (s / 2) false) := by
  unfold right dep; rw [Ev.payee_recv]; dsimp only [Ev.cell, Ev.ix, Ev.units, Ev.round, Ev.duty]
theorem right_free (c : Dev nD) (r : Fin 4) (s : ℕ) : right (F := F) c (.free r s)
    = iprop(cred (tallyAt (freeCell r c) s 1) ∗ dutyTok ER (freeCell r (up r c)) s false ∗ emp) := by
  unfold right dep; rw [Ev.payee_free]; dsimp only [Ev.cell, Ev.ix, Ev.units, Ev.round, Ev.duty]
theorem right_prv (c : Dev nD) : right (F := F) c (.bar true)
    = iprop(cred (tallyAt (barCell c) 0 1) ∗ dutyTok ER (barCell (prv c)) 0 true ∗ emp) := by
  unfold right dep; rw [Ev.payee_prv]; dsimp only [Ev.cell, Ev.ix, Ev.units, Ev.round, Ev.duty]
theorem right_nxt (c : Dev nD) : right (F := F) c (.bar false)
    = iprop(cred (tallyAt (barCell c) 0 1) ∗ dutyTok ER (barCell (nxt c)) 0 false ∗ emp) := by
  unfold right dep; rw [Ev.payee_nxt]; dsimp only [Ev.cell, Ev.ix, Ev.units, Ev.round, Ev.duty]

/-! ## A transfer to the next device of the ring -/

theorem send_wp (c n : Dev nD) (r : Fin 4) (s : ℕ) (hs : s < 7) (hn : n = dn r c) (l : List Ev) {j' : Fin 2} (hj : j' = sl (s + 1))
    {k : P F} {Q : PUnit → sProp 𝕄} :
    iprop(recs m K ∗ right (F := F) c (.recv r s) ∗ slot r (sl s) c (part m r s c) ∗ slotAny (F := F) r (sl (s + 1)) (dn r c)
        ∗ reached ER (sendCell r (sl s) c) (s / 2) ∗ reached ER (recvCell r (sl (s + 1)) (dn r c)) (s / 2) ∗ reached ER (freeCell r c) s
        ∗ owing (F := F) c (.recv r s :: l))
      ⊢ iprop((iprop(cred (tallyAt (sendCell r (sl s) c) s N) ∗ cred (tallyAt (recvCell r (sl (s + 1)) c) s N) ∗ owing c l) -∗ WP c k Q)
        -∗ WP c (send n r (sl s) j' k) Q) := by
  subst hn hj
  rw [right_recv]
  unfold send slotAny slot owns owing
  iintro ⟨#HR, ⟨Hcr, Ht', Ht⟩, ⟨%f, %hf, Hs⟩, ⟨%V, %g, %hg, Hd⟩, Hr1, Hr2, Hr3, %W, HO⟩ Hk
  iapply (Rounds.wp_send_pointsTo_with 𝒱₀ ER (Rd m) (c : Thread nD τ) none (c' := (dn r c : Thread nD τ)) (src := slotM r (sl s)) (dst := slotM r (sl (s + 1)))
      (sS := .dma (sendS r (sl s))) (sem := .dma (recvS r (sl (s + 1)))) (fs := f) (fd := g) (F := reached ER (freeCell r c) s)
      (κ₁ := K (c, sendK r (sl s))) (κ₂ := K (dn r c, recvK r (sl (s + 1))))
      (r₁ := s / 2) (r₂ := s / 2) (d₁ := false) (d₂ := false)
      (by rw [duties_send m c r hs]; exact Finset.mem_singleton_self _) (by rw [duties_recv m (dn r c) r hs]; exact Finset.mem_singleton_self _)
      s s N rfl (amount_send m c r (sl s) (s / 2) false) (amount_recv m (dn r c) r (sl (s + 1)) (s / 2) false) (owe c l) (owe_recv c r s l) (W := W)
      (by rw [payload_send]; iintro H; iexists _; iapply (owns_intro (c : Thread nD τ) (slotM r (sl s)) fullShare f) $$ H)
      (by
        rw [payload_recv]; unfold recvPay; rw [up_dn]; iintro ⟨H, Hr⟩
        isplitl [H]
        · ihave H := (owns_intro (dn r c : Thread nD τ) (slotM r (sl (s + 1))) fullShare _) $$ H
          rw [View.read_write_univ, hf]
          iexact H
        iexact Hr)) $$ [Ht Ht' Hs Hd Hr1 Hr2 Hr3 HO]
  · isplitr; · iapply (inv_at m K (c, sendK r (sl s))) $$ HR
    isplitr; · iapply (inv_at m K (dn r c, recvK r (sl (s + 1)))) $$ HR
    isplitl [Hs]; · iexact Hs
    isplitl [Hd Hr3]; · isplitl [Hd] <;> iassumption
    isplitl [HO]; · iexact HO
    isplitl [Ht]; · iexact Ht
    isplitl [Hr1]; · iexact Hr1
    isplitl [Ht']; · iexact Ht'
    iexact Hr2
  iintro ⟨Hc, HO⟩
  iapply Hk
  isplitl [Hc]; · iexact Hc
  isplitl [Hcr]; · iexact Hcr
  iexists W; iexact HO

/-- The wait until it is sent brings its source back, -/
theorem sent_wp (c : Dev nD) (r : Fin 4) (s : ℕ) (hs : s < 7) (l : List Ev) (hl : Above 0 l) {j' : Fin 2} {k : P F} {Q : PUnit → sProp 𝕄} :
    iprop(recs m K ∗ cred (tallyAt (sendCell r (sl s) c) s N) ∗ atPos ER (sendCell r (sl s) c) (s / 2) ∅ 0 ∗ owing (F := F) c l)
      ⊢ iprop((iprop(slotAny (F := F) r (sl s) c ∗ atPos ER (sendCell r (sl s) c) (s / 2 + 1) ∅ 0 ∗ reached ER (sendCell r (sl s) c) (s / 2 + 1) ∗ owing c l)
        -∗ WP c k Q) -∗ WP c (sent r (sl s) j' k) Q) := by
  unfold sent owing
  iintro ⟨#HR, Hc, Hat, %W, HO⟩ Hk
  iapply (Rounds.wp_wait_rest_token 𝒱₀ ER (Rd m) (c : Thread nD τ) none (κ := K (c, sendK r (sl s)))
      (wpE_waitDma2_eq 𝒱₀ (c : Thread nD τ) none Set.univ) (Set.mem_univ _) s (O := owe c l) (W := W) (R := s / 2) (m := 0) (T := ∅)
      (by rw [Nat.zero_add, expect_send m c r hs]; rfl)) $$ [Hc Hat HO]
  · isplitr; · iapply (inv_at m K (c, sendK r (sl s))) $$ HR
    isplitl [Hc]; · iexact Hc
    isplitl [HO]; · iexact HO
    isplitr; · iapply (mayWait_owe c _ s hs l (by rw [lv_send]; exact hl)); iapply (lev_at m K) $$ HR
    iexact Hat
  iintro ⟨HO, Hat, Hr, Hpay⟩
  ihave Hs := (Entails.of_eq (rest_send m c r hs)) $$ Hpay
  iapply Hk
  isplitl [Hs]; · iexact Hs
  isplitl [Hat]; · iexact Hat
  isplitl [Hr]; · iexact Hr
  iexists _; iexact HO

/-- the wait until it has landed the partial sum of the device behind. -/
theorem landed_wp (c : Dev nD) (r : Fin 4) (s : ℕ) (hs : s < 7) (l : List Ev) (hl : Above (Ev.lvl (.recv r s)) l) {j : Fin 2} {k : P F} {Q : PUnit → sProp 𝕄} :
    iprop(recs m K ∗ cred (tallyAt (recvCell r (sl (s + 1)) c) s N) ∗ atPos ER (recvCell r (sl (s + 1)) c) (s / 2) ∅ 0 ∗ owing (F := F) c l)
      ⊢ iprop((iprop(slot r (sl (s + 1)) c (part m r s (up r c)) ∗ reached ER (freeCell r (up r c)) s
          ∗ atPos ER (recvCell r (sl (s + 1)) c) (s / 2 + 1) ∅ 0 ∗ reached ER (recvCell r (sl (s + 1)) c) (s / 2 + 1) ∗ owing c l)
        -∗ WP c k Q) -∗ WP c (landed r j (sl (s + 1)) k) Q) := by
  unfold landed owing
  iintro ⟨#HR, Hc, Hat, %W, HO⟩ Hk
  iapply (Rounds.wp_wait_rest_token 𝒱₀ ER (Rd m) (c : Thread nD τ) none (κ := K (c, recvK r (sl (s + 1))))
      (wpE_waitDma2_eq 𝒱₀ (c : Thread nD τ) none Set.univ) (Set.mem_univ _) s (O := owe c l) (W := W) (R := s / 2) (m := 0) (T := ∅)
      (by rw [Nat.zero_add, expect_recv m c r hs]; rfl)) $$ [Hc Hat HO]
  · isplitr; · iapply (inv_at m K (c, recvK r (sl (s + 1)))) $$ HR
    isplitl [Hc]; · iexact Hc
    isplitl [HO]; · iexact HO
    isplitr; · iapply (mayWait_owe c _ s hs l (by rw [lv_recv]; exact hl)); iapply (lev_at m K) $$ HR
    iexact Hat
  iintro ⟨HO, Hat, Hr, Hpay⟩
  ihave Hs := (Entails.of_eq (rest_recv m c r hs)) $$ Hpay
  unfold recvPay
  icases Hs with ⟨Hs, Hf⟩
  iapply Hk
  isplitl [Hs]; · iexact Hs
  isplitl [Hf]; · iexact Hf
  isplitl [Hat]; · iexact Hat
  isplitl [Hr]; · iexact Hr
  iexists _; iexact HO

/-! ## The credit -/

/-- A slot given back to the device behind. -/
theorem release_wp (c n : Dev nD) (r : Fin 4) (s : ℕ) (hs : s < 6) (hn : n = up r c) (l : List Ev) {k : P F} {Q : PUnit → sProp 𝕄} :
    iprop(recs m K ∗ dutyTok ER (freeCell r (up r c)) s false ∗ slotAny (F := F) r (sl s) c ∗ reached ER (recvCell r (sl s) c) ((s + 1) / 2)
        ∗ reached ER (freeCell r (up r c)) s ∗ owing (F := F) c (.free r s :: l))
      ⊢ iprop((owing c l -∗ WP c k Q) -∗ WP c (release n r k) Q) := by
  subst hn
  unfold release owing
  iintro ⟨#HR, Ht, Hs, Hr, Hf, %W, HO⟩ Hk
  iapply (Rounds.wp_signal 𝒱₀ ER (Rd m) (c : Thread nD τ) none (dst := (up r c : Thread nD τ)) (κ := K (up r c, freeK r)) (d := false)
      (by rw [duties_free m (up r c) r hs]; exact Finset.mem_singleton_self _) ((amount_free m (up r c) r s false).trans (by decide)) s
      (owe c l) (owe_free c r s l)) $$ [HO Ht Hs Hr Hf]
  · isplitr; · iapply (inv_at m K (up r c, freeK r)) $$ HR
    isplitl [HO]; · iexact HO
    isplitl [Ht]; · iexact Ht
    isplitl [Hs Hr]
    · rw [payload_free]; unfold freePay
      rw [dn_up]
      isplitl [Hs] <;> iassumption
    iexact Hf
  iintro HO
  iapply Hk
  iexists W; iexact HO

/-- The slot ahead got back. -/
theorem acquire_wp (c : Dev nD) (r : Fin 4) (s : ℕ) (hs : s < 6) (l : List Ev) (hl : Above (Ev.lvl (.free r s)) l) {k : P F} {Q : PUnit → sProp 𝕄} :
    iprop(recs m K ∗ cred (tallyAt (freeCell r c) s 1) ∗ atPos ER (freeCell r c) s ∅ 0 ∗ owing (F := F) c l)
      ⊢ iprop((iprop(slotAny (F := F) r (sl s) (dn r c) ∗ reached ER (recvCell r (sl s) (dn r c)) ((s + 1) / 2)
          ∗ atPos ER (freeCell r c) (s + 1) ∅ 0 ∗ reached ER (freeCell r c) (s + 1) ∗ owing c l) -∗ WP c k Q) -∗ WP c (acquire r k) Q) := by
  unfold acquire owing
  iintro ⟨#HR, Hc, Hat, %W, HO⟩ Hk
  iapply (Rounds.wp_wait_rest_token 𝒱₀ ER (Rd m) (c : Thread nD τ) none (κ := K (c, freeK r))
      (wpE_semWait_eq 𝒱₀ (c : Thread nD τ) none Set.univ) (Set.mem_univ _) s (O := owe c l) (W := W) (R := s) (m := 0) (T := ∅)
      (by rw [expect_free m c r hs])) $$ [Hc HO Hat]
  · isplitr; · iapply (inv_at m K (c, freeK r)) $$ HR
    isplitl [Hc]; · iexact Hc
    isplitl [HO]; · iexact HO
    isplitr; · iapply (mayWait_owe c _ s (by omega) l (by rw [lv_free]; exact hl)); iapply (lev_at m K) $$ HR
    iexact Hat
  iintro ⟨HO, Hat, Hr, Hpay⟩
  ihave Hp := (Entails.of_eq (rest_free m c r hs)) $$ Hpay
  unfold freePay
  icases Hp with ⟨Hs, Hv⟩
  iapply Hk
  isplitl [Hs]; · iexact Hs
  isplitl [Hv]; · iexact Hv
  isplitl [Hat]; · iexact Hat
  isplitl [Hr]; · iexact Hr
  iexists _; iexact HO

/-! ## The handshake -/

theorem above_sends : Above 1 sends := by decide

theorem two_units (c : Dev nD) : (iprop(cred (tallyAt (barCell c) 0 1) ∗ cred (tallyAt (barCell c) 0 1)) : sProp 𝕄) ⊢ cred (tallyAt (barCell c) 0 2) := by
  rw [show (tallyAt (barCell c) 0 2 : CellTallies nD τ sig ℕ) = tallyAt (barCell c) 0 1 + tallyAt (barCell c) 0 1 by
    unfold tallyAt; rw [← tallyOn_add, ← Finsupp.single_add]]
  exact (cred_add _ _).2

/-- Each device hands its landing slots to the devices that will send into them. -/
theorem handshake_wp (c n₁ n₂ : Dev nD) (h₁ : n₁ = prv c) (h₂ : n₂ = nxt c) {k : P F} {Q : PUnit → sProp 𝕄} :
    iprop(recs m K ∗ right (F := F) c (.bar true) ∗ right (F := F) c (.bar false) ∗ atPos ER (barCell c) 0 ∅ 0
        ∗ slotAny (F := F) 0 1 c ∗ slotAny (F := F) 1 1 c ∗ slotAny (F := F) 2 1 c ∗ slotAny (F := F) 3 1 c
        ∗ owing (F := F) c pays)
      ⊢ iprop((iprop(semVal (barCell c) 0 ∗ slotAny (F := F) 0 1 (dn 0 c) ∗ slotAny (F := F) 1 1 (dn 1 c) ∗ slotAny (F := F) 2 1 (dn 2 c)
          ∗ slotAny (F := F) 3 1 (dn 3 c) ∗ owing c sends) -∗ WP c k Q) -∗ WP c (handshake n₁ n₂ k) Q) := by
  subst h₁ h₂
  rw [right_prv, right_nxt]
  unfold handshake owing
  iintro ⟨#HR, ⟨Hc1, Htp, -⟩, ⟨Hc2, Htn, -⟩, Hat, Hs0, Hs1, Hs2, Hs3, %W, HO⟩ Hk
  ihave Hc := (two_units (F := F) c) $$ [Hc1 Hc2]
  · isplitl [Hc1] <;> iassumption
  iapply (Rounds.wp_signal 𝒱₀ ER (Rd m) (c : Thread nD τ) none (dst := (prv c : Thread nD τ)) (κ := K (prv c, none)) (d := true)
      (by rw [duties_bar]; exact Finset.mem_univ _) ((amount_bar m (prv c) 0 true).trans (by decide)) (0 : ℕ)
      (owe c (.bar false :: sends)) (owe_prv c _)) $$ [HO Htp Hs0 Hs1]
  · isplitr; · iapply (inv_at m K (prv c, none)) $$ HR
    isplitl [HO]; · iexact HO
    isplitl [Htp]; · iexact Htp
    isplitl [Hs0 Hs1]
    · rw [payload_bar]; unfold barPay give
      rw [if_pos rfl, nxt_prv]
      isplitl [Hs0] <;> iassumption
    iapply (reached_at m K (prv c, none)) $$ HR
  iintro HO
  iapply (Rounds.wp_signal 𝒱₀ ER (Rd m) (c : Thread nD τ) none (dst := (nxt c : Thread nD τ)) (κ := K (nxt c, none)) (d := false)
      (by rw [duties_bar]; exact Finset.mem_univ _) ((amount_bar m (nxt c) 0 false).trans (by decide)) (0 : ℕ)
      (owe c sends) (owe_nxt c _)) $$ [HO Htn Hs2 Hs3]
  · isplitr; · iapply (inv_at m K (nxt c, none)) $$ HR
    isplitl [HO]; · iexact HO
    isplitl [Htn]; · iexact Htn
    isplitl [Hs2 Hs3]
    · rw [payload_bar]; unfold barPay give
      rw [if_neg (by decide), prv_nxt]
      isplitl [Hs2] <;> iassumption
    iapply (reached_at m K (nxt c, none)) $$ HR
  iintro HO
  iapply (Rounds.wp_wait_rest_token 𝒱₀ ER (Rd m) (c : Thread nD τ) none (κ := K (c, none))
      (wpE_semWait_eq 𝒱₀ (c : Thread nD τ) none Set.univ) (Set.mem_univ _) (0 : ℕ) (O := owe c sends) (W := W) (R := 0) (m := 0) (T := ∅)
      (by rw [expect_bar])) $$ [Hc HO Hat]
  · isplitr; · iapply (inv_at m K (c, none)) $$ HR
    isplitl [Hc]; · iexact Hc
    isplitl [HO]; · iexact HO
    isplitr
    · iapply (mayWait_owe c _ 0 (by decide) sends (by rw [lv_bar]; exact above_sends)); iapply (lev_at m K) $$ HR
    iexact Hat
  iintro ⟨HO, Hat, -, Hpay⟩
  ihave Hp := (Entails.of_eq (rest_bar m c)) $$ Hpay
  unfold barPay give
  rw [if_pos rfl, if_neg (by decide)]
  icases Hp with ⟨⟨Hs2, Hs3⟩, Hs0, Hs1⟩
  imod (Rounds.cell_close ER (Rd m) (Set.mem_univ (K (c, none))) (fun h => h) (R := 0 + 1) (over_bar m c)) $$ [Hat] with Hz
  · isplitr; · iapply (inv_at m K (c, none)) $$ HR
    iexact Hat
  iapply Hk
  isplitl [Hz]; · iexact Hz
  isplitl [Hs0]; · iexact Hs0
  isplitl [Hs1]; · iexact Hs1
  isplitl [Hs2]; · iexact Hs2
  isplitl [Hs3]; · iexact Hs3
  iexists _; iexact HO

end Cert.CreditedIdeal.Rings
-- ==== Proof.Rings.Lap.lean ====
/-
# A hop of the rings

What a device holds of a ring between two hops, and the rules of a hop: of one ring's part in it, and of all four.
-/
module

public import proofs.«01_k».proof.Proof.Rings.Ring

@[expose] public section

set_option maxRecDepth 16384

noncomputable section

namespace Cert.CreditedIdeal.Rings

open Cert.CreditedIdeal Cert.CreditedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (K : Dev nD × Ck → ℕ)

/-! ## One ring's part -/

/-- Device `c`'s place in ring `r` once hop `s` has left: the credit to wait for its departure and for its arrival, the positions
    at the ring's cells. -/
def ringAt (r : Fin 4) (s : ℕ) (c : Dev nD) : sProp 𝕄 :=
  iprop(cred (tallyAt (sendCell r (sl s) c) s N) ∗ cred (tallyAt (recvCell r (sl (s + 1)) c) s N)
    ∗ atPos ER (sendCell r (sl s) c) (s / 2) ∅ 0 ∗ atPos ER (sendCell r (sl (s + 1)) c) ((s + 1) / 2) ∅ 0
    ∗ atPos ER (recvCell r (sl (s + 1)) c) (s / 2) ∅ 0 ∗ atPos ER (recvCell r (sl s) c) ((s + 1) / 2) ∅ 0
    ∗ atPos ER (freeCell r c) s ∅ 0
    ∗ reached ER (sendCell r (sl (s + 1)) c) ((s + 1) / 2) ∗ reached ER (recvCell r (sl s) c) ((s + 1) / 2))

theorem half_two (s : ℕ) : (s + 1 + 1) / 2 = s / 2 + 1 := by omega

theorem lvl_free (r : Fin 4) (s : ℕ) : Ev.lvl (.free r s) = 2 * (4 * s + Ev.pos r) + 3 := rfl
theorem lvl_recv (r : Fin 4) (s : ℕ) : Ev.lvl (.recv r s) = 2 * (4 * s + Ev.pos r) + 2 := rfl

theorem lap_wp (b : Memref sig .tc .vmem S1024x1024 .f32) (c u d : Dev nD) (r : Fin 4) (s : ℕ) (hs : s < 6) (hu : u = up r c) (hd : d = dn r c)
    (V : Vec F S1024x1024 .f32) (hV : V = chunk m c ((up r)^[s + 2] c)) (l : List Ev) (hl : Above (Ev.lvl (.free r s)) l)
    {k : P F} {Q : PUnit → sProp 𝕄} :
    iprop(recs m K ∗ ringAt (F := F) r s c ∗ buf b c V ∗ wPts m c ∗ owing (F := F) c (lapPays r s ++ l) ∗ rights (F := F) c (lapPays r s ++ l))
      ⊢ iprop((iprop(ringAt (F := F) r (s + 1) c ∗ buf b c V ∗ wPts m c ∗ owing (F := F) c l ∗ rights (F := F) c l) -∗ WP c k Q)
        -∗ WP c (lap u d b r s k) Q) := by
  subst hV
  have hrecv : Above (Ev.lvl (.free r s)) (.recv r (s + 1) :: l) :=
    Above.cons ⟨show s + 1 < 7 by omega, by rw [lvl_free, lvl_recv]; omega⟩ hl
  have hall : Above (Ev.lvl (.recv r s)) (.free r s :: .recv r (s + 1) :: l) :=
    Above.cons ⟨show s < 7 by omega, by rw [lvl_free, lvl_recv]; omega⟩ (hrecv.mono (by rw [lvl_free, lvl_recv]; omega))
  show iprop(recs m K ∗ ringAt (F := F) r s c ∗ buf b c _ ∗ wPts m c ∗ owing (F := F) c (.free r s :: .recv r (s + 1) :: l)
    ∗ right (F := F) c (.free r s) ∗ right (F := F) c (.recv r (s + 1)) ∗ rights (F := F) c l) ⊢ _
  unfold ringAt lap
  rw [half_two, sl_two, right_free]
  iintro ⟨#HR, ⟨Hcs, Hcv, HaS, HaS', HaV, HaV', HaF, #HrS', #HrV'⟩, Hb, Hw, HO, ⟨HcF, HtF, -⟩, Hd, Hrest⟩ Hk
  -- what was sent has left, what comes has landed
  iapply (sent_wp m K c r s (by omega) _ (hall.mono (Nat.zero_le _))) $$ [Hcs HaS HO]
  · isplitr; · iexact HR
    isplitl [Hcs]; · iexact Hcs
    isplitl [HaS] <;> iassumption
  iintro ⟨Hs, HaS, #HrS, HO⟩
  iapply (landed_wp m K c r s (by omega) _ hall) $$ [Hcv HaV HO]
  · isplitr; · iexact HR
    isplitl [Hcv]; · iexact Hcv
    isplitl [HaV] <;> iassumption
  iintro ⟨Hy, #HrF, HaV, #HrV, HO⟩
  -- the slot it left is given back
  iapply (release_wp m K c _ r s hs hu (.recv r (s + 1) :: l)) $$ [HtF Hs HO]
  · isplitr; · iexact HR
    isplitl [HtF]; · iexact HtF
    isplitl [Hs]; · iexact Hs
    isplitr; · iexact HrV'
    isplitr; · iexact HrF
    iexact HO
  iintro HO
  iapply (accum_wp m b c r (sl (s + 1)) (chunk m c ((up r)^[s + 2] c)) (part m r s (up r c))) $$ [Hb Hw Hy]
  · isplitl [Hb]; · iexact Hb
    isplitl [Hw] <;> iassumption
  iintro ⟨Hb, Hw, Hy⟩
  -- the slot ahead is free again, and the sum moves on
  iapply (acquire_wp m K c r s hs _ hrecv) $$ [HcF HaF HO]
  · isplitr; · iexact HR
    isplitl [HcF]; · iexact HcF
    isplitl [HaF] <;> iassumption
  iintro ⟨Hp, #HrP, HaF, #HrF', HO⟩
  iapply (send_wp m K c _ r (s + 1) (by omega) hd l (sl_two s).symm) $$ [Hd Hy Hp HO]
  · rw [sl_two]
    isplitr; · iexact HR
    isplitl [Hd]; · iexact Hd
    isplitl [Hy]; · iexact Hy
    isplitl [Hp]; · iexact Hp
    isplitr; · iexact HrS'
    isplitr; · iexact HrP
    isplitr; · iexact HrF'
    iexact HO
  iintro ⟨Hcs, Hcv, HO⟩
  iapply Hk
  isplitl [Hcs Hcv HaS HaS' HaV HaV' HaF]
  · isplitl [Hcs]; · iexact Hcs
    isplitl [Hcv]; · rw [sl_two]; iexact Hcv
    isplitl [HaS']; · iexact HaS'
    isplitl [HaS]; · iexact HaS
    isplitl [HaV']; · iexact HaV'
    isplitl [HaV]; · iexact HaV
    isplitl [HaF]; · iexact HaF
    isplitr; · iexact HrS
    iexact HrV
  isplitl [Hb]; · iexact Hb
  isplitl [Hw]; · iexact Hw
  isplitl [HO] <;> iassumption

/-- Ring `r`'s cells on device `c`, closed. -/
def ringSems (r : Fin 4) (c : Dev nD) : sProp 𝕄 :=
  iprop(semVal (freeCell r c) 0 ∗ semVal (sendCell r 0 c) 0 ∗ semVal (sendCell r 1 c) 0 ∗ semVal (recvCell r 0 c) 0 ∗ semVal (recvCell r 1 c) 0)

theorem close_wp (x : Dev nD × Ck) (R : ℕ) (h : ∀ j, R ≤ j → (Rd (F := F) m).duties (kcell x) j = ∅) :
    iprop(recs m K ∗ atPos ER (kcell x) R ∅ 0) ⊢ (|={Set.univ}=> semVal (kcell x) 0 : sProp 𝕄) := by
  iintro ⟨#HR, Hat⟩
  iapply (Rounds.cell_close ER (Rd m) (Set.mem_univ (K x)) (fun h => h) h)
  isplitr; · iapply (inv_at m K x) $$ HR
  iexact Hat

/-- The last hop. -/
theorem lastLap_wp (b : Memref sig .tc .vmem S1024x1024 .f32) (c : Dev nD) (r : Fin 4)
    (V : Vec F S1024x1024 .f32) (hV : V = chunk m c ((up r)^[8] c)) {k : P F} {Q : PUnit → sProp 𝕄} :
    iprop(recs m K ∗ ringAt (F := F) r 6 c ∗ buf b c V ∗ wPts m c ∗ owing (F := F) c [])
      ⊢ iprop((iprop(ringSems (F := F) r c ∗ slotAny (F := F) r 0 c ∗ slot r 1 c (part m r 7 c) ∗ buf b c V ∗ wPts m c ∗ owing (F := F) c []) -∗ WP c k Q)
        -∗ WP c (lastLap b r 6 k) Q) := by
  subst hV
  have hnil (n : ℕ) : Above n [] := fun _ h => absurd h List.not_mem_nil
  unfold ringAt lastLap
  iintro ⟨#HR, ⟨Hcs, Hcv, HaS, HaS', HaV, HaV', HaF, -, -⟩, Hb, Hw, HO⟩ Hk
  iapply (sent_wp m K c r 6 (by decide) [] (hnil _)) $$ [Hcs HaS HO]
  · isplitr; · iexact HR
    isplitl [Hcs]; · iexact Hcs
    isplitl [HaS] <;> iassumption
  iintro ⟨Hs, HaS, -, HO⟩
  iapply (landed_wp m K c r 6 (by decide) [] (hnil _)) $$ [Hcv HaV HO]
  · isplitr; · iexact HR
    isplitl [Hcv]; · iexact Hcv
    isplitl [HaV] <;> iassumption
  iintro ⟨Hy, -, HaV, -, HO⟩
  iapply (accum_wp m b c r (sl (6 + 1)) (chunk m c ((up r)^[8] c)) (part m r 6 (up r c))) $$ [Hb Hw Hy]
  · isplitl [Hb]; · iexact Hb
    isplitl [Hw] <;> iassumption
  iintro ⟨Hb, Hw, Hy⟩
  imod (close_wp m K (c, freeK r) 6 (over_free m c r)) $$ [HaF] with HzF
  · isplitr; · iexact HR
    iexact HaF
  imod (close_wp m K (c, sendK r 0) 4 (over_send m c r 0 4 (by decide))) $$ [HaS] with HzS
  · isplitr; · iexact HR
    iexact HaS
  imod (close_wp m K (c, sendK r 1) 3 (over_send m c r 1 3 (by decide))) $$ [HaS'] with HzS'
  · isplitr; · iexact HR
    iexact HaS'
  imod (close_wp m K (c, recvK r 0) 3 (over_recv m c r 0 3 (by decide))) $$ [HaV'] with HzV'
  · isplitr; · iexact HR
    iexact HaV'
  imod (close_wp m K (c, recvK r 1) 4 (over_recv m c r 1 4 (by decide))) $$ [HaV] with HzV
  · isplitr; · iexact HR
    iexact HaV
  iapply Hk
  isplitl [HzF HzS HzS' HzV HzV']
  · unfold ringSems
    isplitl [HzF]; · iexact HzF
    isplitl [HzS]; · iexact HzS
    isplitl [HzS']; · iexact HzS'
    isplitl [HzV']; · iexact HzV'
    iexact HzV
  isplitl [Hs]; · iexact Hs
  isplitl [Hy]; · iexact Hy
  isplitl [Hb]; · iexact Hb
  isplitl [Hw] <;> iassumption

end Cert.CreditedIdeal.Rings
-- ==== Proof.Rings.Hops.lean ====
/-
# A hop of all four rings

Whom a hop addresses and which rows it adds the products of; its rule, and the last hop's.
-/
module

public import proofs.«01_k».proof.Proof.Rings.Lap

@[expose] public section

set_option maxRecDepth 16384

noncomputable section

namespace Cert.CreditedIdeal.Rings

open Cert.CreditedIdeal Cert.CreditedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (K : Dev nD × Ck → ℕ)

/-! ## Who is who -/

theorem dev1 (c : Dev nD) : (⟨k0_dev1 c, k0_dev1_lt c⟩ : Dev nD) = prv c := Fin.ext (k0_dev1_eq c)
theorem dev2 (c : Dev nD) : (⟨k0_dev2 c, k0_dev2_lt c⟩ : Dev nD) = nxt c := Fin.ext (k0_dev2_eq c)
theorem dev3 (c : Dev nD) : (⟨k0_dev3 c, k0_dev3_lt c⟩ : Dev nD) = dn 0 c := Fin.ext (k0_dev3_eq c)
theorem dev4 (c : Dev nD) : (⟨k0_dev4 c, k0_dev4_lt c⟩ : Dev nD) = dn 1 c := Fin.ext (k0_dev4_eq c)
theorem dev5 (c : Dev nD) : (⟨k0_dev5 c, k0_dev5_lt c⟩ : Dev nD) = dn 2 c := Fin.ext (k0_dev5_eq c)
theorem dev6 (c : Dev nD) : (⟨k0_dev6 c, k0_dev6_lt c⟩ : Dev nD) = dn 3 c := Fin.ext (k0_dev6_eq c)

theorem off1 (c : Dev nD) : k0_off1 c = ![1024 * (up 0 c).val, 0] := k0_off1_eq c
theorem off2 (c : Dev nD) : k0_off2 c = ![1024 * (up 2 c).val, 0] := k0_off2_eq c

/-- The chunk of rows that hop `s` adds the products of, in rings 0 and 1, -/
abbrev rowA (s : ℕ) (c : Dev nD) : Dev nD := (up 0)^[s + 2] c
/-- and in rings 2 and 3. -/
abbrev rowB (s : ℕ) (c : Dev nD) : Dev nD := (up 2)^[s + 2] c

theorem rowA_val : ∀ (s : Fin 7) (c : Dev nD), (rowA s.val c).val = (c.val + 14 - s.val) % 8 := by decide
theorem rowB_val : ∀ (s : Fin 7) (c : Dev nD), (rowB s.val c).val = (c.val + s.val + 2) % 8 := by decide

theorem offA_eq (s : Fin 7) (c : Dev nD) : offA c s = ![1024 * (rowA s.val c).val, 0] := by rw [rowA_val]; exact k0_off3_eq c s
theorem offB_eq (s : Fin 7) (c : Dev nD) : offB c s = ![1024 * (rowB s.val c).val, 0] := by rw [rowB_val]; exact k0_off4_eq c s

/-- Whom a hop addresses. -/
def who (c : Dev nD) : Fin 8 → Dev nD := ![up 0 c, dn 0 c, up 2 c, dn 2 c, up 1 c, dn 1 c, up 3 c, dn 3 c]

theorem dests_eq : ∀ (s : Fin 6) (c : Dev nD), dests c s = who c := by
  intro s c
  funext i
  apply Fin.ext
  fin_cases s <;> fin_cases i
  · exact k0_dev7_eq c
  · exact k0_dev8_eq c
  · exact k0_dev9_eq c
  · exact k0_dev10_eq c
  · exact k0_dev11_eq c
  · exact k0_dev12_eq c
  · exact k0_dev13_eq c
  · exact k0_dev14_eq c
  · exact k0_dev15_eq c
  · exact k0_dev16_eq c
  · exact k0_dev17_eq c
  · exact k0_dev18_eq c
  · exact k0_dev19_eq c
  · exact k0_dev20_eq c
  · exact k0_dev21_eq c
  · exact k0_dev22_eq c
  · exact k0_dev23_eq c
  · exact k0_dev24_eq c
  · exact k0_dev25_eq c
  · exact k0_dev26_eq c
  · exact k0_dev27_eq c
  · exact k0_dev28_eq c
  · exact k0_dev29_eq c
  · exact k0_dev30_eq c
  · exact k0_dev31_eq c
  · exact k0_dev32_eq c
  · exact k0_dev33_eq c
  · exact k0_dev34_eq c
  · exact k0_dev35_eq c
  · exact k0_dev36_eq c
  · exact k0_dev37_eq c
  · exact k0_dev38_eq c
  · exact k0_dev39_eq c
  · exact k0_dev40_eq c
  · exact k0_dev41_eq c
  · exact k0_dev42_eq c
  · exact k0_dev43_eq c
  · exact k0_dev44_eq c
  · exact k0_dev45_eq c
  · exact k0_dev46_eq c
  · exact k0_dev47_eq c
  · exact k0_dev48_eq c
  · exact k0_dev49_eq c
  · exact k0_dev50_eq c
  · exact k0_dev51_eq c
  · exact k0_dev52_eq c
  · exact k0_dev53_eq c
  · exact k0_dev54_eq c
/-! ## The levels of a hop -/

theorem above_ahead : ∀ s : Fin 7, Above 0 (ahead s.val) := by decide
theorem above_lap0 : ∀ s : Fin 6, Above (Ev.lvl (.free 0 s.val)) (lapPays 2 s.val ++ (lapPays 1 s.val ++ (lapPays 3 s.val ++ ahead (s.val + 1)))) := by decide
theorem above_lap2 : ∀ s : Fin 6, Above (Ev.lvl (.free 2 s.val)) (lapPays 1 s.val ++ (lapPays 3 s.val ++ ahead (s.val + 1))) := by decide
theorem above_lap1 : ∀ s : Fin 6, Above (Ev.lvl (.free 1 s.val)) (lapPays 3 s.val ++ ahead (s.val + 1)) := by decide
theorem above_lap3 : ∀ s : Fin 6, Above (Ev.lvl (.free 3 s.val)) (ahead (s.val + 1)) := by decide
theorem above_nil (n : ℕ) : Above n [] := fun _ h => absurd h List.not_mem_nil

/-! ## A hop of all four rings -/

/-- Device `c`'s place once hop `s` has left, the chunks it is to add the products of on their way. -/
def hopAt (s : ℕ) (c : Dev nD) : sProp 𝕄 :=
  iprop(ringAt (F := F) 0 s c ∗ ringAt (F := F) 1 s c ∗ ringAt (F := F) 2 s c ∗ ringAt (F := F) 3 s c
    ∗ staging m aM aS c (rowA s c) fullShare.left ∗ staging m bM bS c (rowB s c) fullShare.right
    ∗ wPts m c ∗ owing (F := F) c (ahead s) ∗ rights (F := F) c (ahead s))

theorem hop_wp (c : Dev nD) (e : Fin 8 → Dev nD) (he : e = who c) (s : Fin 6) (s₁ s₂ : Fin 7) (h₁ : s₁.val = s.val) (h₂ : s₂.val = s.val + 1)
    {k : P F} {Q : PUnit → sProp 𝕄} :
    iprop(recs m K ∗ hopAt m s.val c)
      ⊢ iprop((hopAt m (s.val + 1) c -∗ WP c k Q) -∗ WP c (hop c e s₁ s₂ k) Q) := by
  subst he
  have hA := offA_eq s₁ c
  have hB := offB_eq s₁ c
  have hA' := offA_eq s₂ c
  have hB' := offB_eq s₂ c
  have hz := above_ahead s₁
  rw [h₁] at hA hB hz
  rw [h₂] at hA' hB'
  rw [ahead_hop s.isLt] at hz
  unfold hopAt hop
  rw [h₁, ahead_hop s.isLt]
  iintro ⟨#HR, HR0, HR1, HR2, HR3, HfA, HfB, Hw, HO, Hrt⟩ Hk
  ihave #Hlev := (lev_at m K) $$ HR
  iapply (staged_wp m aM aS c (rowA s.val c) fullShare.left _ kd_a hz) $$ [HfA HO]
  · isplitr; · iexact Hlev
    isplitl [HfA] <;> iassumption
  iintro ⟨HA, HxA, HzA, HO⟩
  iapply (lap_wp m K aM c _ _ 0 s.val s.isLt rfl rfl _ rfl _ (above_lap0 s)) $$ [HR0 HA Hw HO Hrt]
  · isplitr; · iexact HR
    isplitl [HR0]; · iexact HR0
    isplitl [HA]; · iexact HA
    isplitl [Hw]; · iexact Hw
    isplitl [HO] <;> iassumption
  iintro ⟨HR0, HA, Hw, HO, Hrt⟩
  iapply (staged_wp m bM bS c (rowB s.val c) fullShare.right _ kd_b ((above_lap0 s).mono (Nat.zero_le _))) $$ [HfB HO]
  · isplitr; · iexact Hlev
    isplitl [HfB] <;> iassumption
  iintro ⟨HB, HxB, HzB, HO⟩
  iapply (lap_wp m K bM c _ _ 2 s.val s.isLt rfl rfl _ rfl _ (above_lap2 s)) $$ [HR2 HB Hw HO Hrt]
  · isplitr; · iexact HR
    isplitl [HR2]; · iexact HR2
    isplitl [HB]; · iexact HB
    isplitl [Hw]; · iexact Hw
    isplitl [HO] <;> iassumption
  iintro ⟨HR2, HB, Hw, HO, Hrt⟩
  iapply (lap_wp m K aM c _ _ 1 s.val s.isLt rfl rfl _ rfl _ (above_lap1 s)) $$ [HR1 HA Hw HO Hrt]
  · isplitr; · iexact HR
    isplitl [HR1]; · iexact HR1
    isplitl [HA]; · iexact HA
    isplitl [Hw]; · iexact Hw
    isplitl [HO] <;> iassumption
  iintro ⟨HR1, HA, Hw, HO, Hrt⟩
  iapply (stage_wp m aM aS c (rowA (s.val + 1) c) fullShare.left hA') $$ [HxA HA HzA]
  · isplitl [HxA]; · iexact HxA
    isplitl [HA]; · iexists _; iexact HA
    iexact HzA
  iintro HfA
  iapply (lap_wp m K bM c _ _ 3 s.val s.isLt rfl rfl _ rfl _ (above_lap3 s)) $$ [HR3 HB Hw HO Hrt]
  · isplitr; · iexact HR
    isplitl [HR3]; · iexact HR3
    isplitl [HB]; · iexact HB
    isplitl [Hw]; · iexact Hw
    isplitl [HO] <;> iassumption
  iintro ⟨HR3, HB, Hw, HO, Hrt⟩
  iapply (stage_wp m bM bS c (rowB (s.val + 1) c) fullShare.right hB') $$ [HxB HB HzB]
  · isplitl [HxB]; · iexact HxB
    isplitl [HB]; · iexists _; iexact HB
    iexact HzB
  iintro HfB
  iapply Hk
  isplitl [HR0]; · iexact HR0
  isplitl [HR1]; · iexact HR1
  isplitl [HR2]; · iexact HR2
  isplitl [HR3]; · iexact HR3
  isplitl [HfA]; · iexact HfA
  isplitl [HfB]; · iexact HfB
  isplitl [Hw]; · iexact Hw
  isplitl [HO] <;> iassumption

abbrev zero (c : Dev nD) (q : DmaSem sig) : sProp 𝕄 := semVal ((c : Thread nD τ), SemLoc.dma q) 0

/-- What a device holds of ring `r` after the last hop. -/
def ringEnd (r : Fin 4) (c : Dev nD) : sProp 𝕄 :=
  iprop(ringSems (F := F) r c ∗ slotAny (F := F) r 0 c ∗ slot r 1 c (part m r 7 c))

theorem lastHop_wp (c : Dev nD) {k : P F} {Q : PUnit → sProp 𝕄} :
    iprop(recs m K ∗ hopAt m 6 c)
      ⊢ iprop((iprop(ringEnd m 0 c ∗ ringEnd m 1 c ∗ ringEnd m 2 c ∗ ringEnd m 3 c ∗ bufAny (F := F) aM c ∗ bufAny (F := F) bM c
          ∗ zero (F := F) c aS ∗ zero (F := F) c bS ∗ xPts m c fullShare ∗ wPts m c ∗ owing (F := F) c []) -∗ WP c k Q)
        -∗ WP c (lastHop c 6 k) Q) := by
  unfold hopAt lastHop ringEnd
  rw [show ahead 6 = [] from rfl]
  iintro ⟨#HR, HR0, HR1, HR2, HR3, HfA, HfB, Hw, HO, -⟩ Hk
  ihave #Hlev := (lev_at m K) $$ HR
  iapply (staged_wp m aM aS c (rowA 6 c) fullShare.left [] kd_a (above_nil _)) $$ [HfA HO]
  · isplitr; · iexact Hlev
    isplitl [HfA] <;> iassumption
  iintro ⟨HA, HxA, HzA, HO⟩
  iapply (lastLap_wp m K aM c 0 _ rfl) $$ [HR0 HA Hw HO]
  · isplitr; · iexact HR
    isplitl [HR0]; · iexact HR0
    isplitl [HA]; · iexact HA
    isplitl [Hw] <;> iassumption
  iintro ⟨Hz0, H00, H01, HA, Hw, HO⟩
  iapply (staged_wp m bM bS c (rowB 6 c) fullShare.right [] kd_b (above_nil _)) $$ [HfB HO]
  · isplitr; · iexact Hlev
    isplitl [HfB] <;> iassumption
  iintro ⟨HB, HxB, HzB, HO⟩
  iapply (lastLap_wp m K bM c 2 _ rfl) $$ [HR2 HB Hw HO]
  · isplitr; · iexact HR
    isplitl [HR2]; · iexact HR2
    isplitl [HB]; · iexact HB
    isplitl [Hw] <;> iassumption
  iintro ⟨Hz2, H20, H21, HB, Hw, HO⟩
  iapply (lastLap_wp m K aM c 1 _ rfl) $$ [HR1 HA Hw HO]
  · isplitr; · iexact HR
    isplitl [HR1]; · iexact HR1
    isplitl [HA]; · iexact HA
    isplitl [Hw] <;> iassumption
  iintro ⟨Hz1, H10, H11, HA, Hw, HO⟩
  iapply (lastLap_wp m K bM c 3 _ rfl) $$ [HR3 HB Hw HO]
  · isplitr; · iexact HR
    isplitl [HR3]; · iexact HR3
    isplitl [HB]; · iexact HB
    isplitl [Hw] <;> iassumption
  iintro ⟨Hz3, H30, H31, HB, Hw, HO⟩
  iapply Hk
  isplitl [Hz0 H00 H01]
  · isplitl [Hz0]; · iexact Hz0
    isplitl [H00] <;> iassumption
  isplitl [Hz1 H10 H11]
  · isplitl [Hz1]; · iexact Hz1
    isplitl [H10] <;> iassumption
  isplitl [Hz2 H20 H21]
  · isplitl [Hz2]; · iexact Hz2
    isplitl [H20] <;> iassumption
  isplitl [Hz3 H30 H31]
  · isplitl [Hz3]; · iexact Hz3
    isplitl [H30] <;> iassumption
  isplitl [HA]; · iexists _; iexact HA
  isplitl [HB]; · iexists _; iexact HB
  isplitl [HzA]; · iexact HzA
  isplitl [HzB]; · iexact HzB
  isplitl [HxA HxB]
  · iapply (pointsTo_share (PosShare.mem_left_op_right fullShare)).2
    isplitl [HxA] <;> iassumption
  isplitl [Hw] <;> iassumption

end Cert.CreditedIdeal.Rings
-- ==== Proof.Rings.Split.lean ====
/-
# The buffers taken apart

The rings' scratch is its eight slots, the result its four rings' columns.
-/
module

public import proofs.«01_k».proof.Proof.Rings.Local

@[expose] public section

set_option maxRecDepth 16384

noncomputable section

namespace Cert.CreditedIdeal.Rings

open Cert.CreditedIdeal Cert.CreditedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The rings' scratch -/

theorem slot_disjoint (t t' : Fin 4 × Fin 2) (h : t ≠ t') : Disjoint (slotM t.1 t.2).view.set (slotM t'.1 t'.2).view.set := by
  rw [slot_set, slot_set]
  refine (Finset.disjoint_map _).mpr (Finset.disjoint_left.mpr fun i hi hi' => h ?_)
  have h0 := Rect.mem_set_unit.mp hi
  have h1 := Rect.mem_set_unit.mp hi'
  have a0 := h0 0; have a1 := h0 1; have b0 := h1 0; have b1 := h1 1
  simp only [Matrix.cons_val_zero, Matrix.cons_val_one] at a0 a1 b0 b1
  change t.1.val ≤ _ ∧ _ < t.1.val + 1 at a0
  change t.2.val ≤ _ ∧ _ < t.2.val + 1 at a1
  change t'.1.val ≤ _ ∧ _ < t'.1.val + 1 at b0
  change t'.2.val ≤ _ ∧ _ < t'.2.val + 1 at b1
  exact Prod.ext (Fin.ext (by omega)) (Fin.ext (by omega))

/-- A slot's elements of the scratch. -/
abbrev slotSet (c : Dev nD) (t : Fin 4 × Fin 2) : Finset (Idx ((c : Thread nD τ).loc cc0_scratch2)) := (slotM t.1 t.2).view.set

theorem slot_cover (c : Dev nD) : Finset.univ.biUnion (slotSet c) = Finset.univ := by
  refine Finset.eq_univ_iff_forall.mpr fun i => ?_
  let i' : S4x2x1024x1024.Idx := i
  have h0 : (i' 0).val < 4 := (i' 0).isLt
  have h1 : (i' 1).val < 2 := (i' 1).isLt
  have h2 : (i' 2).val < 1024 := (i' 2).isLt
  have h3 : (i' 3).val < 1024 := (i' 3).isLt
  refine Finset.mem_biUnion.mpr ⟨(⟨(i' 0).val, h0⟩, ⟨(i' 1).val, h1⟩), Finset.mem_univ _, ?_⟩
  rw [slotSet, slot_set]
  refine Finset.mem_map.mpr ⟨i', Rect.mem_set_unit.mpr ?_, rfl⟩
  intro a
  fin_cases a
  · exact ⟨le_rfl, Nat.lt_succ_self _⟩
  · exact ⟨le_rfl, Nat.lt_succ_self _⟩
  · exact ⟨Nat.zero_le _, by show (i' 2).val < 0 + 1024; omega⟩
  · exact ⟨Nat.zero_le _, by show (i' 3).val < 0 + 1024; omega⟩

/-- All the slots of a device, holding anything. -/
def slots (c : Dev nD) : sProp 𝕄 :=
  iprop(slotAny (F := F) 0 0 c ∗ slotAny (F := F) 1 0 c ∗ slotAny (F := F) 2 0 c ∗ slotAny (F := F) 3 0 c
    ∗ slotAny (F := F) 0 1 c ∗ slotAny (F := F) 1 1 c ∗ slotAny (F := F) 2 1 c ∗ slotAny (F := F) 3 1 c)

theorem slots_eq (c : Dev nD) : (bigSep Finset.univ fun t : Fin 4 × Fin 2 => slotAny (F := F) t.1 t.2 c) = slots c :=
  bigSep_univ_eq_bigSepL [(0, 0), (1, 0), (2, 0), (3, 0), (0, 1), (1, 1), (2, 1), (3, 1)] (by decide) (by decide) _

theorem slots_split (c : Dev nD) (f : Buf (Elt F) ((c : Thread nD τ).loc cc0_scratch2)) :
    ((c : Thread nD τ).loc cc0_scratch2 ↦{fullShare} f) ⊢ slots (F := F) c := by
  have e : ((c : Thread nD τ).loc cc0_scratch2 ↦{fullShare} f : sProp 𝕄)
      = bigSep Finset.univ fun t => ((c : Thread nD τ).loc cc0_scratch2 ↦[slotSet c t]{fullShare} f) := by
    rw [← pointsTo_biUnion Finset.univ (slotSet c) (fun t _ t' _ h => slot_disjoint t t' h), slot_cover c]
  have h (t : Fin 4 × Fin 2) : ((c : Thread nD τ).loc cc0_scratch2 ↦[slotSet c t]{fullShare} f : sProp 𝕄) ⊢ slotAny (F := F) t.1 t.2 c := by
    iintro H
    iexists _
    iapply (owns_intro (c : Thread nD τ) (slotM t.1 t.2) fullShare f) $$ H
  rw [← slots_eq, e]
  exact bigSep_mono fun t _ => h t

theorem slots_join (c : Dev nD) :
    slots (F := F) c ⊢ (iprop(∃ f : Buf (Elt F) ((c : Thread nD τ).loc cc0_scratch2), ((c : Thread nD τ).loc cc0_scratch2) ↦{fullShare} f) : sProp 𝕄) := by
  have h (t : Fin 4 × Fin 2) : slotAny (F := F) t.1 t.2 c
      ⊢ (iprop(∃ f : Buf (Elt F) ((c : Thread nD τ).loc cc0_scratch2), (c : Thread nD τ).loc cc0_scratch2 ↦[slotSet c t]{fullShare} f) : sProp 𝕄) := by
    unfold slotAny slot owns
    iintro ⟨%V, %f, -, H⟩
    iexists f; iexact H
  rw [← slots_eq]
  iintro H
  ihave H := (show _ ⊢ _ from bigSep_mono (s := Finset.univ) fun t _ => h t) $$ H
  ihave H := (BI.bigSep_exists_pi Finset.univ (fun (t : Fin 4 × Fin 2) (f : Buf (Elt F) ((c : Thread nD τ).loc cc0_scratch2)) =>
    ((c : Thread nD τ).loc cc0_scratch2 ↦[slotSet c t]{fullShare} f : sProp 𝕄))) $$ H
  icases H with ⟨%fs, H⟩
  ihave H := (pointsTo_biUnion_join Finset.univ (slotSet c) fs (fs (0, 0)) (fun t _ t' _ h => slot_disjoint t t' h)) $$ H
  icases H with ⟨%g, -, H⟩
  rw [slot_cover c]
  iexists g; iexact H

/-! ## The result -/

theorem col_set (r : Fin 4) : (outM r).view.set = oM.view.setOn (colR r).set := View.set_slice _ _

theorem col_disjoint (r r' : Fin 4) (h : r ≠ r') : Disjoint (outM r).view.set (outM r').view.set := by
  rw [col_set, col_set]
  refine (Finset.disjoint_map _).mpr (Finset.disjoint_left.mpr fun i hi hi' => h ?_)
  have a := Rect.mem_set_unit.mp hi 1
  have b := Rect.mem_set_unit.mp hi' 1
  change 1024 * r.val ≤ _ ∧ _ < 1024 * r.val + 1024 at a
  change 1024 * r'.val ≤ _ ∧ _ < 1024 * r'.val + 1024 at b
  exact Fin.ext (by omega)

/-- The elements of ring `r`'s columns. -/
abbrev colSet (c : Dev nD) (r : Fin 4) : Finset (Idx ((c : Thread nD τ).loc main_v1)) := (outM r).view.set

theorem col_cover (c : Dev nD) : Finset.univ.biUnion (colSet c) = Finset.univ := by
  refine Finset.eq_univ_iff_forall.mpr fun i => ?_
  let i' : S1024x4096.Idx := i
  have h0 : (i' 0).val < 1024 := (i' 0).isLt
  have h1 : (i' 1).val < 4096 := (i' 1).isLt
  refine Finset.mem_biUnion.mpr ⟨⟨(i' 1).val / 1024, by omega⟩, Finset.mem_univ _, ?_⟩
  rw [colSet, col_set]
  refine Finset.mem_map.mpr ⟨i', Rect.mem_set_unit.mpr ?_, rfl⟩
  intro a
  fin_cases a
  · exact ⟨Nat.zero_le _, by show (i' 0).val < 0 + 1024; omega⟩
  · show 1024 * ((i' 1).val / 1024) ≤ (i' 1).val ∧ (i' 1).val < 1024 * ((i' 1).val / 1024) + 1024; omega

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Ring `r`'s columns of the result on device `c`. -/
abbrev col (r : Fin 4) (c : Dev nD) (V : Vec F S1024x1024 .f32) : sProp 𝕄 := owns (c : Thread nD τ) (outM r) fullShare V
abbrev colAny (r : Fin 4) (c : Dev nD) : sProp 𝕄 := iprop(∃ V, col (F := F) r c V)

theorem cols_split (c : Dev nD) (f : Buf (Elt F) ((c : Thread nD τ).loc main_v1)) :
    ((c : Thread nD τ).loc main_v1 ↦{fullShare} f)
      ⊢ iprop(colAny (F := F) 0 c ∗ colAny (F := F) 1 c ∗ colAny (F := F) 2 c ∗ colAny (F := F) 3 c) := by
  have e : ((c : Thread nD τ).loc main_v1 ↦{fullShare} f : sProp 𝕄)
      = bigSep Finset.univ fun r => ((c : Thread nD τ).loc main_v1 ↦[colSet c r]{fullShare} f) := by
    rw [← pointsTo_biUnion Finset.univ (colSet c) (fun r _ r' _ h => col_disjoint r r' h), col_cover c]
  have h (r : Fin 4) : ((c : Thread nD τ).loc main_v1 ↦[colSet c r]{fullShare} f : sProp 𝕄) ⊢ colAny (F := F) r c := by
    iintro H
    iexists _
    iapply (owns_intro (c : Thread nD τ) (outM r) fullShare f) $$ H
  rw [← bigSep_four (fun r => colAny (F := F) r c), e]
  exact bigSep_mono fun r _ => h r

theorem cols_join (c : Dev nD) (V : Fin 4 → Vec F S1024x1024 .f32) :
    iprop(col (F := F) 0 c (V 0) ∗ col (F := F) 1 c (V 1) ∗ col (F := F) 2 c (V 2) ∗ col (F := F) 3 c (V 3))
      ⊢ (iprop(∃ f : Buf (Elt F) ((c : Thread nD τ).loc main_v1), ⌜∀ r, (outM r).view.read (Elt F) f = V r⌝ ∗ ((c : Thread nD τ).loc main_v1) ↦{fullShare} f) : sProp 𝕄) := by
  have h (r : Fin 4) : col (F := F) r c (V r)
      ⊢ (iprop(∃ f : Buf (Elt F) ((c : Thread nD τ).loc main_v1), ⌜(outM r).view.read (Elt F) f = V r⌝
        ∗ (c : Thread nD τ).loc main_v1 ↦[colSet c r]{fullShare} f) : sProp 𝕄) := by
    unfold col owns
    iintro ⟨%f, %hf, H⟩
    iexists f
    isplitr; · ipureintro; exact hf
    iexact H
  rw [← bigSep_four (fun r => col (F := F) r c (V r))]
  iintro H
  ihave H := (show _ ⊢ _ from bigSep_mono (s := Finset.univ) fun r _ => h r) $$ H
  ihave H := (BI.bigSep_exists_pi Finset.univ (fun (r : Fin 4) (f : Buf (Elt F) ((c : Thread nD τ).loc main_v1)) =>
    (iprop(⌜(outM r).view.read (Elt F) f = V r⌝ ∗ (c : Thread nD τ).loc main_v1 ↦[colSet c r]{fullShare} f) : sProp 𝕄))) $$ H
  icases H with ⟨%fs, H⟩
  ihave H := (BI.bigSep_pure_sep Finset.univ (fun r : Fin 4 => (outM r).view.read (Elt F) (fs r) = V r)
    (fun r => ((c : Thread nD τ).loc main_v1 ↦[colSet c r]{fullShare} fs r : sProp 𝕄))) $$ H
  icases H with ⟨%hp, H⟩
  ihave H := (pointsTo_biUnion_join Finset.univ (colSet c) fs (fs 0) (fun r _ r' _ h => col_disjoint r r' h)) $$ H
  icases H with ⟨%g, %hg, H⟩
  rw [col_cover c]
  iexists g
  isplitr
  · ipureintro
    intro r
    rw [← hp r (Finset.mem_univ r)]
    exact View.read_congr fun i hi => hg r (Finset.mem_univ r) i hi
  · iexact H

end Cert.CreditedIdeal.Rings
-- ==== Proof.Rings.Body.lean ====
/-
# The body's run

The body is run once, at a device `c` left open: the opening, seven hops, the blocks written back.
-/
module

public import proofs.«01_k».proof.Proof.Rings.Hops
public import proofs.«01_k».proof.Proof.Rings.Split

@[expose] public section

set_option maxRecDepth 16384

noncomputable section

namespace Cert.CreditedIdeal.Rings

open Cert.CreditedIdeal Cert.CreditedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (K : Dev nD × Ck → ℕ)

/-! ## What a device holds, before and after -/

/-- Device `c`'s positions at ring `r`'s cells. -/
def ringLin (r : Fin 4) (c : Dev nD) : sProp 𝕄 :=
  iprop(atPos ER (freeCell r c) 0 ∅ 0 ∗ atPos ER (sendCell r 0 c) 0 ∅ 0 ∗ atPos ER (sendCell r 1 c) 0 ∅ 0
    ∗ atPos ER (recvCell r 0 c) 0 ∅ 0 ∗ atPos ER (recvCell r 1 c) 0 ∅ 0)

/-- A device's own ghost state. -/
def lin (c : Dev nD) : sProp 𝕄 :=
  iprop(atPos ER (barCell c) 0 ∅ 0 ∗ ringLin (F := F) 0 c ∗ ringLin (F := F) 1 c ∗ ringLin (F := F) 2 c ∗ ringLin (F := F) 3 c)

/-- The semaphores of its local transfers, at zero. -/
def locals (c : Dev nD) : sProp 𝕄 :=
  iprop(zero (F := F) c aS ∗ zero (F := F) c bS ∗ zero (F := F) c (outS 0) ∗ zero (F := F) c (outS 1) ∗ zero (F := F) c (outS 2) ∗ zero (F := F) c (outS 3))

/-- The semaphores of the rings' cells, at zero. -/
def cellSems (c : Dev nD) : sProp 𝕄 :=
  iprop(ringSems (F := F) 0 c ∗ ringSems (F := F) 1 c ∗ ringSems (F := F) 2 c ∗ ringSems (F := F) 3 c)

def bufs (c : Dev nD) : sProp 𝕄 := iprop(bufAny (F := F) aM c ∗ bufAny (F := F) bM c ∗ slots (F := F) c)

def before (c : Dev nD) : sProp 𝕄 :=
  iprop(recs m K ∗ lin (F := F) c ∗ rights (F := F) c pays ∗ locals (F := F) c ∗ xPts m c fullShare ∗ wPts m c ∗ bufs (F := F) c
    ∗ (colAny (F := F) 0 c ∗ colAny (F := F) 1 c ∗ colAny (F := F) 2 c ∗ colAny (F := F) 3 c) ∗ owing (F := F) c pays)

def after (c : Dev nD) : sProp 𝕄 :=
  iprop(semVal (barCell c) 0 ∗ cellSems (F := F) c ∗ locals (F := F) c ∗ xPts m c fullShare ∗ wPts m c ∗ bufs (F := F) c
    ∗ (col 0 c (part m 0 7 c) ∗ col 1 c (part m 1 7 c) ∗ col 2 c (part m 2 7 c) ∗ col 3 c (part m 3 7 c)) ∗ owing (F := F) c [])

theorem rights_pays (c : Dev nD) : rights (F := F) c pays
    = iprop(right (F := F) c (.bar true) ∗ right (F := F) c (.bar false) ∗ right (F := F) c (.recv 0 0) ∗ right (F := F) c (.recv 1 0)
      ∗ right (F := F) c (.recv 2 0) ∗ right (F := F) c (.recv 3 0) ∗ rights (F := F) c (ahead 0)) := rfl

/-! ## The opening -/

/-- Ring `r`'s first transfer. -/
theorem start_wp (b : Memref sig .tc .vmem S1024x1024 .f32) (c d : Dev nD) (r : Fin 4) (hd : d = dn r c)
    (V : Vec F S1024x1024 .f32) (hV : V = chunk m c (up r c)) (l : List Ev) {k : P F} {Q : PUnit → sProp 𝕄} :
    iprop(recs m K ∗ ringLin (F := F) r c ∗ right (F := F) c (.recv r 0) ∗ slotAny (F := F) r 0 c ∗ slotAny (F := F) r 1 (dn r c)
        ∗ buf b c V ∗ wPts m c ∗ owing (F := F) c (.recv r 0 :: l))
      ⊢ iprop((iprop(ringAt (F := F) r 0 c ∗ buf b c V ∗ wPts m c ∗ owing (F := F) c l) -∗ WP c k Q)
        -∗ WP c (first b r 0 <| send d r 0 1 k) Q) := by
  subst hV
  unfold ringLin
  iintro ⟨#HR, ⟨HaF, HaS, HaS', HaV', HaV⟩, Hd, H0, Hp, Hb, Hw, HO⟩ Hk
  iapply (first_wp m b c r 0 (chunk m c (up r c))) $$ [Hb Hw H0]
  · isplitl [Hb]; · iexact Hb
    isplitl [Hw] <;> iassumption
  iintro ⟨Hb, Hw, H0⟩
  iapply (send_wp m K c _ r 0 (by decide) hd l rfl) $$ [Hd H0 Hp HO]
  · isplitr; · iexact HR
    isplitl [Hd]; · iexact Hd
    isplitl [H0]; · iexact H0
    isplitl [Hp]; · iexact Hp
    isplitr; · iapply (reached_at m K (c, sendK r 0)) $$ HR
    isplitr; · iapply (reached_at m K (dn r c, recvK r 1)) $$ HR
    isplitr; · iapply (reached_at m K (c, freeK r)) $$ HR
    iexact HO
  iintro ⟨Hcs, Hcv, HO⟩
  iapply Hk
  isplitl [Hcs Hcv HaF HaS HaS' HaV HaV']
  · unfold ringAt
    isplitl [Hcs]; · iexact Hcs
    isplitl [Hcv]; · iexact Hcv
    isplitl [HaS]; · iexact HaS
    isplitl [HaS']; · iexact HaS'
    isplitl [HaV]; · iexact HaV
    isplitl [HaV']; · iexact HaV'
    isplitl [HaF]; · iexact HaF
    isplitr; · iapply (reached_at m K (c, sendK r 1)) $$ HR
    iapply (reached_at m K (c, recvK r 0)) $$ HR
  isplitl [Hb]; · iexact Hb
  isplitl [Hw] <;> iassumption

/-! ## The run -/

theorem device_wp (c : Dev nD) (k : Dev nD → P F) (Q : PUnit → sProp 𝕄) : WP c (k c) Q ⊢ WP c (.op .deviceId k) Q :=
  Entails.of_eq (wp_deviceId 𝒱₀ (c : Thread nD τ) none Set.univ).symm
theorem ret_wp (c : Dev nD) (Q : PUnit → sProp 𝕄) : Q ⟨⟩ ⊢ WP c (.ret ⟨⟩ : P F) Q := by
  unfold WP; rw [wp_ret]; iintro H; imodintro; iexact H

theorem above_sends1 : Above 0 (.recv 2 0 :: .recv 3 0 :: ahead 0) := by decide

/-- Up to the first hop: the landing slots are exchanged, the first products leave, the next chunks are staged. -/
theorem opening_wp (c : Dev nD) {k : P F} {Q : PUnit → sProp 𝕄} :
    iprop(recs m K ∗ lin (F := F) c ∗ rights (F := F) c pays ∗ zero (F := F) c aS ∗ zero (F := F) c bS ∗ xPts m c fullShare ∗ wPts m c ∗ bufs (F := F) c
        ∗ owing (F := F) c pays)
      ⊢ iprop((iprop(semVal (barCell c) 0 ∗ hopAt m 0 c) -∗ WP c k Q)
        -∗ WP c (handshake ⟨k0_dev1 c, k0_dev1_lt c⟩ ⟨k0_dev2 c, k0_dev2_lt c⟩ <| opening c <|
          stage (offA c 0) (k0_off3_inb c 0) aM (Memref.isWhole_whole _) aS <|
          stage (offB c 0) (k0_off4_inb c 0) bM (Memref.isWhole_whole _) bS <| k) Q) := by
  rw [rights_pays]
  unfold lin bufs slots opening
  iintro ⟨#HR, ⟨HaB, HL0, HL1, HL2, HL3⟩, ⟨HtP, HtN, Hd0, Hd1, Hd2, Hd3, Hrt⟩, HzA, HzB, Hx, Hw,
    ⟨HA, HB, H00, H10, H20, H30, H01, H11, H21, H31⟩, HO⟩ Hk
  ihave #Hlev := (lev_at m K) $$ HR
  ihave Hx := (pointsTo_share (PosShare.mem_left_op_right fullShare)).1 $$ Hx
  icases Hx with ⟨HxA, HxB⟩
  iapply (handshake_wp m K c _ _ (dev1 c) (dev2 c)) $$ [HtP HtN HaB H01 H11 H21 H31 HO]
  · isplitr; · iexact HR
    isplitl [HtP]; · iexact HtP
    isplitl [HtN]; · iexact HtN
    isplitl [HaB]; · iexact HaB
    isplitl [H01]; · iexact H01
    isplitl [H11]; · iexact H11
    isplitl [H21]; · iexact H21
    isplitl [H31]; · iexact H31
    iexact HO
  iintro ⟨HzBar, Hp0, Hp1, Hp2, Hp3, HO⟩
  iapply (stage_wp m aM aS c (up 0 c) fullShare.left (off1 c)) $$ [HxA HA HzA]
  · isplitl [HxA]; · iexact HxA
    isplitl [HA] <;> iassumption
  iintro HfA
  iapply (stage_wp m bM bS c (up 2 c) fullShare.right (off2 c)) $$ [HxB HB HzB]
  · isplitl [HxB]; · iexact HxB
    isplitl [HB] <;> iassumption
  iintro HfB
  iapply (staged_wp m aM aS c (up 0 c) fullShare.left sends kd_a (above_sends.mono (Nat.zero_le _))) $$ [HfA HO]
  · isplitr; · iexact Hlev
    isplitl [HfA] <;> iassumption
  iintro ⟨HA, HxA, HzA, HO⟩
  iapply (start_wp m K aM c _ 0 (dev3 c) _ rfl) $$ [HL0 Hd0 H00 Hp0 HA Hw HO]
  · isplitr; · iexact HR
    isplitl [HL0]; · iexact HL0
    isplitl [Hd0]; · iexact Hd0
    isplitl [H00]; · iexact H00
    isplitl [Hp0]; · iexact Hp0
    isplitl [HA]; · iexact HA
    isplitl [Hw] <;> iassumption
  iintro ⟨HR0, HA, Hw, HO⟩
  iapply (start_wp m K aM c _ 1 (dev4 c) _ rfl) $$ [HL1 Hd1 H10 Hp1 HA Hw HO]
  · isplitr; · iexact HR
    isplitl [HL1]; · iexact HL1
    isplitl [Hd1]; · iexact Hd1
    isplitl [H10]; · iexact H10
    isplitl [Hp1]; · iexact Hp1
    isplitl [HA]; · iexact HA
    isplitl [Hw] <;> iassumption
  iintro ⟨HR1, HA, Hw, HO⟩
  iapply (staged_wp m bM bS c (up 2 c) fullShare.right _ kd_b above_sends1) $$ [HfB HO]
  · isplitr; · iexact Hlev
    isplitl [HfB] <;> iassumption
  iintro ⟨HB, HxB, HzB, HO⟩
  iapply (start_wp m K bM c _ 2 (dev5 c) _ rfl) $$ [HL2 Hd2 H20 Hp2 HB Hw HO]
  · isplitr; · iexact HR
    isplitl [HL2]; · iexact HL2
    isplitl [Hd2]; · iexact Hd2
    isplitl [H20]; · iexact H20
    isplitl [Hp2]; · iexact Hp2
    isplitl [HB]; · iexact HB
    isplitl [Hw] <;> iassumption
  iintro ⟨HR2, HB, Hw, HO⟩
  iapply (start_wp m K bM c _ 3 (dev6 c) _ rfl) $$ [HL3 Hd3 H30 Hp3 HB Hw HO]
  · isplitr; · iexact HR
    isplitl [HL3]; · iexact HL3
    isplitl [Hd3]; · iexact Hd3
    isplitl [H30]; · iexact H30
    isplitl [Hp3]; · iexact Hp3
    isplitl [HB]; · iexact HB
    isplitl [Hw] <;> iassumption
  iintro ⟨HR3, HB, Hw, HO⟩
  iapply (stage_wp m aM aS c (rowA 0 c) fullShare.left (offA_eq 0 c)) $$ [HxA HA HzA]
  · isplitl [HxA]; · iexact HxA
    isplitl [HA]; · iexists _; iexact HA
    iexact HzA
  iintro HfA
  iapply (stage_wp m bM bS c (rowB 0 c) fullShare.right (offB_eq 0 c)) $$ [HxB HB HzB]
  · isplitl [HxB]; · iexact HxB
    isplitl [HB]; · iexists _; iexact HB
    iexact HzB
  iintro HfB
  iapply Hk
  isplitl [HzBar]; · iexact HzBar
  unfold hopAt
  isplitl [HR0]; · iexact HR0
  isplitl [HR1]; · iexact HR1
  isplitl [HR2]; · iexact HR2
  isplitl [HR3]; · iexact HR3
  isplitl [HfA]; · iexact HfA
  isplitl [HfB]; · iexact HfB
  isplitl [Hw]; · iexact Hw
  isplitl [HO] <;> iassumption

/-- The blocks are written back. -/
theorem finish_wp (c : Dev nD) (V : Fin 4 → Vec F S1024x1024 .f32) (Q : PUnit → sProp 𝕄) :
    iprop(recs m K ∗ (slot 0 1 c (V 0) ∗ slot 1 1 c (V 1) ∗ slot 2 1 c (V 2) ∗ slot 3 1 c (V 3))
        ∗ (colAny (F := F) 0 c ∗ colAny (F := F) 1 c ∗ colAny (F := F) 2 c ∗ colAny (F := F) 3 c)
        ∗ (zero (F := F) c (outS 0) ∗ zero (F := F) c (outS 1) ∗ zero (F := F) c (outS 2) ∗ zero (F := F) c (outS 3)) ∗ owing (F := F) c [])
      ⊢ iprop((iprop((slotAny (F := F) 0 1 c ∗ slotAny (F := F) 1 1 c ∗ slotAny (F := F) 2 1 c ∗ slotAny (F := F) 3 1 c)
        ∗ (col 0 c (V 0) ∗ col 1 c (V 1) ∗ col 2 c (V 2) ∗ col 3 c (V 3))
        ∗ (zero (F := F) c (outS 0) ∗ zero (F := F) c (outS 1) ∗ zero (F := F) c (outS 2) ∗ zero (F := F) c (outS 3)) ∗ owing (F := F) c []) -∗ Q ⟨⟩)
        -∗ WP c (finish (F := F)) Q) := by
  unfold finish
  iintro ⟨#HR, ⟨H01, H11, H21, H31⟩, ⟨Ho0, Ho1, Ho2, Ho3⟩, ⟨Hz0, Hz1, Hz2, Hz3⟩, HO⟩ Hk
  ihave #Hlev := (lev_at m K) $$ HR
  iapply (writeBack_wp c 0 1 (V 0)) $$ [H01 Ho0 Hz0]
  · isplitl [H01]; · iexact H01
    isplitl [Ho0] <;> iassumption
  iintro Hf0
  iapply (writeBack_wp c 1 1 (V 1)) $$ [H11 Ho1 Hz1]
  · isplitl [H11]; · iexact H11
    isplitl [Ho1] <;> iassumption
  iintro Hf1
  iapply (writeBack_wp c 2 1 (V 2)) $$ [H21 Ho2 Hz2]
  · isplitl [H21]; · iexact H21
    isplitl [Ho2] <;> iassumption
  iintro Hf2
  iapply (writeBack_wp c 3 1 (V 3)) $$ [H31 Ho3 Hz3]
  · isplitl [H31]; · iexact H31
    isplitl [Ho3] <;> iassumption
  iintro Hf3
  iapply (written_wp c 0 1 (V 0) [] (above_nil _)) $$ [Hf0 HO]
  · isplitr; · iexact Hlev
    isplitl [Hf0] <;> iassumption
  iintro ⟨Ho0, H01, Hz0, HO⟩
  iapply (written_wp c 1 1 (V 1) [] (above_nil _)) $$ [Hf1 HO]
  · isplitr; · iexact Hlev
    isplitl [Hf1] <;> iassumption
  iintro ⟨Ho1, H11, Hz1, HO⟩
  iapply (written_wp c 2 1 (V 2) [] (above_nil _)) $$ [Hf2 HO]
  · isplitr; · iexact Hlev
    isplitl [Hf2] <;> iassumption
  iintro ⟨Ho2, H21, Hz2, HO⟩
  iapply (written_wp c 3 1 (V 3) [] (above_nil _)) $$ [Hf3 HO]
  · isplitr; · iexact Hlev
    isplitl [Hf3] <;> iassumption
  iintro ⟨Ho3, H31, Hz3, HO⟩
  iapply (ret_wp c Q)
  iapply Hk
  isplitl [H01 H11 H21 H31]
  · isplitl [H01]; · iexact H01
    isplitl [H11]; · iexact H11
    isplitl [H21] <;> iassumption
  isplitl [Ho0 Ho1 Ho2 Ho3]
  · isplitl [Ho0]; · iexact Ho0
    isplitl [Ho1]; · iexact Ho1
    isplitl [Ho2] <;> iassumption
  isplitl [Hz0 Hz1 Hz2 Hz3]
  · isplitl [Hz0]; · iexact Hz0
    isplitl [Hz1]; · iexact Hz1
    isplitl [Hz2] <;> iassumption
  iexact HO

theorem run_body (c : Dev nD) (Q : PUnit → sProp 𝕄) : before m K c ⊢ iprop((after m c -∗ Q ⟨⟩) -∗ WP c (body (F := F)) Q) := by
  unfold before locals body
  iintro ⟨#HR, Hlin, Hrt, ⟨HzA, HzB, Hz⟩, Hx, Hw, Hbuf, Hcol, HO⟩ Hk
  iapply (device_wp c _ Q)
  iapply (opening_wp m K c) $$ [Hlin Hrt HzA HzB Hx Hw Hbuf HO]
  · isplitr; · iexact HR
    isplitl [Hlin]; · iexact Hlin
    isplitl [Hrt]; · iexact Hrt
    isplitl [HzA]; · iexact HzA
    isplitl [HzB]; · iexact HzB
    isplitl [Hx]; · iexact Hx
    isplitl [Hw]; · iexact Hw
    isplitl [Hbuf] <;> iassumption
  iintro ⟨HzBar, Hh⟩
  iapply (hop_wp m K c _ (dests_eq 0 c) 0 0 1 rfl rfl) $$ [Hh]
  · isplitr; · iexact HR
    iexact Hh
  iintro Hh
  iapply (hop_wp m K c _ (dests_eq 1 c) 1 1 2 rfl rfl) $$ [Hh]
  · isplitr; · iexact HR
    iexact Hh
  iintro Hh
  iapply (hop_wp m K c _ (dests_eq 2 c) 2 2 3 rfl rfl) $$ [Hh]
  · isplitr; · iexact HR
    iexact Hh
  iintro Hh
  iapply (hop_wp m K c _ (dests_eq 3 c) 3 3 4 rfl rfl) $$ [Hh]
  · isplitr; · iexact HR
    iexact Hh
  iintro Hh
  iapply (hop_wp m K c _ (dests_eq 4 c) 4 4 5 rfl rfl) $$ [Hh]
  · isplitr; · iexact HR
    iexact Hh
  iintro Hh
  iapply (hop_wp m K c _ (dests_eq 5 c) 5 5 6 rfl rfl) $$ [Hh]
  · isplitr; · iexact HR
    iexact Hh
  iintro Hh
  iapply (lastHop_wp m K c) $$ [Hh]
  · isplitr; · iexact HR
    iexact Hh
  unfold ringEnd
  iintro ⟨⟨Hr0, H00, H01⟩, ⟨Hr1, H10, H11⟩, ⟨Hr2, H20, H21⟩, ⟨Hr3, H30, H31⟩, HA, HB, HzA, HzB, Hx, Hw, HO⟩
  iapply (finish_wp m K c (fun r => part m r 7 c) Q) $$ [H01 H11 H21 H31 Hcol Hz HO]
  · isplitr; · iexact HR
    isplitl [H01 H11 H21 H31]
    · isplitl [H01]; · iexact H01
      isplitl [H11]; · iexact H11
      isplitl [H21] <;> iassumption
    isplitl [Hcol]; · iexact Hcol
    isplitl [Hz] <;> iassumption
  iintro ⟨⟨H01, H11, H21, H31⟩, Hcol, Hz, HO⟩
  iapply Hk
  unfold after cellSems locals bufs slots
  isplitl [HzBar]; · iexact HzBar
  isplitl [Hr0 Hr1 Hr2 Hr3]
  · isplitl [Hr0]; · iexact Hr0
    isplitl [Hr1]; · iexact Hr1
    isplitl [Hr2] <;> iassumption
  isplitl [HzA HzB Hz]
  · isplitl [HzA]; · iexact HzA
    isplitl [HzB] <;> iassumption
  isplitl [Hx]; · iexact Hx
  isplitl [Hw]; · iexact Hw
  isplitl [HA HB H00 H10 H20 H30 H01 H11 H21 H31]
  · isplitl [HA]; · iexact HA
    isplitl [HB]; · iexact HB
    isplitl [H00]; · iexact H00
    isplitl [H10]; · iexact H10
    isplitl [H20]; · iexact H20
    isplitl [H30]; · iexact H30
    isplitl [H01]; · iexact H01
    isplitl [H11]; · iexact H11
    isplitl [H21] <;> iassumption
  isplitl [Hcol]; · iexact Hcol
  iexact HO

end Cert.CreditedIdeal.Rings
-- ==== Proof.Rings.Launch.lean ====
/-
# The launch

The ghost state of the rings is made, dealt to the devices, and the call is run on all of them.
-/
module

public import proofs.«01_k».proof.Proof.Rings.Body
public import Idealize.ShloMosaic.Lib.Pipeline.Launch
public import Idealize.ShloMosaic.Lib.Pipeline.CollectiveSegs
public import Idealize.ShloMosaic.Lib.Pipeline.BigSepL
public import proofs.«01_k».proof.Proof.Gen.CreditedIdeal.Launch

@[expose] public section

set_option maxRecDepth 16384

noncomputable section

namespace Cert.CreditedIdeal.Rings

open Cert.CreditedIdeal Cert.CreditedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (ρ : Dev nD → PrngReg)

/-- The launch memory. -/
abbrev s₀ : MemSt nD τ sig (Elt F) := ⟨m, fun _ => 0, ρ⟩

/-! ## The semaphores -/

/-- The call's own semaphores: the DMA semaphores but the one its operand is staged on, then the credits'. -/
abbrev osem : Fin 26 → SemLoc sig := fun i => if h : i.val < 22 then .dma ⟨i.val + 1, Nat.succ_lt_succ h⟩ else .reg (freeS ⟨i.val - 22, by omega⟩)

theorem ownSemFacts : Pipeline.OwnSemFacts cfg0.spec osem := by decide

/-- The local transfers' come first, then the rings', ring by ring. -/
theorem ownSems0_eq (c : Dev nD) :
    (Pipeline.ownSems0 (Ix := ℕ) (Name := ℕ) (U := UU) (Lvl := ℕ) (Val := Elt F) (τ := τ) osem c : sProp 𝕄)
      = iprop(locals (F := F) c ∗ cellSems (F := F) c) := by
  rw [Pipeline.ownSems0_eq_of_list c osem ([0, 1, 2, 3, 4, 5] ++ ([22, 6, 7, 14, 15] ++ ([23, 8, 9, 16, 17] ++ ([24, 10, 11, 18, 19] ++ [25, 12, 13, 20, 21]))))
    (by decide) (by decide), bigSepL_append, bigSepL_append, bigSepL_append, bigSepL_append]
  rfl

/-- What belongs to ring `r` of a device's cells. -/
abbrev ofRing (Φ : Ck → sProp 𝕄) (r : Fin 4) : sProp 𝕄 := iprop(Φ (freeK r) ∗ Φ (sendK r 0) ∗ Φ (sendK r 1) ∗ Φ (recvK r 0) ∗ Φ (recvK r 1))

/-- A device's cells ring by ring. -/
theorem bigSep_cells (Φ : Ck → sProp 𝕄) :
    bigSep Finset.univ Φ = iprop(Φ none ∗ ofRing Φ 0 ∗ ofRing Φ 1 ∗ ofRing Φ 2 ∗ ofRing Φ 3) := by
  rw [bigSep_univ_eq_bigSepL ([none] ++ ([freeK 0, sendK 0 0, sendK 0 1, recvK 0 0, recvK 0 1] ++ ([freeK 1, sendK 1 0, sendK 1 1, recvK 1 0, recvK 1 1]
      ++ ([freeK 2, sendK 2 0, sendK 2 1, recvK 2 0, recvK 2 1] ++ [freeK 3, sendK 3 0, sendK 3 1, recvK 3 0, recvK 3 1])))) (by decide) (by decide),
    bigSepL_append, bigSepL_append, bigSepL_append, bigSepL_append]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The call's proof data -/

/-- What device `c`'s body starts from, its buffers aside. -/
def start (c : Dev nD) : sProp 𝕄 :=
  iprop((∃ K, recs m K) ∗ lin (F := F) c ∗ rights (F := F) c pays ∗ locals (F := F) c ∗ xPts m c fullShare
    ∗ (colAny (F := F) 0 c ∗ colAny (F := F) 1 c ∗ colAny (F := F) 2 c ∗ colAny (F := F) 3 c))

/-- What it ends with: the left operand unchanged, each ring's columns of the result. -/
def ends (c : Dev nD) : sProp 𝕄 :=
  iprop(semVal (barCell c) 0 ∗ xPts m c fullShare ∗ (col 0 c (part m 0 7 c) ∗ col 1 c (part m 1 7 c) ∗ col 2 c (part m 2 7 c) ∗ col 3 c (part m 3 7 c)))

def Φ₀ (c : Dev nD) : sProp 𝕄 := iprop(start m c ∗ bufs (F := F) c)
def Φ₁ (c : Dev nD) : sProp 𝕄 := iprop(ends m c ∗ cellSems (F := F) c ∗ locals (F := F) c ∗ bufs (F := F) c)

def dats (_ : Fin 1) (c : Dev nD) : Pipeline.Dat τ (Elt F) ℕ ℕ UU ℕ cfg0 c where
  A w := m ((cfg0.win w).arr.view.loc (c : Thread nD τ))
  after w _ := match w with
    | ⟨0, _⟩ => wAt m c
  Φ t := match t with
    | ⟨0, _⟩ => Φ₀ m c
    | ⟨_ + 1, _⟩ => Φ₁ m c
  q _ := fullShare
  owed t := match t with
    | ⟨0, _⟩ => owe c pays
    | ⟨_ + 1, _⟩ => owe c []

theorem share_eq (c : Dev nD) (w : Fin cfg0.W) : (dats m 0 c).share w = fullShare := by unfold Pipeline.Dat.share; split <;> rfl

theorem fetch_0 (t : Fin cfg0.N) : (cfg0.win (0 : Fin 1)).fetch t = true := by rw [fin_N0 t]; rfl

/-- A window's staging buffer holding `X`. -/
abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

theorem bigSep_W (Φ : Fin cfg0.W → sProp 𝕄) : bigSep Finset.univ Φ = Φ (0 : Fin 1) := bigSep_W0 Φ

def bodyPre (c : Dev nD) : sProp 𝕄 :=
  iprop(Φ₀ m c ∗ (dats m 0 c).owesAt (0 : ℕ) t0_0.castSucc ∗ (∃ d, stg c ((dats m 0 c).before (0 : Fin 1) t0_0 d)))
def bodyPost (c : Dev nD) : sProp 𝕄 := iprop(Φ₁ m c ∗ (dats m 0 c).owesAt (0 : ℕ) t0_0.succ ∗ stg c (wAt m c))

theorem sound_body (c : Dev nD) : bodyPre m c ⊢ WP c (body (F := F)) (fun _ => bodyPost m c) := by
  unfold bodyPre Φ₀ start Pipeline.Dat.owesAt Pipeline.owesWithin
  iintro ⟨⟨⟨⟨%K, HR⟩, Hlin, Hcr, Hloc, Hx, Hcol⟩, Hbuf⟩, ⟨%W, %hW, HO⟩, ⟨%d, %g, %hg, Hw⟩⟩
  have hw : g = wAt m c := by rw [hg]; unfold Pipeline.Dat.before; rw [if_pos (fetch_0 t0_0)]; rfl
  subst hw
  iapply (run_body m K c (fun _ => bodyPost m c)) $$ [HR Hlin Hcr Hloc Hx Hcol Hbuf HO Hw]
  · unfold before
    isplitl [HR]; · iexact HR
    isplitl [Hlin]; · iexact Hlin
    isplitl [Hcr]; · iexact Hcr
    isplitl [Hloc]; · iexact Hloc
    isplitl [Hx]; · iexact Hx
    isplitl [Hw]; · iexact Hw
    isplitl [Hbuf]; · iexact Hbuf
    isplitl [Hcol]; · iexact Hcol
    unfold owing
    iexists W; iexact HO
  unfold after owing
  iintro ⟨HzB, Hrs, Hloc, Hx, Hw, Hbuf, Hcol, %W', HO⟩
  unfold bodyPost Φ₁ ends Pipeline.Dat.owesAt Pipeline.owesWithin
  isplitl [HzB Hrs Hloc Hx Hbuf Hcol]
  · isplitl [HzB Hx Hcol]
    · isplitl [HzB]; · iexact HzB
      isplitl [Hx] <;> iassumption
    isplitl [Hrs]; · iexact Hrs
    isplitl [Hloc] <;> iassumption
  isplitl [HO]
  · iexists W'
    isplitr; · ipureintro; exact fun _ _ => Or.inl trivial
    iexact HO
  iexists _
  isplitr; · (ipureintro; rfl)
  iexact Hw

set_option maxRecDepth 65536 in
theorem body_obligation (c : Dev nD) : Pipeline.BodyObligation (dats (F := F) m 0 c) (defs₀ (F := F)) 𝒱₀ (0 : ℕ) Set.univ := fun t => by
  rw [fin_N0 t, bigSep_W, bigSep_W]
  simp only [owns_whole_eq]
  show bodyPre m c ⊢ WP c (cc0_body (F := F) xM (Memref.isWhole_whole _) wM (Memref.isWhole_whole _) oM (Memref.isWhole_whole _)
      aM (Memref.isWhole_whole _) bM (Memref.isWhole_whole _)
      cM (Memref.isWhole_whole _) cc0_scratch3 cc0_scratch4 cc0_scratch5 cc0_scratch6 cc0_scratch7 cc0_scratch8) (fun _ => bodyPost m c)
  rw [body_eq]
  exact sound_body m c

/-! ## The launch's ghost state -/

theorem kd_kcell (c : Dev nD) (k : Ck) : kd (kcell (c, k)).2 = match k with
    | none => .bar | some (.inl r) => .free r | some (.inr (false, r, k)) => .send r k | some (.inr (true, r, k)) => .recv r k := by
  rcases k with _ | r | ⟨_ | _, r, k⟩
  · exact kd_bar
  · exact kd_free r
  · exact kd_send r k
  · exact kd_recv r k

theorem kcell_dev (x : Dev nD × Ck) : (kcell x).1.1 = x.1 := by
  obtain ⟨c, _ | r | ⟨_ | _, r, k⟩⟩ := x <;> rfl

theorem kcell_injective : Function.Injective (kcell : Dev nD × Ck → GSem nD τ sig) := by
  rintro ⟨c, k⟩ ⟨c', k'⟩ h
  have h1 : c = c' := by have := congrArg (fun g : GSem nD τ sig => g.1.1) h; simpa only [kcell_dev] using this
  subst h1
  have h2 := congrArg (fun g : GSem nD τ sig => kd g.2) h
  rw [kd_kcell, kd_kcell] at h2
  rcases k with _ | r | ⟨_ | _, r, k⟩ <;> rcases k' with _ | r' | ⟨_ | _, r', k'⟩ <;> dsimp only at h2 <;> first | rfl | (cases h2; rfl) | cases h2

def ringCells : Finset (GSem nD τ sig) := Finset.univ.map ⟨kcell, kcell_injective⟩

/-- What a payment's cell stands for. -/
def evKd : Ev → Kd
  | .bar _ => .bar
  | .recv r s => .recv r (sl (s + 1))
  | .free r _ => .free r
  | .send r s => .send r (sl s)

theorem kd_cell (p : Ev) (c : Dev nD) : kd (p.cell c).2 = evKd p := by
  cases p
  · exact kd_bar
  · exact kd_recv _ _
  · exact kd_free _
  · exact kd_send _ _

/-- A payment is known by its cell, its round and its duty. -/
theorem ev_eq {p q : Ev} (hk : evKd p = evKd q) (hr : p.round = q.round) (hd : p.duty = q.duty) : p = q := by
  have hop {s s' : ℕ} (h : sl s = sl s') (h' : s / 2 = s' / 2) : s = s' := by
    have := congrArg Fin.val h
    rw [sl_val, sl_val] at this
    omega
  cases p <;> cases q <;> first | (cases hk; done) | skip
  · exact congrArg Ev.bar hd
  · have h := Kd.recv.inj hk
    have h1 := congrArg Fin.val h.2
    rw [sl_val, sl_val] at h1
    have h2 : _ / 2 = _ / 2 := hr
    rw [h.1]; exact congrArg _ (by omega)
  · rw [Kd.free.inj hk]; exact congrArg _ hr
  · have h := Kd.send.inj hk
    rw [h.1]; exact congrArg _ (hop h.2 hr)

/-- A transfer has a duty at its arrival and one at its departure. -/
def duesOf : Ev → List Ev
  | .recv r s => [.recv r s, .send r s]
  | p => [p]

abbrev evs : List Ev := pays.flatMap duesOf

/-- The duties of a device's own cells. -/
abbrev tokOf (x : Dev nD × {p // p ∈ evs.toFinset}) : GSem nD τ sig × ℕ × Bool := (x.2.val.cell x.1, x.2.val.round, x.2.val.duty)

theorem tokOf_injective : Function.Injective tokOf := by
  rintro ⟨c, p, hp⟩ ⟨c', p', hp'⟩ h
  have hg : p.cell c = p'.cell c' := congrArg Prod.fst h
  have hr : p.round = p'.round := congrArg (fun x : GSem nD τ sig × ℕ × Bool => x.2.1) h
  have hd : p.duty = p'.duty := congrArg (fun x : GSem nD τ sig × ℕ × Bool => x.2.2) h
  have h1 := congrArg (fun g : GSem nD τ sig => g.1.1) hg
  change (p.cell c).1.1 = (p'.cell c').1.1 at h1
  rw [cell_dev, cell_dev] at h1
  have h2 := congrArg (fun g : GSem nD τ sig => kd g.2) hg
  change kd (p.cell c).2 = kd (p'.cell c').2 at h2
  rw [kd_cell, kd_cell] at h2
  have h3 := ev_eq h2 hr hd
  subst h1 h3
  rfl

def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

theorem ownU_split : (ownU u₀ : sProp 𝕄)
    ⊢ iprop(BI.own (EP (initOf (Pipeline.cells cfgs cellOf_inj) (Pipeline.launchToks cfgs cellOf_inj))) ∗ BI.own (ER (initOf ringCells ringToks))) :=
  ownU_pair _ _

/-- The duty tokens of device `c`'s own cells, a transfer's two together. -/
def toks (c : Dev nD) : sProp 𝕄 := bigSepL pays fun p => iprop(dutyTok ER (p.cell c) p.round p.duty ∗ dep (F := F) c p)

theorem toks_list (c : Dev nD) (l : List Ev) :
    bigSepL (l.flatMap duesOf) (fun p => (dutyTok ER (p.cell c) p.round p.duty : sProp 𝕄))
      = bigSepL l fun p => iprop(dutyTok ER (p.cell c) p.round p.duty ∗ dep (F := F) c p) := by
  induction l with
  | nil => rfl
  | cons p l ih =>
    rw [List.flatMap_cons, bigSepL_append, ih, bigSepL_cons']
    cases p
    · exact congrArg (fun X => iprop(X ∗ _)) (equiv_iff.mp BI.sep_emp).symm
    · rfl
    · exact congrArg (fun X => iprop(X ∗ _)) (equiv_iff.mp BI.sep_emp).symm
    · exact congrArg (fun X => iprop(X ∗ _)) (equiv_iff.mp BI.sep_emp).symm

set_option maxRecDepth 100000 in
theorem evs_nodup : evs.Nodup := by decide

theorem toks_eq (c : Dev nD) : (bigSep Finset.univ fun j => dutyTok ER (tokOf (c, j)).1 (tokOf (c, j)).2.1 (tokOf (c, j)).2.2 : sProp 𝕄) ⊢ toks (F := F) c := by
  unfold toks
  rw [← toks_list, ← bigSep_eq_bigSepL_of_eq (S := evs.toFinset) evs rfl evs_nodup]
  have e : (Finset.univ : Finset {p // p ∈ evs.toFinset}).map (Function.Embedding.subtype _) = evs.toFinset := Finset.attach_map_val
  refine Entails.of_eq (PROP := sProp 𝕄) (Eq.trans ?_ (congrArg (fun S => bigSep S fun p : Ev => (dutyTok ER (p.cell c) p.round p.duty : sProp 𝕄)) e))
  rw [bigSep_map]
  rfl

/-- The launch's share of the rings' ghost state for device `c`. -/
def G (c : Dev nD) : sProp 𝕄 :=
  iprop((bigSep Finset.univ fun k : Ck => roundState ER (Rd m) (kcell (c, k)) 0)
    ∗ (bigSep Finset.univ fun k : Ck => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks (F := F) c := by
    unfold ringToks; rw [bigSep_map, bigSep_univ_prod]
    exact bigSep_mono fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem cells_zero (c : Dev nD) : iprop(semVal (barCell c) 0 ∗ cellSems (F := F) c) ⊢ (bigSep Finset.univ fun k : Ck => semVal (kcell (c, k)) 0 : sProp 𝕄) := by
  rw [bigSep_cells]
  exact Entails.of_eq (PROP := sProp 𝕄) rfl

/-- What the cells' opening leaves on device `c`. -/
def opened (c : Dev nD) : sProp 𝕄 :=
  iprop((bigSep Finset.univ fun k : Ck => iprop(∃ κ : ℕ, cellInv ER (Rd m) κ (kcell (c, k))))
    ∗ (bigSep Finset.univ fun k : Ck => iprop(atPos ER (kcell (c, k)) 0 ∅ 0 ∗ reached ER (kcell (c, k)) 0)) ∗ toks (F := F) c
    ∗ locals (F := F) c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> opened m c := by
  unfold G opened
  rw [unscopedSems0_eq]
  iintro ⟨Hos, Hus, Hst, Hat, Htok⟩
  ihave Hos := (Entails.of_eq (ownSems0_eq (F := F) c)) $$ Hos
  icases Hos with ⟨Hloc, Hrs⟩
  ihave Hv := (cells_zero (F := F) c) $$ [Hus Hrs]
  · isplitl [Hus] <;> iassumption
  imod (show iprop((bigSep Finset.univ fun k : Ck => semVal (kcell (c, k)) 0) ∗ bigSep Finset.univ fun k : Ck => roundState ER (Rd m) (kcell (c, k)) 0)
      ⊢ (|={Set.univ}=> bigSep Finset.univ fun k : Ck => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The records, the levels aside. -/
def records (K : Dev nD × Ck → ℕ) : sProp 𝕄 :=
  iprop(bigSep Finset.univ (fun x => cellInv ER (Rd m) (K x) (kcell x)) ∗ bigSep Finset.univ (fun x => reached ER (kcell x) 0))

instance records_persistent (K : Dev nD × Ck → ℕ) : BI.Persistent (records m K) := by unfold records; infer_instance

/-- The tokens each device pays with. -/
def payToks (c : Dev nD) : sProp 𝕄 := bigSepL pays fun p => iprop(dutyTok ER (p.cell (p.payee c)) p.round p.duty ∗ dep (F := F) c p)

/-- What the launch leaves device `c` with. -/
def G' (c : Dev nD) : sProp 𝕄 := iprop((∃ K, records m K) ∗ (lin (F := F) c ∗ payToks (F := F) c) ∗ locals (F := F) c)

/-- Every cell's tokens pass to the devices that pay into it. -/
theorem toks_around : (bigSep Finset.univ fun c : Dev nD => toks (F := F) c) ⊢ bigSep Finset.univ fun c : Dev nD => payToks (F := F) c := by
  unfold toks payToks
  generalize pays = l
  refine Entails.of_eq ?_
  induction l with
  | nil => rfl
  | cons p l ih =>
    simp only [bigSepL_cons']
    rw [bigSep_sep', bigSep_sep', ih, bigSep_sep', bigSep_sep',
      bigSep_univ_equiv p.payee (fun c : Dev nD => (dutyTok ER (p.cell c) p.round p.duty : sProp 𝕄))]

/-- A device's positions, cell by cell. -/
theorem lin_intro (c : Dev nD) : (bigSep Finset.univ fun k : Ck => atPos ER (kcell (c, k)) 0 ∅ 0) ⊢ lin (F := F) c := by
  rw [bigSep_cells]
  exact Entails.of_eq (PROP := sProp 𝕄) rfl

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => opened m c) ⊢ bigSep Finset.univ (G' m) := by
  unfold opened
  rw [bigSep_sep', bigSep_sep', bigSep_sep', ← bigSep_univ_prod (fun x : Dev nD × Ck => iprop(∃ κ : ℕ, cellInv ER (Rd m) κ (kcell x))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun x : Dev nD × Ck => (reached ER (kcell x) 0 : sProp 𝕄))]
  iintro ⟨HI, ⟨Hat, #HR⟩, Htok, Hrest⟩
  ihave HK := (BI.bigSep_exists_pi Finset.univ (fun (x : Dev nD × Ck) (κ : ℕ) => (cellInv ER (Rd m) κ (kcell x) : sProp 𝕄))) $$ HI
  icases HK with ⟨%K, #HI⟩
  ihave Htk := (toks_around (F := F)) $$ Htok
  iapply (bigSep_with (R := records m K)
    (Φ := fun c => iprop(iprop((bigSep Finset.univ fun k : Ck => atPos ER (kcell (c, k)) 0 ∅ 0) ∗ payToks (F := F) c) ∗ locals (F := F) c))
    fun c _ => by
      unfold G'
      iintro ⟨HR, Hl, Hrest⟩
      isplitl [HR]; · iexists K; iexact HR
      icases Hl with ⟨Hl, Ht⟩
      isplitl [Hl Ht]
      · isplitl [Hl]; · iapply (lin_intro c) $$ Hl
        iexact Ht
      iexact Hrest)
  isplitr
  · unfold records; isplitl; · iexact HI
    iexact HR
  · rw [bigSep_sep' Finset.univ (fun c : Dev nD => iprop((bigSep Finset.univ fun k : Ck => atPos ER (kcell (c, k)) 0 ∅ 0) ∗ payToks (F := F) c)),
      bigSep_sep' Finset.univ (fun c : Dev nD => (bigSep Finset.univ fun k : Ck => atPos ER (kcell (c, k)) 0 ∅ 0 : sProp 𝕄))]
    isplitl [Hat Htk]
    · isplitl [Hat]; · iexact Hat
      iexact Htk
    iexact Hrest

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- A payment's semaphore. -/
def evSem : Ev → SemLoc sig
  | .bar _ => .reg barS
  | .recv r s => .dma (recvS r (sl (s + 1)))
  | .free r _ => .reg (freeS r)
  | .send r s => .dma (sendS r (sl s))

theorem cell_eq (p : Ev) (c : Dev nD) : p.cell c = ((c : Thread nD τ), evSem p) := by cases p <;> rfl

/-- What is owed to a device at launch is what it can count on. -/
theorem creds_intro (c : Dev nD) (l : List Ev) :
    (Pipeline.launchCred (fun d => owe d l) c : sProp 𝕄) ⊢ bigSepL l fun p => cred (tallyAt (p.cell c) p.ix p.units) := by
  induction l with
  | nil => exact Entails.of_eq (Pipeline.launchCred_zero c)
  | cons p l ih =>
    rw [bigSepL_cons']
    show (Pipeline.launchCred (fun d => owe d l + tallyAt (p.cell (p.payee d)) p.ix p.units) c : sProp 𝕄) ⊢ _
    rw [Pipeline.launchCred_add]
    simp only [cell_eq p]
    iintro ⟨Hl, Hp⟩
    isplitl [Hp]
    · iapply (Pipeline.launchCred_tallyAt (evSem p) p.payee p.payee.symm (fun c => p.payee.apply_symm_apply c) (fun d => p.payee.symm_apply_apply d) p.ix p.units c) $$ Hp
    iapply ih $$ Hl

theorem rights_intro (c : Dev nD) (l : List Ev) :
    iprop((bigSepL l fun p => cred (tallyAt (p.cell c) p.ix p.units))
        ∗ bigSepL l fun p => iprop(dutyTok ER (p.cell (p.payee c)) p.round p.duty ∗ dep (F := F) c p))
      ⊢ rights (F := F) c l := by
  induction l with
  | nil => exact sep_elim_left
  | cons p l ih =>
    rw [bigSepL_cons', bigSepL_cons', rights]
    unfold right
    iintro ⟨⟨Hc, Hcl⟩, ⟨Ht, Hd⟩, Hl⟩
    isplitl [Hc Ht Hd]
    · isplitl [Hc]; · iexact Hc
      isplitl [Ht] <;> iassumption
    iapply ih
    isplitl [Hcl] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred (fun d => owe d pays) c ∗ prngReg c (ρ c) ∗ G' m c)
      ⊢ |={Set.univ}=> iprop(start m c ∗ emp) := by
  rw [Pipeline.unscopedRestP_none, unscopedRest0_eq]
  unfold G' start records
  iintro ⟨⟨Hx, Ho⟩, Hlev, Hcr, -, ⟨%K, HI, HR⟩, ⟨Hlin, Htk⟩, Hloc⟩
  ihave Hcr := (creds_intro (F := F) c pays) $$ Hcr
  unfold payToks
  ihave Hcr := (rights_intro (F := F) c pays) $$ [Hcr Htk]
  · isplitl [Hcr] <;> iassumption
  ihave Ho := (cols_split (F := F) c _) $$ Ho
  imodintro
  isplitl
  · isplitl [HI HR Hlev]
    · iexists K
      unfold recs
      isplitl [HI]; · iexact HI
      isplitl [HR]; · iexact HR
      iexact Hlev
    isplitl [Hlin]; · iexact Hlin
    isplitl [Hcr]; · iexact Hcr
    isplitl [Hloc]; · iexact Hloc
    isplitl [Hx]; · iexact Hx
    iexact Ho
  · iempintro

theorem bufs_intro (c : Dev nD) : (Pipeline.scopedRest cfg0.spec c : sProp 𝕄) ⊢ bufs (F := F) c := by
  rw [scopedRest0_eq]
  unfold bufs bufAny buf
  simp only [owns_whole]
  iintro ⟨⟨%f, HA⟩, ⟨%g, HB⟩, ⟨%h, HC⟩⟩
  isplitl [HA]; · iexists f; iexact HA
  isplitl [HB]; · iexists g; iexact HB
  iapply (slots_split c h) $$ HC

theorem bufs_elim (c : Dev nD) : bufs (F := F) c ⊢ (Pipeline.scopedRest cfg0.spec c : sProp 𝕄) := by
  rw [scopedRest0_eq]
  unfold bufs bufAny buf
  simp only [owns_whole]
  iintro ⟨⟨%f, HA⟩, ⟨%g, HB⟩, HC⟩
  isplitl [HA]; · iexists f; iexact HA
  isplitl [HB]; · iexists g; iexact HB
  iapply (slots_join c) $$ HC

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (bufs_intro c) $$ Hr

theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl]
  unfold Φ₁
  iintro ⟨He, Hrs, Hloc, Hb⟩
  isplitl [He]; · iexact He
  isplitl [Hrs Hloc]
  · rw [ownSems0_eq]
    isplitl [Hloc] <;> iassumption
  iapply (bufs_elim c) $$ Hb

theorem above_pays : Above 0 pays := by decide

theorem waits (c : Dev nD) : (levAts L lv : sProp 𝕄) ⊢ Pipeline.cellsWaits cfgs (dats m) (0 : ℕ) 0 c :=
  Pipeline.cellsWaits_intro cfgs (dats m) (0 : ℕ) 0 c fun w s t => by
    have hk : kd (.dma ((cfg0.win w).sem s)) = .other := by revert w s; decide
    rcases t with ⟨_ | _, ht⟩
    · exact mayWait_owe c _ 0 (by decide) pays (by rw [lv_other c hk]; exact above_pays)
    · exact mayWait_owe c _ 0 (by decide) [] (above_nil _)

/-- What a final state holds: on each device the operands unchanged, and in each ring's columns of the result
    the ring's sum over all devices. -/
def QC (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ ∀ i : Fin 4, (outM i).view.read (Elt F) (r.2.mem ((c : Thread nD τ).loc main_v1)) = part m i 7 c

/-- What is read off the memory at the end. -/
def QY (c : Dev nD) (s : MemSt nD τ sig (Elt F)) : Prop :=
  (∀ sm : SemLoc sig, sm.isScoped .tc = false → s.sem ((c : Thread nD τ), sm) = 0)
    ∧ s.mem ((c : Thread nD τ).loc main_arg0) = m ((c : Thread nD τ).loc main_arg0)
    ∧ ∀ i : Fin 4, (outM i).view.read (Elt F) (s.mem ((c : Thread nD τ).loc main_v1)) = part m i 7 c

theorem read_end (c : Dev nD) (s' : Phys nD τ sig (Elt F)) :
    iprop(ends m c ∗ emp ∗ SI s') ⊢ |={Set.univ}=> iprop(⌜QY m c s'.mem⌝ ∗ SI s') := by
  unfold ends
  iintro ⟨⟨HzB, Hx, Hcol⟩, -, HSI⟩
  ihave Hcol := (cols_join c (fun r => part m r 7 c)) $$ Hcol
  icases Hcol with ⟨%f, %hf, Ho⟩
  ihave %h0 := SI_pointsTo_agree $$ [HSI Hx]
  · isplitl [HSI] <;> iassumption
  ihave %h1 := SI_pointsTo_agree $$ [HSI Ho]
  · isplitl [HSI] <;> iassumption
  imod (Pipeline.unscopedSems0_read (X := semVal (barCell c) 0) (c := c) (by rw [unscopedSems0_eq]; exact fupd_intro) s') $$ [HzB HSI] with ⟨%hs, HSI⟩
  · isplitl [HzB] <;> iassumption
  imodintro
  isplitr
  · ipureintro
    refine ⟨hs, funext fun i => h0 i (Finset.mem_univ i), fun i => ?_⟩
    rw [← hf i]
    exact congrArg _ (funext fun j => h1 j (Finset.mem_univ j))
  · iexact HSI

set_option maxRecDepth 8000 in
/-- From any memory with zero counters every execution ends, and every final state has the contents above and zero counters. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun d => owe d pays) (howed₀ := fun _ => rfl) (howedN := fun _ => rfl)
    (L := L) (lv := lv) (hL := L_of_ne) (hwaits := waits m)
    (G := G m) (G' := G' m) (u₀ := u₀)
    (hu₀ := by
      iintro Hu
      ihave H := ownU_split $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := ends m) (Z := fun _ => iprop(emp))
    (hX := start_intro m ρ) (hin := phi0_intro m) (hout := phi1_exit m)
    (QY := QY m) (hY := read_end m)
    (hQ := fun s h hs => ⟨fun c => ⟨(h c).2.2.2.1, ((h c).1 0).trans ((dats (F := F) m 0 c).arrAt_in (0 : Fin 1) rfl _), (h c).2.2.2.2⟩,
      sem_eq_zero hs fun c => (h c).2.2.1⟩)

end Cert.CreditedIdeal.Rings
-- ==== Proof.Rings.Value.lean ====
/-
# The values

The partial sums of the rings, as sums over the devices' blocks of the contraction: after the last hop, the whole of it.
-/
module

public import proofs.«01_k».proof.Proof.Rings.Launch
public import Idealize.ShloMosaic.Lib.StackMember
public import Idealize.ShloMosaic.Lib.Layout
public import Idealize.ShloMosaic.Lib.IdealHost

@[expose] public section

set_option maxRecDepth 16384

noncomputable section

namespace Cert.CreditedIdeal.Rings

open Cert.CreditedIdeal Cert.CreditedIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

open Idealize.ShloMosaic.ValueIdx

/-! ## The operands read at an index -/

variable (m : (ℓ : Loc nD τ sig) → Buf (Elt F) ℓ)

theorem block_lt (d : Dev nD) (i : Fin 1024) : 1024 * d.val + i.val < 8192 := by
  have h1 : d.val < 8 := d.isLt
  have h2 := i.isLt
  omega

theorem col_lt (r : Fin 4) (j : Fin 1024) : 1024 * r.val + j.val < 4096 := by
  have h1 := r.isLt
  have h2 := j.isLt
  omega

/-- Row `i` of block `d`. -/
abbrev at8 (d : Dev nD) (i : Fin 1024) : Fin 8192 := ⟨1024 * d.val + i.val, block_lt d i⟩
/-- Column `j` of ring `r`. -/
abbrev at4 (r : Fin 4) (j : Fin 1024) : Fin 4096 := ⟨1024 * r.val + j.val, col_lt r j⟩

theorem chunk_apply (c d : Dev nD) (i k : Fin 1024) : chunk m c d (ix2 i k) = xAt m c (ix2 (at8 d i) k) := by
  refine congrArg (xAt m c) (funext fun a => Fin.ext ?_)
  fin_cases a
  · exact congrArg (1024 * d.val + ·) (Nat.one_mul i.val)
  · exact (Nat.zero_add _).trans (Nat.one_mul k.val)

theorem wAt_apply (c : Dev nD) (k : Fin 1024) (n : Fin 4096) : wAt m c (ix2 k n) = m ((c : Thread nD τ).loc main_arg1) (ix2 k n) := by
  refine congrArg (m ((c : Thread nD τ).loc main_arg1)) (funext fun a => Fin.ext ?_)
  fin_cases a
  · exact (Nat.zero_add _).trans (Nat.one_mul k.val)
  · exact (Nat.zero_add _).trans (Nat.one_mul n.val)

theorem wcol_apply (c : Dev nD) (r : Fin 4) (k j : Fin 1024) :
    wcol m c r (ix2 k j) = m ((c : Thread nD τ).loc main_arg1) (ix2 k (at4 r j)) := by
  refine Eq.trans (congrArg (wAt m c) (funext fun a => Fin.ext ?_)) (wAt_apply m c k (at4 r j))
  fin_cases a
  · exact (Nat.zero_add _).trans (Nat.one_mul k.val)
  · exact congrArg (1024 * r.val + ·) (Nat.one_mul j.val)

theorem outM_read (r : Fin 4) (f : (main_v1 : Ref sig .tc).ty.Contents (Elt F)) (i j : Fin 1024) :
    (outM r).view.read (Elt F) f (ix2 i j) = f (ix2 i (at4 r j)) := by
  refine congrArg f (funext fun a => Fin.ext ?_)
  fin_cases a
  · exact (Nat.zero_add _).trans (Nat.one_mul i.val)
  · exact congrArg (1024 * r.val + ·) (Nat.one_mul j.val)

/-! ## The partial sums -/

section Ideal

variable (m : (ℓ : Loc nD τ sig) → Buf (Elt Ideal) ℓ)
  (X : (⟨2, ![8192, 8192]⟩ : Shape).Idx → EReal) (W : (⟨2, ![8192, 4096]⟩ : Shape).Idx → EReal)

/-- The entry at row `i` of row block `d` and column `n` of the product over `K` block `b` alone. -/
def term (d : Dev nD) (i : Fin 1024) (n : Fin 4096) (b : Dev nD) : EReal := ∑ k : Fin 1024, X (ix2 (at8 d i) (at8 b k)) * W (ix2 (at8 b k) n)

/-- The devices' operands are the blocks of `X` and `W`. -/
def Cut : Prop := ∀ c : Dev nD,
  (∀ (i : Fin 8192) (k : Fin 1024), (m ((c : Thread nD τ).loc main_arg0) : S8192x1024.Idx → EReal) (ix2 i k) = X (ix2 i (at8 c k)))
    ∧ ∀ (k : Fin 1024) (n : Fin 4096), (m ((c : Thread nD τ).loc main_arg1) : S1024x4096.Idx → EReal) (ix2 k n) = W (ix2 (at8 c k) n)

variable {m X W} (h : Cut m X W)
include h

theorem dot_apply (c d : Dev nD) (r : Fin 4) (i j : Fin 1024) :
    (dot (chunk m c d) (wcol m c r) : S1024x1024.Idx → EReal) (ix2 i j) = term X W d i (at4 r j) c := by
  unfold dot term
  rw [matmul_zero_eq_dotGeneral]
  refine (StackMember.dotGeneral_plain_apply none (chunk m c d) (wcol m c r) i j).trans (Finset.sum_congr rfl fun k _ => ?_)
  rw [chunk_apply, wcol_apply]
  exact congrArg₂ (· * ·) ((h c).1 _ _) ((h c).2 _ _)

/-- The partial sum of ring `r` at hop `s`: the row block that is on its way to the device `s + 1` places on, over the `K` blocks of the
    devices it has passed. -/
theorem part_apply (r : Fin 4) (s : ℕ) : ∀ (c : Dev nD) (i j : Fin 1024),
    (part m r s c : S1024x1024.Idx → EReal) (ix2 i j) = ∑ t ∈ Finset.range (s + 1), term X W ((up r)^[s + 1] c) i (at4 r j) ((up r)^[t] c) := by
  induction s with
  | zero =>
    intro c i j
    rw [Finset.sum_range_one]
    exact dot_apply h c (up r c) r i j
  | succ s ih =>
    intro c i j
    rw [Finset.sum_range_succ']
    exact congrArg₂ (· + ·) (ih (up r c) i j) (dot_apply h c _ r i j)

end Ideal

/-- A sum over the whole contraction, block by block. -/
theorem sum_at8 (f : Fin 8192 → EReal) : ∑ K, f K = ∑ b : Dev nD, ∑ k : Fin 1024, f (at8 b k) := by
  rw [← Equiv.sum_comp (finProdFinEquiv : Fin 8 × Fin 1024 ≃ Fin (8 * 1024)) f, Fintype.sum_prod_type]
  exact Finset.sum_congr rfl fun b _ => Finset.sum_congr rfl fun k _ => congrArg f (Fin.ext (Nat.add_comm _ _))

/-- Eight places up a ring of eight devices lie all of them, the device itself first and last. -/
theorem up_eight (r : Fin 4) (c : Dev nD) : (up r)^[8] c = c := by
  revert r c; decide

theorem up_all (r : Fin 4) (c : Dev nD) : Function.Bijective fun t : Fin 8 => (up r)^[t.val] c := by
  revert r c; decide

section Ideal

variable {m : (ℓ : Loc nD τ sig) → Buf (Elt Ideal) ℓ}
  {X : (⟨2, ![8192, 8192]⟩ : Shape).Idx → EReal} {W : (⟨2, ![8192, 4096]⟩ : Shape).Idx → EReal} (h : Cut m X W)
include h

/-- After the last hop: the device's own row block, over the whole contraction. -/
theorem part_last (r : Fin 4) (c : Dev nD) (i j : Fin 1024) :
    (part m r 7 c : S1024x1024.Idx → EReal) (ix2 i j) = ∑ K : Fin 8192, X (ix2 (at8 c i) K) * W (ix2 K (at4 r j)) := by
  refine (part_apply h r 7 c i j).trans ?_
  rw [Finset.sum_range fun t => term X W ((up r)^[7 + 1] c) i (at4 r j) ((up r)^[t] c), up_eight, sum_at8]
  exact (up_all r c).sum_comp (term X W c i (at4 r j))

end Ideal

end Cert.CreditedIdeal.Rings
-- ==== Proof.Rings.Algebraic.lean ====
/-
# The value claim of the whole reduce-scatter

On every device the result is its row block of the product of the two arrays.
-/
module

public import proofs.«01_k».proof.Defs
public import proofs.«01_k».proof.Proof.Gen.Credited
public import proofs.«01_k».proof.Proof.Gen.ProductIdeal.Run
public import proofs.«01_k».proof.Proof.Rings.Value
public import proofs.«01_k».proof.Proof.Hop.Algebraic

@[expose] public section

set_option maxRecDepth 16384

noncomputable section

namespace Cert.Proof.Whole

open Idealize.ShloMosaic Idealize.ShloMosaic.TcCoe Idealize.ShloMosaic.ValueIdx Idealize.SL.Sem
open Cert.CreditedIdeal.Rings (Cut at8 at4)

/-- Over any float values the kernel with its acknowledgements ends, its operands unchanged and every counter zero. -/
theorem frame_any {F : FTy → Type} [FloatOps F] (m : (ℓ : Loc Cert.CreditedIdeal.nD Cert.CreditedIdeal.τ Cert.CreditedIdeal.sig) → Buf (Elt F) ℓ)
    (ρ : Dev Cert.CreditedIdeal.nD → PrngReg) :
    θ_run (Cert.CreditedIdeal.defs (F := F)) (onTc (τ := Cert.CreditedIdeal.τ) (Cert.CreditedIdeal.main (F := F))) ⟨m, fun _ => 0, ρ⟩ (fun r =>
      (∀ c : Dev Cert.CreditedIdeal.nD,
        r.2.mem ((c.tc : Thread Cert.CreditedIdeal.nD Cert.CreditedIdeal.τ).loc Cert.CreditedIdeal.main_arg0) = m ((c.tc : Thread Cert.CreditedIdeal.nD Cert.CreditedIdeal.τ).loc Cert.CreditedIdeal.main_arg0)
        ∧ r.2.mem ((c.tc : Thread Cert.CreditedIdeal.nD Cert.CreditedIdeal.τ).loc Cert.CreditedIdeal.main_arg1) = m ((c.tc : Thread Cert.CreditedIdeal.nD Cert.CreditedIdeal.τ).loc Cert.CreditedIdeal.main_arg1))
      ∧ r.2.sem = fun _ => 0) :=
  (θ_run Cert.CreditedIdeal.defs _ _).mono (fun _ h => ⟨fun c => ⟨(h.1 c).1, (h.1 c).2.1⟩, h.2⟩) (Cert.CreditedIdeal.Rings.run_main m ρ)

/-- Both printed programs call the same body. -/
theorem table_eq : (Cert.Credited.defs₀ (F := Bits)) = (Cert.CreditedIdeal.defs₀ (F := Bits)) := by
  unfold Cert.Credited.defs₀ Cert.CreditedIdeal.defs₀
  refine congrArg Defs.onTc ?_
  funext l a
  match l, a with
  | 0, (t, s) => exact rfl

theorem defs_eq : (Cert.Credited.defs (F := Bits)) = (Cert.CreditedIdeal.defs (F := Bits)) := by
  unfold Cert.Credited.defs Cert.CreditedIdeal.defs
  rw [table_eq]
  rfl

/-- The printed program's text is the idealized one's, read over machine floats. -/
theorem frame_kernel : Cert.quiescent_Credited := fun m ρ _ => by
  rw [defs_eq]
  exact frame_any (F := Bits) m ρ

theorem frame_ideal : Cert.quiescent_CreditedIdeal := fun m ρ _ => frame_any (F := Ideal) m ρ

theorem frame_reference : Cert.quiescent_ProductIdeal := fun m ρ _ =>
  (θ_run Cert.ProductIdeal.defs _ _).mono (fun r h => ⟨fun c => (h c).2, sem_eq_zero_of_no_sems (by decide) r.2⟩)
    (Cert.ProductIdeal.Value.run (F := Ideal) m ρ)

/-- The plain product. -/
abbrev product (X : (⟨2, ![8192, 8192]⟩ : Shape).Idx → EReal) (W : (⟨2, ![8192, 4096]⟩ : Shape).Idx → EReal) : (⟨2, ![8192, 4096]⟩ : Shape).Idx → EReal :=
  Host.dotGeneral (F := Ideal) (φ₁ := .f32) (φ₂ := .f32) Cert.ProductIdeal.dot_S8192x8192_S8192x4096_S8192x4096_1_0_0_1_n_n none X W

theorem algebraic : Cert.algebraic_CreditedIdeal_ProductIdeal := by
  intro m ρ m' ρ' _ hag
  let X : (⟨2, ![8192, 8192]⟩ : Shape).Idx → EReal := m' (((0 : Dev Cert.ProductIdeal.nD).tc : Thread Cert.ProductIdeal.nD Cert.ProductIdeal.τ).loc Cert.ProductIdeal.main_arg0)
  let W : (⟨2, ![8192, 4096]⟩ : Shape).Idx → EReal := m' (((0 : Dev Cert.ProductIdeal.nD).tc : Thread Cert.ProductIdeal.nD Cert.ProductIdeal.τ).loc Cert.ProductIdeal.main_arg1)
  have hcut : Cut m X W := fun c =>
    ⟨fun i k => (congrFun (hag c).1 (ix2 i k)).trans (block_cols 8192 X c i k (at8 c k) rfl _),
      fun k n => (congrFun (hag c).2 (ix2 k n)).trans (block_rows rfl 4096 W c k n (at8 c k) rfl _)⟩
  refine ⟨product X W, (θ_run Cert.CreditedIdeal.defs _ _).mono (fun r h c => ⟨?_, (h.1 c).1, (h.1 c).2.1⟩) (Cert.CreditedIdeal.Rings.run_main (F := Ideal) m ρ),
    (θ_run Cert.ProductIdeal.defs _ _).mono (fun _ h => h 0) (Cert.ProductIdeal.Value.run (F := Ideal) m' ρ')⟩
  funext p
  obtain ⟨i, q, j, rfl⟩ := index_cases p
  refine Eq.trans ?_ (block_rows rfl 4096 (product X W) c i (at4 q j) (at8 c i) rfl _).symm
  refine ((Cert.CreditedIdeal.Rings.outM_read q _ i j).symm.trans (congrFun ((h.1 c).2.2 q) (ix2 i j))).trans ((Cert.CreditedIdeal.Rings.part_last hcut q c i j).trans ?_)
  exact (StackMember.dotGeneral_plain_apply none X W (at8 c i) (at4 q j)).symm

end Cert.Proof.Whole

end
-- ==== Proof.lean ====
/-
The proof of `Cert.Claim`: for the first ring step of the kernel, and for all its steps with an
acknowledgement before each slot's reuse, the three frames, that the idealization keeps the program,
and the value. The work is in Proof/Hop/ and Proof/Rings/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Credited
public import proofs.«01_k».proof.Proof.Gen.Credited.Skeleton
public import proofs.«01_k».proof.Proof.Gen.Credited.Launch
public import proofs.«01_k».proof.Proof.Gen.Credited.Points
public import proofs.«01_k».proof.Proof.Gen.Credited.Frame
public import proofs.«01_k».proof.Proof.Gen.CreditedIdeal
public import proofs.«01_k».proof.Proof.Gen.CreditedIdeal.Skeleton
public import proofs.«01_k».proof.Proof.Gen.CreditedIdeal.Launch
public import proofs.«01_k».proof.Proof.Gen.CreditedIdeal.Points
public import proofs.«01_k».proof.Proof.Gen.CreditedIdeal.Frame
public import proofs.«01_k».proof.Proof.Gen.ProductIdeal
public import proofs.«01_k».proof.Proof.Gen.ProductIdeal.Run
public import proofs.«01_k».proof.Proof.Gen.ReferenceIdeal
public import proofs.«01_k».proof.Proof.Gen.ReferenceIdeal.Run
public import proofs.«01_k».proof.Proof.Hop.Algebraic
public import proofs.«01_k».proof.Proof.Rings.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Credited.Gen.facts, Cert.CreditedIdeal.Gen.facts, Cert.ProductIdeal.Gen.facts,
  Cert.Kernel.Gen.facts, Cert.KernelIdeal.Gen.facts, Cert.ReferenceIdeal.Gen.facts,
  Whole.frame_kernel, Whole.frame_ideal, Whole.frame_reference, frame_kernel, frame_ideal, frame_reference,
  trivial, Whole.algebraic, trivial, algebraic⟩

end Cert.Proof

end
